-- ==== Defs.lean ====
def Pre_Kernel [hPre_targets_in : Cert.Pre_targets_in.Facts] (m : (ℓ : Loc Cert.Kernel.nD Cert.Kernel.τ Cert.Kernel.sig) → Buf (Elt Bits) ℓ) : Prop :=
  ∀ c : Dev Cert.Kernel.nD,
    (Cert.Pre_targets_in.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_targets_in : Cert.Pre_targets_in.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rows_plain [hPre_rows_plain : Cert.Pre_rows_plain.Facts] (m : (ℓ : Loc Cert.KernelIdeal.nD Cert.KernelIdeal.τ Cert.KernelIdeal.sig) → Buf (Elt Ideal) ℓ) : Prop :=
  ∀ c : Dev Cert.KernelIdeal.nD,
    (Cert.Pre_rows_plain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_plain [hPre_rows_plain : Cert.Pre_rows_plain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_plain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_targets_in : Cert.Pre_targets_in.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_targets_in : Cert.Pre_targets_in.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_plain [hKernelIdeal : Cert.KernelIdeal.Facts] [hPre_rows_plain : Cert.Pre_rows_plain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_plain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_plain [hReferenceIdeal : Cert.ReferenceIdeal.Facts] [hPre_rows_plain : Cert.Pre_rows_plain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_plain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_plain [hKernelIdeal : Cert.KernelIdeal.Facts] [hReferenceIdeal : Cert.ReferenceIdeal.Facts] [hPre_rows_plain : Cert.Pre_rows_plain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_plain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in : Cert.Pre_targets_in.Facts) (hPre_rows_plain : Cert.Pre_rows_plain.Facts),
    quiescent_Kernel (hKernel := hKernel) (hPre_targets_in := hPre_targets_in)
    ∧ quiescent_KernelIdeal (hKernelIdeal := hKernelIdeal) (hPre_targets_in := hPre_targets_in)
    ∧ quiescent_KernelIdeal_pre_rows_plain (hKernelIdeal := hKernelIdeal) (hPre_rows_plain := hPre_rows_plain)
    ∧ quiescent_ReferenceIdeal (hReferenceIdeal := hReferenceIdeal)
    ∧ quiescent_ReferenceIdeal_pre_rows_plain (hReferenceIdeal := hReferenceIdeal) (hPre_rows_plain := hPre_rows_plain)
    ∧ preserves_Kernel_KernelIdeal
    ∧ algebraic_KernelIdeal_ReferenceIdeal_pre_rows_plain (hKernelIdeal := hKernelIdeal) (hReferenceIdeal := hReferenceIdeal) (hPre_rows_plain := hPre_rows_plain)
-- ==== Pre_rows_plain.lean ====
abbrev S1000000x64 : Shape := ⟨2, ![1000000, 64]⟩
abbrev S1000000 : Shape := ⟨1, ![1000000]⟩
abbrev S_ : Shape := ⟨0, ![]⟩
abbrev S1000000x1 : Shape := ⟨2, ![1000000, 1]⟩
abbrev S9 : Shape := ⟨1, ![9]⟩
abbrev S1x9 : Shape := ⟨2, ![1, 9]⟩
abbrev S1000000x9 : Shape := ⟨2, ![1000000, 9]⟩

class Facts : Prop where
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  bcast_S_S9 : S_.BroadcastsInDim S9 (![] : Fin 0 → Fin S9.rank)
  bcast_S9_S1x9_1 : S9.BroadcastsInDim S1x9 (![1] : Fin 1 → Fin S1x9.rank)
  bcast_S_S1000000x1 : S_.BroadcastsInDim S1000000x1 (![] : Fin 0 → Fin S1000000x1.rank)
  bcast_S1x9_S1000000x9_0_1 : S1x9.BroadcastsInDim S1000000x9 (![0, 1] : Fin 2 → Fin S1000000x9.rank)
  bcast_S1000000x1_S1000000x9_0_1 : S1000000x1.BroadcastsInDim S1000000x9 (![0, 1] : Fin 2 → Fin S1000000x9.rank)
  reducesTo_S1000000x9_S1000000_d1 : S1000000x9.ReducesTo [1] S1000000
  bcast_S1000000x1_S1000000x64_0_1 : S1000000x1.BroadcastsInDim S1000000x64 (![0, 1] : Fin 2 → Fin S1000000x64.rank)
  bcast_S_S1000000 : S_.BroadcastsInDim S1000000 (![] : Fin 0 → Fin S1000000.rank)

variable [Facts]

def fn_part1 {F : FTy → Type} [FloatOps F] (main_arg1 : IVec S1000000 32) (main_v0 : FVec F S1000000x64 .f32) (main_v2 : FVec F S1000000x1 .f32) (main_v16 : IVec S1000000 1) (main_v17 : IVec S1000000x64 32) (main_v18 : IVec S1000000x1 32) : IVec S1000000 1 :=
  let main_v19 : IVec S1000000x64 32 := broadcastInDim S1000000x64 ![0, 1] bcast_S1000000x1_S1000000x64_0_1 main_v18
  let main_v20 : IVec S1000000x64 1 := cmpi .ne main_v17 main_v19
  let main_v21 : FVec F S1000000x64 .f32 := broadcastInDim S1000000x64 ![0, 1] bcast_S1000000x1_S1000000x64_0_1 main_v2
  let main_v22 : IVec S1000000x64 1 := cmpf .olt main_v0 main_v21
  let main_v23 : IVec S1000000x64 1 := ori main_v20 main_v22
  let main_c_3 : IVec S_ 1 := constantI S_ 1 1#1
  let main_v24 : IVec S1000000 1 := (fun x v => Host.reduce IntOp.andi x v reducesTo_S1000000x64_S1000000_d1 h_S_) main_v23 main_c_3
  let main_v25 : IVec S1000000x64 32 := broadcastInDim S1000000x64 ![0, 1] bcast_S1000000x1_S1000000x64_0_1 main_v18
  let main_v26 : IVec S1000000x64 1 := cmpi .sge main_v17 main_v25
  let main_v27 : FVec F S1000000x64 .f32 := broadcastInDim S1000000x64 ![0, 1] bcast_S1000000x1_S1000000x64_0_1 main_v2
  let main_v28 : IVec S1000000x64 1 := cmpf .olt main_v0 main_v27
  let main_v29 : IVec S1000000x64 1 := ori main_v26 main_v28
  let main_c_4 : IVec S_ 1 := constantI S_ 1 1#1
  let main_v30 : IVec S1000000 1 := (fun x v => Host.reduce IntOp.andi x v reducesTo_S1000000x64_S1000000_d1 h_S_) main_v29 main_c_4
  let main_c_5 : IVec S_ 32 := constantI S_ 32 0#32
  let main_v31 : IVec S1000000 32 := broadcastInDim S1000000 ![] bcast_S_S1000000 main_c_5
  let main_v32 : IVec S1000000 1 := cmpi .sge main_arg1 main_v31
  let main_c_6 : IVec S_ 32 := constantI S_ 32 64#32
  let main_v33 : IVec S1000000 32 := broadcastInDim S1000000 ![] bcast_S_S1000000 main_c_6
  let main_v34 : IVec S1000000 1 := cmpi .slt main_arg1 main_v33
  let main_v35 : IVec S1000000 1 := andi main_v32 main_v34
  let main_v36 : IVec S1000000 1 := andi main_v35 main_v16
  let main_v37 : IVec S1000000 1 := ori main_v24 main_v30
  let main_v38 : IVec S1000000 1 := andi main_v36 main_v37
  main_v38

def fn {F : FTy → Type} [FloatOps F] (main_arg0 : FVec F S1000000x64 .f32) (main_arg1 : IVec S1000000 32) : IVec S1000000 1 :=
  let main_v0 : FVec F S1000000x64 .f32 := Host.exp main_arg0
  let main_cst : FVec F S_ .f32 := constant S_ .f32 0xFF800000#32
  let main_v1 : FVec F S1000000 .f32 := (fun x v => Host.reduce FloatOps.maximumf x v reducesTo_S1000000x64_S1000000_d1 h_S_) main_v0 main_cst
  let main_v2 : FVec F S1000000x1 .f32 := broadcastInDim S1000000x1 ![0] bcast_S1000000_S1000000x1_0 main_v1
  let main_cst_0 : FVec F S_ .f32 := constant S_ .f32 0x00000000#32
  let main_v3 : FVec F S1000000 .f32 := (fun x v => Host.reduceAdd x v reducesTo_S1000000x64_S1000000_d1 h_S_) main_v0 main_cst_0
  let main_v4 : FVec F S1000000x1 .f32 := broadcastInDim S1000000x1 ![0] bcast_S1000000_S1000000x1_0 main_v3
  let main_v5 : FVec F S9 .f32 := sitofp .f32 (iotaInDim S9 32 0)
  let main_cst_1 : FVec F S_ .f32 := constant S_ .f32 0x3F800000#32
  let main_v6 : FVec F S9 .f32 := broadcastInDim S9 ![] bcast_S_S9 main_cst_1
  let main_v7 : FVec F S9 .f32 := addf main_v6 main_v5
  let main_v8 : FVec F S1x9 .f32 := broadcastInDim S1x9 ![1] bcast_S9_S1x9_1 main_v7
  let main_cst_2 : FVec F S_ .f32 := constant S_ .f32 0x41200000#32
  let main_v9 : FVec F S1000000x1 .f32 := broadcastInDim S1000000x1 ![] bcast_S_S1000000x1 main_cst_2
  let main_v10 : FVec F S1000000x1 .f32 := mulf main_v2 main_v9
  let main_v11 : FVec F S1000000x9 .f32 := broadcastInDim S1000000x9 ![0, 1] bcast_S1x9_S1000000x9_0_1 main_v8
  let main_v12 : FVec F S1000000x9 .f32 := broadcastInDim S1000000x9 ![0, 1] bcast_S1000000x1_S1000000x9_0_1 main_v4
  let main_v13 : FVec F S1000000x9 .f32 := mulf main_v11 main_v12
  let main_v14 : FVec F S1000000x9 .f32 := broadcastInDim S1000000x9 ![0, 1] bcast_S1000000x1_S1000000x9_0_1 main_v10
  let main_v15 : IVec S1000000x9 1 := cmpf .une main_v14 main_v13
  let main_c : IVec S_ 1 := constantI S_ 1 1#1
  let main_v16 : IVec S1000000 1 := (fun x v => Host.reduce IntOp.andi x v reducesTo_S1000000x9_S1000000_d1 h_S_) main_v15 main_c
  let main_v17 : IVec S1000000x64 32 := iotaInDim S1000000x64 32 1
  let main_v18 : IVec S1000000x1 32 := broadcastInDim S1000000x1 ![0] bcast_S1000000_S1000000x1_0 main_arg1
  fn_part1 (F := F) main_arg1 main_v0 main_v2 main_v16 main_v17 main_v18
-- ==== Pre_targets_in.lean ====
abbrev S1000000x64 : Shape := ⟨2, ![1000000, 64]⟩
abbrev S1000000 : Shape := ⟨1, ![1000000]⟩
abbrev S_ : Shape := ⟨0, ![]⟩

class Facts : Prop where
  bcast_S_S1000000 : S_.BroadcastsInDim S1000000 (![] : Fin 0 → Fin S1000000.rank)

variable [Facts]

def fn {F : FTy → Type} [FloatOps F] (main_arg0 : FVec F S1000000x64 .f32) (main_arg1 : IVec S1000000 32) : IVec S1000000 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 32 := constantI S_ 32 64#32
  let main_v2 : IVec S1000000 32 := broadcastInDim S1000000 ![] bcast_S_S1000000 main_c_0
  let main_v3 : IVec S1000000 1 := cmpi .slt main_arg1 main_v2
  let main_v4 : IVec S1000000 1 := andi main_v1 main_v3
  main_v4
-- ==== Kernel.lean ====
abbrev S1000000x64 : Shape := ⟨2, ![1000000, 64]⟩
abbrev S1000000 : Shape := ⟨1, ![1000000]⟩
abbrev S64000000 : Shape := ⟨1, ![64000000]⟩
abbrev S32x48 : Shape := ⟨2, ![32, 48]⟩
abbrev S32768 : Shape := ⟨1, ![32768]⟩
abbrev S512 : Shape := ⟨1, ![512]⟩
abbrev S48 : Shape := ⟨1, ![48]⟩
abbrev S_ : Shape := ⟨0, ![]⟩
abbrev S16 : Shape := ⟨1, ![16]⟩
abbrev S4096 : Shape := ⟨1, ![4096]⟩
abbrev S64 : Shape := ⟨1, ![64]⟩
abbrev S1x48 : Shape := ⟨2, ![1, 48]⟩
abbrev S1x1 : Shape := ⟨2, ![1, 1]⟩
abbrev S1x10 : Shape := ⟨2, ![1, 10]⟩
abbrev S1 : Shape := ⟨1, ![1]⟩

abbrev nBuf : Table → Nat
  | .hbm => 6
  | .local .tc .vmem => 2
  | .local .scVector .vmem => 5
  | _ => 0

abbrev bufTy : (tb : Table) → Fin (nBuf tb) → BufTy
  | .hbm, ⟨0, _⟩ => ⟨S1000000x64, .f32⟩
  | .hbm, ⟨1, _⟩ => ⟨S1000000, .i32⟩
  | .hbm, ⟨2, _⟩ => ⟨S64000000, .f32⟩
  | .hbm, ⟨3, _⟩ => ⟨S32x48, .f32⟩
  | .hbm, ⟨4, _⟩ => ⟨S1x1, .f32⟩
  | .hbm, ⟨5, _⟩ => ⟨S1, .f32⟩
  | .local .tc .vmem, ⟨0, _⟩ => ⟨S32x48, .f32⟩
  | .local .tc .vmem, ⟨1, _⟩ => ⟨S1x1, .f32⟩
  | .local .scVector .vmem, ⟨0, _⟩ => ⟨S32768, .f32⟩
  | .local .scVector .vmem, ⟨1, _⟩ => ⟨S32768, .f32⟩
  | .local .scVector .vmem, ⟨2, _⟩ => ⟨S512, .i32⟩
  | .local .scVector .vmem, ⟨3, _⟩ => ⟨S512, .i32⟩
  | .local .scVector .vmem, ⟨4, _⟩ => ⟨S48, .f32⟩
  | _, _ => ⟨S1000000x64, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32 : BitVec 32 := 0#32
  let v10 : BitVec 32 := Scalar.addi v9 c0_i32
  let c64_i32 : BitVec 32 := 64#32
  let v11 : BitVec 32 := Scalar.muli v10 c64_i32
  ![v11.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32 : BitVec 32 := 0#32
  let v10 : BitVec 32 := Scalar.addi v9 c0_i32
  ![v10.toNat]
@[reducible] def k0_t1_loop : Scf.Loop 32 :=
  let c0_i32_2 : BitVec 32 := 0#32
  let c61_i32_3 : BitVec 32 := 61#32
  let v16 : BitVec 32 := Scalar.addi c0_i32_2 c61_i32_3
  let c1_i32 : BitVec 32 := 1#32
  ⟨c0_i32_2, v16, c1_i32⟩
def k0_cond1 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_8 : BitVec 32 := 1#32
  let v23 : BitVec 32 := Scalar.andi arg14 c1_i32_8
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond2 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_14 : BitVec 32 := 1#32
  let v31 : BitVec 32 := Scalar.addi arg14 c1_i32_14
  let c61_i32_15 : BitVec 32 := 61#32
  let v32 : BitVec 1 := Scalar.cmpi .slt v31 c61_i32_15
  let v33 : BitVec 32 := Scalar.extui v32
  let c0_i32_16 : BitVec 32 := 0#32
  let v34 : BitVec 1 := Scalar.cmpi .ne v33 c0_i32_16
  v34

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c1_i32_22 : BitVec 32 := 1#32
  let v43 : BitVec 32 := Scalar.addi arg14 c1_i32_22
  let c512_i32_23 : BitVec 32 := 512#32
  let v44 : BitVec 32 := Scalar.muli v43 c512_i32_23
  let v45 : BitVec 32 := Scalar.addi v9 v44
  let c64_i32_24 : BitVec 32 := 64#32
  let v46 : BitVec 32 := Scalar.muli v45 c64_i32_24
  ![v46.toNat]
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c1_i32_22 : BitVec 32 := 1#32
  let v43 : BitVec 32 := Scalar.addi arg14 c1_i32_22
  let c512_i32_23 : BitVec 32 := 512#32
  let v44 : BitVec 32 := Scalar.muli v43 c512_i32_23
  let v45 : BitVec 32 := Scalar.addi v9 v44
  ![v45.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c512_i32_17 : BitVec 32 := 512#32
  let v35 : BitVec 32 := Scalar.muli arg14 c512_i32_17
  let v36 : BitVec 32 := Scalar.addi v9 v35
  let c64_i32_18 : BitVec 32 := 64#32
  let v37 : BitVec 32 := Scalar.muli v36 c64_i32_18
  ![v37.toNat]
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c512_i32_17 : BitVec 32 := 512#32
  let v35 : BitVec 32 := Scalar.muli arg14 c512_i32_17
  let v36 : BitVec 32 := Scalar.addi v9 v35
  ![v36.toNat]
@[reducible] def k0_t2_loop : Scf.Loop 32 :=
  let c0_i32_19 : BitVec 32 := 0#32
  let c32_i32 : BitVec 32 := 32#32
  let v42 : BitVec 32 := Scalar.addi c0_i32_19 c32_i32
  let c1_i32_20 : BitVec 32 := 1#32
  ⟨c0_i32_19, v42, c1_i32_20⟩

def k0_chk1 (k0_t1 : Fin k0_t1_loop.trips) (v60 : IVec S16 32) : Prop :=
  (∀ (k0_h1 : k0_cond1 k0_t1 = 1#1), ∀ a x, ((![v60] : Fin 1 → IVec S16 32) a x).toNat < S32768.size a)
theorem k0_idx1_inb : ∀ (k0_t1 : Fin k0_t1_loop.trips) (v60 : IVec S16 32) (k0_hw1 : k0_chk1 k0_t1 v60), ∀ (k0_h1 : k0_cond1 k0_t1 = 1#1), ∀ a x, ((![v60] : Fin 1 → IVec S16 32) a x).toNat < S32768.size a := fun k0_t1 v60 k0_hw1 k0_h1 => k0_hw1 k0_h1

def k0_chk2 (k0_t1 : Fin k0_t1_loop.trips) (v67 : IVec S16 32) : Prop :=
  (∀ (k0_h1 : k0_cond1 k0_t1 = 1#1), ∀ a x, ((![v67] : Fin 1 → IVec S16 32) a x).toNat < S32768.size a)
theorem k0_idx2_inb : ∀ (k0_t1 : Fin k0_t1_loop.trips) (v67 : IVec S16 32) (k0_hw2 : k0_chk2 k0_t1 v67), ∀ (k0_h1 : k0_cond1 k0_t1 = 1#1), ∀ a x, ((![v67] : Fin 1 → IVec S16 32) a x).toNat < S32768.size a := fun k0_t1 v67 k0_hw2 k0_h1 => k0_hw2 k0_h1

def k0_chk3 (k0_t1 : Fin k0_t1_loop.trips) (v74 : IVec S16 32) : Prop :=
  (∀ (k0_h1 : k0_cond1 k0_t1 = 1#1), ∀ a x, ((![v74] : Fin 1 → IVec S16 32) a x).toNat < S32768.size a)
theorem k0_idx3_inb : ∀ (k0_t1 : Fin k0_t1_loop.trips) (v74 : IVec S16 32) (k0_hw3 : k0_chk3 k0_t1 v74), ∀ (k0_h1 : k0_cond1 k0_t1 = 1#1), ∀ a x, ((![v74] : Fin 1 → IVec S16 32) a x).toNat < S32768.size a := fun k0_t1 v74 k0_hw3 k0_h1 => k0_hw3 k0_h1

def k0_chk4 (k0_t1 : Fin k0_t1_loop.trips) (v81 : IVec S16 32) : Prop :=
  (∀ (k0_h1 : k0_cond1 k0_t1 = 1#1), ∀ a x, ((![v81] : Fin 1 → IVec S16 32) a x).toNat < S32768.size a)
theorem k0_idx4_inb : ∀ (k0_t1 : Fin k0_t1_loop.trips) (v81 : IVec S16 32) (k0_hw4 : k0_chk4 k0_t1 v81), ∀ (k0_h1 : k0_cond1 k0_t1 = 1#1), ∀ a x, ((![v81] : Fin 1 → IVec S16 32) a x).toNat < S32768.size a := fun k0_t1 v81 k0_hw4 k0_h1 => k0_hw4 k0_h1

def k0_chk5 (k0_t1 : Fin k0_t1_loop.trips) (v88 : IVec S16 32) : Prop :=
  (∀ (k0_h1 : k0_cond1 k0_t1 = 1#1), ∀ a x, ((![v88] : Fin 1 → IVec S16 32) a x).toNat < S32768.size a)
theorem k0_idx5_inb : ∀ (k0_t1 : Fin k0_t1_loop.trips) (v88 : IVec S16 32) (k0_hw5 : k0_chk5 k0_t1 v88), ∀ (k0_h1 : k0_cond1 k0_t1 = 1#1), ∀ a x, ((![v88] : Fin 1 → IVec S16 32) a x).toNat < S32768.size a := fun k0_t1 v88 k0_hw5 k0_h1 => k0_hw5 k0_h1

def k0_chk6 (k0_t1 : Fin k0_t1_loop.trips) (v95 : IVec S16 32) : Prop :=
  (∀ (k0_h1 : k0_cond1 k0_t1 = 1#1), ∀ a x, ((![v95] : Fin 1 → IVec S16 32) a x).toNat < S32768.size a)
theorem k0_idx6_inb : ∀ (k0_t1 : Fin k0_t1_loop.trips) (v95 : IVec S16 32) (k0_hw6 : k0_chk6 k0_t1 v95), ∀ (k0_h1 : k0_cond1 k0_t1 = 1#1), ∀ a x, ((![v95] : Fin 1 → IVec S16 32) a x).toNat < S32768.size a := fun k0_t1 v95 k0_hw6 k0_h1 => k0_hw6 k0_h1

def k0_chk7 (k0_t1 : Fin k0_t1_loop.trips) (v102 : IVec S16 32) : Prop :=
  (∀ (k0_h1 : k0_cond1 k0_t1 = 1#1), ∀ a x, ((![v102] : Fin 1 → IVec S16 32) a x).toNat < S32768.size a)
theorem k0_idx7_inb : ∀ (k0_t1 : Fin k0_t1_loop.trips) (v102 : IVec S16 32) (k0_hw7 : k0_chk7 k0_t1 v102), ∀ (k0_h1 : k0_cond1 k0_t1 = 1#1), ∀ a x, ((![v102] : Fin 1 → IVec S16 32) a x).toNat < S32768.size a := fun k0_t1 v102 k0_hw7 k0_h1 => k0_hw7 k0_h1

def k0_chk8 (k0_t1 : Fin k0_t1_loop.trips) (v109 : IVec S16 32) : Prop :=
  (∀ (k0_h1 : k0_cond1 k0_t1 = 1#1), ∀ a x, ((![v109] : Fin 1 → IVec S16 32) a x).toNat < S32768.size a)
theorem k0_idx8_inb : ∀ (k0_t1 : Fin k0_t1_loop.trips) (v109 : IVec S16 32) (k0_hw8 : k0_chk8 k0_t1 v109), ∀ (k0_h1 : k0_cond1 k0_t1 = 1#1), ∀ a x, ((![v109] : Fin 1 → IVec S16 32) a x).toNat < S32768.size a := fun k0_t1 v109 k0_hw8 k0_h1 => k0_hw8 k0_h1

def k0_chk9 (k0_t1 : Fin k0_t1_loop.trips) (v116 : IVec S16 32) : Prop :=
  (∀ (k0_h1 : k0_cond1 k0_t1 = 1#1), ∀ a x, ((![v116] : Fin 1 → IVec S16 32) a x).toNat < S32768.size a)
theorem k0_idx9_inb : ∀ (k0_t1 : Fin k0_t1_loop.trips) (v116 : IVec S16 32) (k0_hw9 : k0_chk9 k0_t1 v116), ∀ (k0_h1 : k0_cond1 k0_t1 = 1#1), ∀ a x, ((![v116] : Fin 1 → IVec S16 32) a x).toNat < S32768.size a := fun k0_t1 v116 k0_hw9 k0_h1 => k0_hw9 k0_h1

def k0_chk10 (k0_t1 : Fin k0_t1_loop.trips) (v123 : IVec S16 32) : Prop :=
  (∀ (k0_h1 : k0_cond1 k0_t1 = 1#1), ∀ a x, ((![v123] : Fin 1 → IVec S16 32) a x).toNat < S32768.size a)
theorem k0_idx10_inb : ∀ (k0_t1 : Fin k0_t1_loop.trips) (v123 : IVec S16 32) (k0_hw10 : k0_chk10 k0_t1 v123), ∀ (k0_h1 : k0_cond1 k0_t1 = 1#1), ∀ a x, ((![v123] : Fin 1 → IVec S16 32) a x).toNat < S32768.size a := fun k0_t1 v123 k0_hw10 k0_h1 => k0_hw10 k0_h1

def k0_chk11 (k0_t1 : Fin k0_t1_loop.trips) (v130 : IVec S16 32) : Prop :=
  (∀ (k0_h1 : k0_cond1 k0_t1 = 1#1), ∀ a x, ((![v130] : Fin 1 → IVec S16 32) a x).toNat < S32768.size a)
theorem k0_idx11_inb : ∀ (k0_t1 : Fin k0_t1_loop.trips) (v130 : IVec S16 32) (k0_hw11 : k0_chk11 k0_t1 v130), ∀ (k0_h1 : k0_cond1 k0_t1 = 1#1), ∀ a x, ((![v130] : Fin 1 → IVec S16 32) a x).toNat < S32768.size a := fun k0_t1 v130 k0_hw11 k0_h1 => k0_hw11 k0_h1

def k0_chk12 (k0_t1 : Fin k0_t1_loop.trips) (v137 : IVec S16 32) : Prop :=
  (∀ (k0_h1 : k0_cond1 k0_t1 = 1#1), ∀ a x, ((![v137] : Fin 1 → IVec S16 32) a x).toNat < S32768.size a)
theorem k0_idx12_inb : ∀ (k0_t1 : Fin k0_t1_loop.trips) (v137 : IVec S16 32) (k0_hw12 : k0_chk12 k0_t1 v137), ∀ (k0_h1 : k0_cond1 k0_t1 = 1#1), ∀ a x, ((![v137] : Fin 1 → IVec S16 32) a x).toNat < S32768.size a := fun k0_t1 v137 k0_hw12 k0_h1 => k0_hw12 k0_h1

def k0_chk13 (k0_t1 : Fin k0_t1_loop.trips) (v144 : IVec S16 32) : Prop :=
  (∀ (k0_h1 : k0_cond1 k0_t1 = 1#1), ∀ a x, ((![v144] : Fin 1 → IVec S16 32) a x).toNat < S32768.size a)
theorem k0_idx13_inb : ∀ (k0_t1 : Fin k0_t1_loop.trips) (v144 : IVec S16 32) (k0_hw13 : k0_chk13 k0_t1 v144), ∀ (k0_h1 : k0_cond1 k0_t1 = 1#1), ∀ a x, ((![v144] : Fin 1 → IVec S16 32) a x).toNat < S32768.size a := fun k0_t1 v144 k0_hw13 k0_h1 => k0_hw13 k0_h1

def k0_chk14 (k0_t1 : Fin k0_t1_loop.trips) (v151 : IVec S16 32) : Prop :=
  (∀ (k0_h1 : k0_cond1 k0_t1 = 1#1), ∀ a x, ((![v151] : Fin 1 → IVec S16 32) a x).toNat < S32768.size a)
theorem k0_idx14_inb : ∀ (k0_t1 : Fin k0_t1_loop.trips) (v151 : IVec S16 32) (k0_hw14 : k0_chk14 k0_t1 v151), ∀ (k0_h1 : k0_cond1 k0_t1 = 1#1), ∀ a x, ((![v151] : Fin 1 → IVec S16 32) a x).toNat < S32768.size a := fun k0_t1 v151 k0_hw14 k0_h1 => k0_hw14 k0_h1

def k0_chk15 (k0_t1 : Fin k0_t1_loop.trips) (v158 : IVec S16 32) : Prop :=
  (∀ (k0_h1 : k0_cond1 k0_t1 = 1#1), ∀ a x, ((![v158] : Fin 1 → IVec S16 32) a x).toNat < S32768.size a)
theorem k0_idx15_inb : ∀ (k0_t1 : Fin k0_t1_loop.trips) (v158 : IVec S16 32) (k0_hw15 : k0_chk15 k0_t1 v158), ∀ (k0_h1 : k0_cond1 k0_t1 = 1#1), ∀ a x, ((![v158] : Fin 1 → IVec S16 32) a x).toNat < S32768.size a := fun k0_t1 v158 k0_hw15 k0_h1 => k0_hw15 k0_h1

def k0_chk16 (k0_t1 : Fin k0_t1_loop.trips) (v165 : IVec S16 32) : Prop :=
  (∀ (k0_h1 : k0_cond1 k0_t1 = 1#1), ∀ a x, ((![v165] : Fin 1 → IVec S16 32) a x).toNat < S32768.size a)
theorem k0_idx16_inb : ∀ (k0_t1 : Fin k0_t1_loop.trips) (v165 : IVec S16 32) (k0_hw16 : k0_chk16 k0_t1 v165), ∀ (k0_h1 : k0_cond1 k0_t1 = 1#1), ∀ a x, ((![v165] : Fin 1 → IVec S16 32) a x).toNat < S32768.size a := fun k0_t1 v165 k0_hw16 k0_h1 => k0_hw16 k0_h1

def k0_chk17 (k0_t1 : Fin k0_t1_loop.trips) (v172 : IVec S16 32) : Prop :=
  (∀ (k0_h1 : k0_cond1 k0_t1 = 1#1), ∀ a x, ((![v172] : Fin 1 → IVec S16 32) a x).toNat < S32768.size a)
theorem k0_idx17_inb : ∀ (k0_t1 : Fin k0_t1_loop.trips) (v172 : IVec S16 32) (k0_hw17 : k0_chk17 k0_t1 v172), ∀ (k0_h1 : k0_cond1 k0_t1 = 1#1), ∀ a x, ((![v172] : Fin 1 → IVec S16 32) a x).toNat < S32768.size a := fun k0_t1 v172 k0_hw17 k0_h1 => k0_hw17 k0_h1

def k0_chk18 (k0_t1 : Fin k0_t1_loop.trips) (v179 : IVec S16 32) : Prop :=
  (∀ (k0_h1 : k0_cond1 k0_t1 = 1#1), ∀ a x, ((![v179] : Fin 1 → IVec S16 32) a x).toNat < S32768.size a)
theorem k0_idx18_inb : ∀ (k0_t1 : Fin k0_t1_loop.trips) (v179 : IVec S16 32) (k0_hw18 : k0_chk18 k0_t1 v179), ∀ (k0_h1 : k0_cond1 k0_t1 = 1#1), ∀ a x, ((![v179] : Fin 1 → IVec S16 32) a x).toNat < S32768.size a := fun k0_t1 v179 k0_hw18 k0_h1 => k0_hw18 k0_h1

def k0_chk19 (k0_t1 : Fin k0_t1_loop.trips) (v186 : IVec S16 32) : Prop :=
  (∀ (k0_h1 : k0_cond1 k0_t1 = 1#1), ∀ a x, ((![v186] : Fin 1 → IVec S16 32) a x).toNat < S32768.size a)
theorem k0_idx19_inb : ∀ (k0_t1 : Fin k0_t1_loop.trips) (v186 : IVec S16 32) (k0_hw19 : k0_chk19 k0_t1 v186), ∀ (k0_h1 : k0_cond1 k0_t1 = 1#1), ∀ a x, ((![v186] : Fin 1 → IVec S16 32) a x).toNat < S32768.size a := fun k0_t1 v186 k0_hw19 k0_h1 => k0_hw19 k0_h1

def k0_chk20 (k0_t1 : Fin k0_t1_loop.trips) (v193 : IVec S16 32) : Prop :=
  (∀ (k0_h1 : k0_cond1 k0_t1 = 1#1), ∀ a x, ((![v193] : Fin 1 → IVec S16 32) a x).toNat < S32768.size a)
theorem k0_idx20_inb : ∀ (k0_t1 : Fin k0_t1_loop.trips) (v193 : IVec S16 32) (k0_hw20 : k0_chk20 k0_t1 v193), ∀ (k0_h1 : k0_cond1 k0_t1 = 1#1), ∀ a x, ((![v193] : Fin 1 → IVec S16 32) a x).toNat < S32768.size a := fun k0_t1 v193 k0_hw20 k0_h1 => k0_hw20 k0_h1

def k0_chk21 (k0_t1 : Fin k0_t1_loop.trips) (v200 : IVec S16 32) : Prop :=
  (∀ (k0_h1 : k0_cond1 k0_t1 = 1#1), ∀ a x, ((![v200] : Fin 1 → IVec S16 32) a x).toNat < S32768.size a)
theorem k0_idx21_inb : ∀ (k0_t1 : Fin k0_t1_loop.trips) (v200 : IVec S16 32) (k0_hw21 : k0_chk21 k0_t1 v200), ∀ (k0_h1 : k0_cond1 k0_t1 = 1#1), ∀ a x, ((![v200] : Fin 1 → IVec S16 32) a x).toNat < S32768.size a := fun k0_t1 v200 k0_hw21 k0_h1 => k0_hw21 k0_h1

def k0_chk22 (k0_t1 : Fin k0_t1_loop.trips) (v207 : IVec S16 32) : Prop :=
  (∀ (k0_h1 : k0_cond1 k0_t1 = 1#1), ∀ a x, ((![v207] : Fin 1 → IVec S16 32) a x).toNat < S32768.size a)
theorem k0_idx22_inb : ∀ (k0_t1 : Fin k0_t1_loop.trips) (v207 : IVec S16 32) (k0_hw22 : k0_chk22 k0_t1 v207), ∀ (k0_h1 : k0_cond1 k0_t1 = 1#1), ∀ a x, ((![v207] : Fin 1 → IVec S16 32) a x).toNat < S32768.size a := fun k0_t1 v207 k0_hw22 k0_h1 => k0_hw22 k0_h1

def k0_chk23 (k0_t1 : Fin k0_t1_loop.trips) (v214 : IVec S16 32) : Prop :=
  (∀ (k0_h1 : k0_cond1 k0_t1 = 1#1), ∀ a x, ((![v214] : Fin 1 → IVec S16 32) a x).toNat < S32768.size a)
theorem k0_idx23_inb : ∀ (k0_t1 : Fin k0_t1_loop.trips) (v214 : IVec S16 32) (k0_hw23 : k0_chk23 k0_t1 v214), ∀ (k0_h1 : k0_cond1 k0_t1 = 1#1), ∀ a x, ((![v214] : Fin 1 → IVec S16 32) a x).toNat < S32768.size a := fun k0_t1 v214 k0_hw23 k0_h1 => k0_hw23 k0_h1

def k0_chk24 (k0_t1 : Fin k0_t1_loop.trips) (v221 : IVec S16 32) : Prop :=
  (∀ (k0_h1 : k0_cond1 k0_t1 = 1#1), ∀ a x, ((![v221] : Fin 1 → IVec S16 32) a x).toNat < S32768.size a)
theorem k0_idx24_inb : ∀ (k0_t1 : Fin k0_t1_loop.trips) (v221 : IVec S16 32) (k0_hw24 : k0_chk24 k0_t1 v221), ∀ (k0_h1 : k0_cond1 k0_t1 = 1#1), ∀ a x, ((![v221] : Fin 1 → IVec S16 32) a x).toNat < S32768.size a := fun k0_t1 v221 k0_hw24 k0_h1 => k0_hw24 k0_h1

def k0_chk25 (k0_t1 : Fin k0_t1_loop.trips) (v228 : IVec S16 32) : Prop :=
  (∀ (k0_h1 : k0_cond1 k0_t1 = 1#1), ∀ a x, ((![v228] : Fin 1 → IVec S16 32) a x).toNat < S32768.size a)
theorem k0_idx25_inb : ∀ (k0_t1 : Fin k0_t1_loop.trips) (v228 : IVec S16 32) (k0_hw25 : k0_chk25 k0_t1 v228), ∀ (k0_h1 : k0_cond1 k0_t1 = 1#1), ∀ a x, ((![v228] : Fin 1 → IVec S16 32) a x).toNat < S32768.size a := fun k0_t1 v228 k0_hw25 k0_h1 => k0_hw25 k0_h1

def k0_chk26 (k0_t1 : Fin k0_t1_loop.trips) (v235 : IVec S16 32) : Prop :=
  (∀ (k0_h1 : k0_cond1 k0_t1 = 1#1), ∀ a x, ((![v235] : Fin 1 → IVec S16 32) a x).toNat < S32768.size a)
theorem k0_idx26_inb : ∀ (k0_t1 : Fin k0_t1_loop.trips) (v235 : IVec S16 32) (k0_hw26 : k0_chk26 k0_t1 v235), ∀ (k0_h1 : k0_cond1 k0_t1 = 1#1), ∀ a x, ((![v235] : Fin 1 → IVec S16 32) a x).toNat < S32768.size a := fun k0_t1 v235 k0_hw26 k0_h1 => k0_hw26 k0_h1

def k0_chk27 (k0_t1 : Fin k0_t1_loop.trips) (v242 : IVec S16 32) : Prop :=
  (∀ (k0_h1 : k0_cond1 k0_t1 = 1#1), ∀ a x, ((![v242] : Fin 1 → IVec S16 32) a x).toNat < S32768.size a)
theorem k0_idx27_inb : ∀ (k0_t1 : Fin k0_t1_loop.trips) (v242 : IVec S16 32) (k0_hw27 : k0_chk27 k0_t1 v242), ∀ (k0_h1 : k0_cond1 k0_t1 = 1#1), ∀ a x, ((![v242] : Fin 1 → IVec S16 32) a x).toNat < S32768.size a := fun k0_t1 v242 k0_hw27 k0_h1 => k0_hw27 k0_h1

def k0_chk28 (k0_t1 : Fin k0_t1_loop.trips) (v249 : IVec S16 32) : Prop :=
  (∀ (k0_h1 : k0_cond1 k0_t1 = 1#1), ∀ a x, ((![v249] : Fin 1 → IVec S16 32) a x).toNat < S32768.size a)
theorem k0_idx28_inb : ∀ (k0_t1 : Fin k0_t1_loop.trips) (v249 : IVec S16 32) (k0_hw28 : k0_chk28 k0_t1 v249), ∀ (k0_h1 : k0_cond1 k0_t1 = 1#1), ∀ a x, ((![v249] : Fin 1 → IVec S16 32) a x).toNat < S32768.size a := fun k0_t1 v249 k0_hw28 k0_h1 => k0_hw28 k0_h1

def k0_chk29 (k0_t1 : Fin k0_t1_loop.trips) (v256 : IVec S16 32) : Prop :=
  (∀ (k0_h1 : k0_cond1 k0_t1 = 1#1), ∀ a x, ((![v256] : Fin 1 → IVec S16 32) a x).toNat < S32768.size a)
theorem k0_idx29_inb : ∀ (k0_t1 : Fin k0_t1_loop.trips) (v256 : IVec S16 32) (k0_hw29 : k0_chk29 k0_t1 v256), ∀ (k0_h1 : k0_cond1 k0_t1 = 1#1), ∀ a x, ((![v256] : Fin 1 → IVec S16 32) a x).toNat < S32768.size a := fun k0_t1 v256 k0_hw29 k0_h1 => k0_hw29 k0_h1

def k0_chk30 (k0_t1 : Fin k0_t1_loop.trips) (v263 : IVec S16 32) : Prop :=
  (∀ (k0_h1 : k0_cond1 k0_t1 = 1#1), ∀ a x, ((![v263] : Fin 1 → IVec S16 32) a x).toNat < S32768.size a)
theorem k0_idx30_inb : ∀ (k0_t1 : Fin k0_t1_loop.trips) (v263 : IVec S16 32) (k0_hw30 : k0_chk30 k0_t1 v263), ∀ (k0_h1 : k0_cond1 k0_t1 = 1#1), ∀ a x, ((![v263] : Fin 1 → IVec S16 32) a x).toNat < S32768.size a := fun k0_t1 v263 k0_hw30 k0_h1 => k0_hw30 k0_h1

def k0_chk31 (k0_t1 : Fin k0_t1_loop.trips) (v270 : IVec S16 32) : Prop :=
  (∀ (k0_h1 : k0_cond1 k0_t1 = 1#1), ∀ a x, ((![v270] : Fin 1 → IVec S16 32) a x).toNat < S32768.size a)
theorem k0_idx31_inb : ∀ (k0_t1 : Fin k0_t1_loop.trips) (v270 : IVec S16 32) (k0_hw31 : k0_chk31 k0_t1 v270), ∀ (k0_h1 : k0_cond1 k0_t1 = 1#1), ∀ a x, ((![v270] : Fin 1 → IVec S16 32) a x).toNat < S32768.size a := fun k0_t1 v270 k0_hw31 k0_h1 => k0_hw31 k0_h1

def k0_chk32 (k0_t1 : Fin k0_t1_loop.trips) (v277 : IVec S16 32) : Prop :=
  (∀ (k0_h1 : k0_cond1 k0_t1 = 1#1), ∀ a x, ((![v277] : Fin 1 → IVec S16 32) a x).toNat < S32768.size a)
theorem k0_idx32_inb : ∀ (k0_t1 : Fin k0_t1_loop.trips) (v277 : IVec S16 32) (k0_hw32 : k0_chk32 k0_t1 v277), ∀ (k0_h1 : k0_cond1 k0_t1 = 1#1), ∀ a x, ((![v277] : Fin 1 → IVec S16 32) a x).toNat < S32768.size a := fun k0_t1 v277 k0_hw32 k0_h1 => k0_hw32 k0_h1

def k0_chk33 (k0_t1 : Fin k0_t1_loop.trips) (v284 : IVec S16 32) : Prop :=
  (∀ (k0_h1 : k0_cond1 k0_t1 = 1#1), ∀ a x, ((![v284] : Fin 1 → IVec S16 32) a x).toNat < S32768.size a)
theorem k0_idx33_inb : ∀ (k0_t1 : Fin k0_t1_loop.trips) (v284 : IVec S16 32) (k0_hw33 : k0_chk33 k0_t1 v284), ∀ (k0_h1 : k0_cond1 k0_t1 = 1#1), ∀ a x, ((![v284] : Fin 1 → IVec S16 32) a x).toNat < S32768.size a := fun k0_t1 v284 k0_hw33 k0_h1 => k0_hw33 k0_h1

def k0_chk34 (k0_t1 : Fin k0_t1_loop.trips) (v291 : IVec S16 32) : Prop :=
  (∀ (k0_h1 : k0_cond1 k0_t1 = 1#1), ∀ a x, ((![v291] : Fin 1 → IVec S16 32) a x).toNat < S32768.size a)
theorem k0_idx34_inb : ∀ (k0_t1 : Fin k0_t1_loop.trips) (v291 : IVec S16 32) (k0_hw34 : k0_chk34 k0_t1 v291), ∀ (k0_h1 : k0_cond1 k0_t1 = 1#1), ∀ a x, ((![v291] : Fin 1 → IVec S16 32) a x).toNat < S32768.size a := fun k0_t1 v291 k0_hw34 k0_h1 => k0_hw34 k0_h1

def k0_chk35 (k0_t1 : Fin k0_t1_loop.trips) (v298 : IVec S16 32) : Prop :=
  (∀ (k0_h1 : k0_cond1 k0_t1 = 1#1), ∀ a x, ((![v298] : Fin 1 → IVec S16 32) a x).toNat < S32768.size a)
theorem k0_idx35_inb : ∀ (k0_t1 : Fin k0_t1_loop.trips) (v298 : IVec S16 32) (k0_hw35 : k0_chk35 k0_t1 v298), ∀ (k0_h1 : k0_cond1 k0_t1 = 1#1), ∀ a x, ((![v298] : Fin 1 → IVec S16 32) a x).toNat < S32768.size a := fun k0_t1 v298 k0_hw35 k0_h1 => k0_hw35 k0_h1

def k0_chk36 (k0_t1 : Fin k0_t1_loop.trips) (v305 : IVec S16 32) : Prop :=
  (∀ (k0_h1 : k0_cond1 k0_t1 = 1#1), ∀ a x, ((![v305] : Fin 1 → IVec S16 32) a x).toNat < S32768.size a)
theorem k0_idx36_inb : ∀ (k0_t1 : Fin k0_t1_loop.trips) (v305 : IVec S16 32) (k0_hw36 : k0_chk36 k0_t1 v305), ∀ (k0_h1 : k0_cond1 k0_t1 = 1#1), ∀ a x, ((![v305] : Fin 1 → IVec S16 32) a x).toNat < S32768.size a := fun k0_t1 v305 k0_hw36 k0_h1 => k0_hw36 k0_h1

def k0_chk37 (k0_t1 : Fin k0_t1_loop.trips) (v312 : IVec S16 32) : Prop :=
  (∀ (k0_h1 : k0_cond1 k0_t1 = 1#1), ∀ a x, ((![v312] : Fin 1 → IVec S16 32) a x).toNat < S32768.size a)
theorem k0_idx37_inb : ∀ (k0_t1 : Fin k0_t1_loop.trips) (v312 : IVec S16 32) (k0_hw37 : k0_chk37 k0_t1 v312), ∀ (k0_h1 : k0_cond1 k0_t1 = 1#1), ∀ a x, ((![v312] : Fin 1 → IVec S16 32) a x).toNat < S32768.size a := fun k0_t1 v312 k0_hw37 k0_h1 => k0_hw37 k0_h1

def k0_chk38 (k0_t1 : Fin k0_t1_loop.trips) (v319 : IVec S16 32) : Prop :=
  (∀ (k0_h1 : k0_cond1 k0_t1 = 1#1), ∀ a x, ((![v319] : Fin 1 → IVec S16 32) a x).toNat < S32768.size a)
theorem k0_idx38_inb : ∀ (k0_t1 : Fin k0_t1_loop.trips) (v319 : IVec S16 32) (k0_hw38 : k0_chk38 k0_t1 v319), ∀ (k0_h1 : k0_cond1 k0_t1 = 1#1), ∀ a x, ((![v319] : Fin 1 → IVec S16 32) a x).toNat < S32768.size a := fun k0_t1 v319 k0_hw38 k0_h1 => k0_hw38 k0_h1

def k0_chk39 (k0_t1 : Fin k0_t1_loop.trips) (v326 : IVec S16 32) : Prop :=
  (∀ (k0_h1 : k0_cond1 k0_t1 = 1#1), ∀ a x, ((![v326] : Fin 1 → IVec S16 32) a x).toNat < S32768.size a)
theorem k0_idx39_inb : ∀ (k0_t1 : Fin k0_t1_loop.trips) (v326 : IVec S16 32) (k0_hw39 : k0_chk39 k0_t1 v326), ∀ (k0_h1 : k0_cond1 k0_t1 = 1#1), ∀ a x, ((![v326] : Fin 1 → IVec S16 32) a x).toNat < S32768.size a := fun k0_t1 v326 k0_hw39 k0_h1 => k0_hw39 k0_h1

def k0_chk40 (k0_t1 : Fin k0_t1_loop.trips) (v333 : IVec S16 32) : Prop :=
  (∀ (k0_h1 : k0_cond1 k0_t1 = 1#1), ∀ a x, ((![v333] : Fin 1 → IVec S16 32) a x).toNat < S32768.size a)
theorem k0_idx40_inb : ∀ (k0_t1 : Fin k0_t1_loop.trips) (v333 : IVec S16 32) (k0_hw40 : k0_chk40 k0_t1 v333), ∀ (k0_h1 : k0_cond1 k0_t1 = 1#1), ∀ a x, ((![v333] : Fin 1 → IVec S16 32) a x).toNat < S32768.size a := fun k0_t1 v333 k0_hw40 k0_h1 => k0_hw40 k0_h1

def k0_chk41 (k0_t1 : Fin k0_t1_loop.trips) (v340 : IVec S16 32) : Prop :=
  (∀ (k0_h1 : k0_cond1 k0_t1 = 1#1), ∀ a x, ((![v340] : Fin 1 → IVec S16 32) a x).toNat < S32768.size a)
theorem k0_idx41_inb : ∀ (k0_t1 : Fin k0_t1_loop.trips) (v340 : IVec S16 32) (k0_hw41 : k0_chk41 k0_t1 v340), ∀ (k0_h1 : k0_cond1 k0_t1 = 1#1), ∀ a x, ((![v340] : Fin 1 → IVec S16 32) a x).toNat < S32768.size a := fun k0_t1 v340 k0_hw41 k0_h1 => k0_hw41 k0_h1

def k0_chk42 (k0_t1 : Fin k0_t1_loop.trips) (v347 : IVec S16 32) : Prop :=
  (∀ (k0_h1 : k0_cond1 k0_t1 = 1#1), ∀ a x, ((![v347] : Fin 1 → IVec S16 32) a x).toNat < S32768.size a)
theorem k0_idx42_inb : ∀ (k0_t1 : Fin k0_t1_loop.trips) (v347 : IVec S16 32) (k0_hw42 : k0_chk42 k0_t1 v347), ∀ (k0_h1 : k0_cond1 k0_t1 = 1#1), ∀ a x, ((![v347] : Fin 1 → IVec S16 32) a x).toNat < S32768.size a := fun k0_t1 v347 k0_hw42 k0_h1 => k0_hw42 k0_h1

def k0_chk43 (k0_t1 : Fin k0_t1_loop.trips) (v354 : IVec S16 32) : Prop :=
  (∀ (k0_h1 : k0_cond1 k0_t1 = 1#1), ∀ a x, ((![v354] : Fin 1 → IVec S16 32) a x).toNat < S32768.size a)
theorem k0_idx43_inb : ∀ (k0_t1 : Fin k0_t1_loop.trips) (v354 : IVec S16 32) (k0_hw43 : k0_chk43 k0_t1 v354), ∀ (k0_h1 : k0_cond1 k0_t1 = 1#1), ∀ a x, ((![v354] : Fin 1 → IVec S16 32) a x).toNat < S32768.size a := fun k0_t1 v354 k0_hw43 k0_h1 => k0_hw43 k0_h1

def k0_chk44 (k0_t1 : Fin k0_t1_loop.trips) (v361 : IVec S16 32) : Prop :=
  (∀ (k0_h1 : k0_cond1 k0_t1 = 1#1), ∀ a x, ((![v361] : Fin 1 → IVec S16 32) a x).toNat < S32768.size a)
theorem k0_idx44_inb : ∀ (k0_t1 : Fin k0_t1_loop.trips) (v361 : IVec S16 32) (k0_hw44 : k0_chk44 k0_t1 v361), ∀ (k0_h1 : k0_cond1 k0_t1 = 1#1), ∀ a x, ((![v361] : Fin 1 → IVec S16 32) a x).toNat < S32768.size a := fun k0_t1 v361 k0_hw44 k0_h1 => k0_hw44 k0_h1

def k0_chk45 (k0_t1 : Fin k0_t1_loop.trips) (v368 : IVec S16 32) : Prop :=
  (∀ (k0_h1 : k0_cond1 k0_t1 = 1#1), ∀ a x, ((![v368] : Fin 1 → IVec S16 32) a x).toNat < S32768.size a)
theorem k0_idx45_inb : ∀ (k0_t1 : Fin k0_t1_loop.trips) (v368 : IVec S16 32) (k0_hw45 : k0_chk45 k0_t1 v368), ∀ (k0_h1 : k0_cond1 k0_t1 = 1#1), ∀ a x, ((![v368] : Fin 1 → IVec S16 32) a x).toNat < S32768.size a := fun k0_t1 v368 k0_hw45 k0_h1 => k0_hw45 k0_h1

def k0_chk46 (k0_t1 : Fin k0_t1_loop.trips) (v375 : IVec S16 32) : Prop :=
  (∀ (k0_h1 : k0_cond1 k0_t1 = 1#1), ∀ a x, ((![v375] : Fin 1 → IVec S16 32) a x).toNat < S32768.size a)
theorem k0_idx46_inb : ∀ (k0_t1 : Fin k0_t1_loop.trips) (v375 : IVec S16 32) (k0_hw46 : k0_chk46 k0_t1 v375), ∀ (k0_h1 : k0_cond1 k0_t1 = 1#1), ∀ a x, ((![v375] : Fin 1 → IVec S16 32) a x).toNat < S32768.size a := fun k0_t1 v375 k0_hw46 k0_h1 => k0_hw46 k0_h1

def k0_chk47 (k0_t1 : Fin k0_t1_loop.trips) (v382 : IVec S16 32) : Prop :=
  (∀ (k0_h1 : k0_cond1 k0_t1 = 1#1), ∀ a x, ((![v382] : Fin 1 → IVec S16 32) a x).toNat < S32768.size a)
theorem k0_idx47_inb : ∀ (k0_t1 : Fin k0_t1_loop.trips) (v382 : IVec S16 32) (k0_hw47 : k0_chk47 k0_t1 v382), ∀ (k0_h1 : k0_cond1 k0_t1 = 1#1), ∀ a x, ((![v382] : Fin 1 → IVec S16 32) a x).toNat < S32768.size a := fun k0_t1 v382 k0_hw47 k0_h1 => k0_hw47 k0_h1

def k0_chk48 (k0_t1 : Fin k0_t1_loop.trips) (v389 : IVec S16 32) : Prop :=
  (∀ (k0_h1 : k0_cond1 k0_t1 = 1#1), ∀ a x, ((![v389] : Fin 1 → IVec S16 32) a x).toNat < S32768.size a)
theorem k0_idx48_inb : ∀ (k0_t1 : Fin k0_t1_loop.trips) (v389 : IVec S16 32) (k0_hw48 : k0_chk48 k0_t1 v389), ∀ (k0_h1 : k0_cond1 k0_t1 = 1#1), ∀ a x, ((![v389] : Fin 1 → IVec S16 32) a x).toNat < S32768.size a := fun k0_t1 v389 k0_hw48 k0_h1 => k0_hw48 k0_h1

def k0_chk49 (k0_t1 : Fin k0_t1_loop.trips) (v396 : IVec S16 32) : Prop :=
  (∀ (k0_h1 : k0_cond1 k0_t1 = 1#1), ∀ a x, ((![v396] : Fin 1 → IVec S16 32) a x).toNat < S32768.size a)
theorem k0_idx49_inb : ∀ (k0_t1 : Fin k0_t1_loop.trips) (v396 : IVec S16 32) (k0_hw49 : k0_chk49 k0_t1 v396), ∀ (k0_h1 : k0_cond1 k0_t1 = 1#1), ∀ a x, ((![v396] : Fin 1 → IVec S16 32) a x).toNat < S32768.size a := fun k0_t1 v396 k0_hw49 k0_h1 => k0_hw49 k0_h1

def k0_chk50 (k0_t1 : Fin k0_t1_loop.trips) (v403 : IVec S16 32) : Prop :=
  (∀ (k0_h1 : k0_cond1 k0_t1 = 1#1), ∀ a x, ((![v403] : Fin 1 → IVec S16 32) a x).toNat < S32768.size a)
theorem k0_idx50_inb : ∀ (k0_t1 : Fin k0_t1_loop.trips) (v403 : IVec S16 32) (k0_hw50 : k0_chk50 k0_t1 v403), ∀ (k0_h1 : k0_cond1 k0_t1 = 1#1), ∀ a x, ((![v403] : Fin 1 → IVec S16 32) a x).toNat < S32768.size a := fun k0_t1 v403 k0_hw50 k0_h1 => k0_hw50 k0_h1

def k0_chk51 (k0_t1 : Fin k0_t1_loop.trips) (v410 : IVec S16 32) : Prop :=
  (∀ (k0_h1 : k0_cond1 k0_t1 = 1#1), ∀ a x, ((![v410] : Fin 1 → IVec S16 32) a x).toNat < S32768.size a)
theorem k0_idx51_inb : ∀ (k0_t1 : Fin k0_t1_loop.trips) (v410 : IVec S16 32) (k0_hw51 : k0_chk51 k0_t1 v410), ∀ (k0_h1 : k0_cond1 k0_t1 = 1#1), ∀ a x, ((![v410] : Fin 1 → IVec S16 32) a x).toNat < S32768.size a := fun k0_t1 v410 k0_hw51 k0_h1 => k0_hw51 k0_h1

def k0_chk52 (k0_t1 : Fin k0_t1_loop.trips) (v417 : IVec S16 32) : Prop :=
  (∀ (k0_h1 : k0_cond1 k0_t1 = 1#1), ∀ a x, ((![v417] : Fin 1 → IVec S16 32) a x).toNat < S32768.size a)
theorem k0_idx52_inb : ∀ (k0_t1 : Fin k0_t1_loop.trips) (v417 : IVec S16 32) (k0_hw52 : k0_chk52 k0_t1 v417), ∀ (k0_h1 : k0_cond1 k0_t1 = 1#1), ∀ a x, ((![v417] : Fin 1 → IVec S16 32) a x).toNat < S32768.size a := fun k0_t1 v417 k0_hw52 k0_h1 => k0_hw52 k0_h1

def k0_chk53 (k0_t1 : Fin k0_t1_loop.trips) (v424 : IVec S16 32) : Prop :=
  (∀ (k0_h1 : k0_cond1 k0_t1 = 1#1), ∀ a x, ((![v424] : Fin 1 → IVec S16 32) a x).toNat < S32768.size a)
theorem k0_idx53_inb : ∀ (k0_t1 : Fin k0_t1_loop.trips) (v424 : IVec S16 32) (k0_hw53 : k0_chk53 k0_t1 v424), ∀ (k0_h1 : k0_cond1 k0_t1 = 1#1), ∀ a x, ((![v424] : Fin 1 → IVec S16 32) a x).toNat < S32768.size a := fun k0_t1 v424 k0_hw53 k0_h1 => k0_hw53 k0_h1

def k0_chk54 (k0_t1 : Fin k0_t1_loop.trips) (v431 : IVec S16 32) : Prop :=
  (∀ (k0_h1 : k0_cond1 k0_t1 = 1#1), ∀ a x, ((![v431] : Fin 1 → IVec S16 32) a x).toNat < S32768.size a)
theorem k0_idx54_inb : ∀ (k0_t1 : Fin k0_t1_loop.trips) (v431 : IVec S16 32) (k0_hw54 : k0_chk54 k0_t1 v431), ∀ (k0_h1 : k0_cond1 k0_t1 = 1#1), ∀ a x, ((![v431] : Fin 1 → IVec S16 32) a x).toNat < S32768.size a := fun k0_t1 v431 k0_hw54 k0_h1 => k0_hw54 k0_h1

def k0_chk55 (k0_t1 : Fin k0_t1_loop.trips) (v438 : IVec S16 32) : Prop :=
  (∀ (k0_h1 : k0_cond1 k0_t1 = 1#1), ∀ a x, ((![v438] : Fin 1 → IVec S16 32) a x).toNat < S32768.size a)
theorem k0_idx55_inb : ∀ (k0_t1 : Fin k0_t1_loop.trips) (v438 : IVec S16 32) (k0_hw55 : k0_chk55 k0_t1 v438), ∀ (k0_h1 : k0_cond1 k0_t1 = 1#1), ∀ a x, ((![v438] : Fin 1 → IVec S16 32) a x).toNat < S32768.size a := fun k0_t1 v438 k0_hw55 k0_h1 => k0_hw55 k0_h1

def k0_chk56 (k0_t1 : Fin k0_t1_loop.trips) (v445 : IVec S16 32) : Prop :=
  (∀ (k0_h1 : k0_cond1 k0_t1 = 1#1), ∀ a x, ((![v445] : Fin 1 → IVec S16 32) a x).toNat < S32768.size a)
theorem k0_idx56_inb : ∀ (k0_t1 : Fin k0_t1_loop.trips) (v445 : IVec S16 32) (k0_hw56 : k0_chk56 k0_t1 v445), ∀ (k0_h1 : k0_cond1 k0_t1 = 1#1), ∀ a x, ((![v445] : Fin 1 → IVec S16 32) a x).toNat < S32768.size a := fun k0_t1 v445 k0_hw56 k0_h1 => k0_hw56 k0_h1

def k0_chk57 (k0_t1 : Fin k0_t1_loop.trips) (v452 : IVec S16 32) : Prop :=
  (∀ (k0_h1 : k0_cond1 k0_t1 = 1#1), ∀ a x, ((![v452] : Fin 1 → IVec S16 32) a x).toNat < S32768.size a)
theorem k0_idx57_inb : ∀ (k0_t1 : Fin k0_t1_loop.trips) (v452 : IVec S16 32) (k0_hw57 : k0_chk57 k0_t1 v452), ∀ (k0_h1 : k0_cond1 k0_t1 = 1#1), ∀ a x, ((![v452] : Fin 1 → IVec S16 32) a x).toNat < S32768.size a := fun k0_t1 v452 k0_hw57 k0_h1 => k0_hw57 k0_h1

def k0_chk58 (k0_t1 : Fin k0_t1_loop.trips) (v459 : IVec S16 32) : Prop :=
  (∀ (k0_h1 : k0_cond1 k0_t1 = 1#1), ∀ a x, ((![v459] : Fin 1 → IVec S16 32) a x).toNat < S32768.size a)
theorem k0_idx58_inb : ∀ (k0_t1 : Fin k0_t1_loop.trips) (v459 : IVec S16 32) (k0_hw58 : k0_chk58 k0_t1 v459), ∀ (k0_h1 : k0_cond1 k0_t1 = 1#1), ∀ a x, ((![v459] : Fin 1 → IVec S16 32) a x).toNat < S32768.size a := fun k0_t1 v459 k0_hw58 k0_h1 => k0_hw58 k0_h1

def k0_chk59 (k0_t1 : Fin k0_t1_loop.trips) (v466 : IVec S16 32) : Prop :=
  (∀ (k0_h1 : k0_cond1 k0_t1 = 1#1), ∀ a x, ((![v466] : Fin 1 → IVec S16 32) a x).toNat < S32768.size a)
theorem k0_idx59_inb : ∀ (k0_t1 : Fin k0_t1_loop.trips) (v466 : IVec S16 32) (k0_hw59 : k0_chk59 k0_t1 v466), ∀ (k0_h1 : k0_cond1 k0_t1 = 1#1), ∀ a x, ((![v466] : Fin 1 → IVec S16 32) a x).toNat < S32768.size a := fun k0_t1 v466 k0_hw59 k0_h1 => k0_hw59 k0_h1

def k0_chk60 (k0_t1 : Fin k0_t1_loop.trips) (v473 : IVec S16 32) : Prop :=
  (∀ (k0_h1 : k0_cond1 k0_t1 = 1#1), ∀ a x, ((![v473] : Fin 1 → IVec S16 32) a x).toNat < S32768.size a)
theorem k0_idx60_inb : ∀ (k0_t1 : Fin k0_t1_loop.trips) (v473 : IVec S16 32) (k0_hw60 : k0_chk60 k0_t1 v473), ∀ (k0_h1 : k0_cond1 k0_t1 = 1#1), ∀ a x, ((![v473] : Fin 1 → IVec S16 32) a x).toNat < S32768.size a := fun k0_t1 v473 k0_hw60 k0_h1 => k0_hw60 k0_h1

def k0_chk61 (k0_t1 : Fin k0_t1_loop.trips) (v480 : IVec S16 32) : Prop :=
  (∀ (k0_h1 : k0_cond1 k0_t1 = 1#1), ∀ a x, ((![v480] : Fin 1 → IVec S16 32) a x).toNat < S32768.size a)
theorem k0_idx61_inb : ∀ (k0_t1 : Fin k0_t1_loop.trips) (v480 : IVec S16 32) (k0_hw61 : k0_chk61 k0_t1 v480), ∀ (k0_h1 : k0_cond1 k0_t1 = 1#1), ∀ a x, ((![v480] : Fin 1 → IVec S16 32) a x).toNat < S32768.size a := fun k0_t1 v480 k0_hw61 k0_h1 => k0_hw61 k0_h1

def k0_chk62 (k0_t1 : Fin k0_t1_loop.trips) (v487 : IVec S16 32) : Prop :=
  (∀ (k0_h1 : k0_cond1 k0_t1 = 1#1), ∀ a x, ((![v487] : Fin 1 → IVec S16 32) a x).toNat < S32768.size a)
theorem k0_idx62_inb : ∀ (k0_t1 : Fin k0_t1_loop.trips) (v487 : IVec S16 32) (k0_hw62 : k0_chk62 k0_t1 v487), ∀ (k0_h1 : k0_cond1 k0_t1 = 1#1), ∀ a x, ((![v487] : Fin 1 → IVec S16 32) a x).toNat < S32768.size a := fun k0_t1 v487 k0_hw62 k0_h1 => k0_hw62 k0_h1

def k0_chk63 (k0_t1 : Fin k0_t1_loop.trips) (v494 : IVec S16 32) : Prop :=
  (∀ (k0_h1 : k0_cond1 k0_t1 = 1#1), ∀ a x, ((![v494] : Fin 1 → IVec S16 32) a x).toNat < S32768.size a)
theorem k0_idx63_inb : ∀ (k0_t1 : Fin k0_t1_loop.trips) (v494 : IVec S16 32) (k0_hw63 : k0_chk63 k0_t1 v494), ∀ (k0_h1 : k0_cond1 k0_t1 = 1#1), ∀ a x, ((![v494] : Fin 1 → IVec S16 32) a x).toNat < S32768.size a := fun k0_t1 v494 k0_hw63 k0_h1 => k0_hw63 k0_h1

def k0_chk64 (k0_t1 : Fin k0_t1_loop.trips) (v501 : IVec S16 32) : Prop :=
  (∀ (k0_h1 : k0_cond1 k0_t1 = 1#1), ∀ a x, ((![v501] : Fin 1 → IVec S16 32) a x).toNat < S32768.size a)
theorem k0_idx64_inb : ∀ (k0_t1 : Fin k0_t1_loop.trips) (v501 : IVec S16 32) (k0_hw64 : k0_chk64 k0_t1 v501), ∀ (k0_h1 : k0_cond1 k0_t1 = 1#1), ∀ a x, ((![v501] : Fin 1 → IVec S16 32) a x).toNat < S32768.size a := fun k0_t1 v501 k0_hw64 k0_h1 => k0_hw64 k0_h1
def k0_off7 (k0_t2 : Fin k0_t2_loop.trips) : Fin 1 → Nat :=
  let c0_i32_23 : BitVec 32 := 0#32
  let c0_i32_19 : BitVec 32 := 0#32
  let c1_i32_20 : BitVec 32 := 1#32
  let arg15 : BitVec 32 := Scf.iv c0_i32_19 c1_i32_20 k0_t2
  let c1_i32_22 : BitVec 32 := 1#32
  let v43 : BitVec 32 := Scalar.muli arg15 c1_i32_22
  let v44 : BitVec 32 := Scalar.addi c0_i32_23 v43
  let c16_i32_40 : BitVec 32 := 16#32
  let v512 : BitVec 32 := Scalar.muli v44 c16_i32_40
  let v513 : Index := Scalar.indexCast v512
  ![v513.toNat]

def k0_chk65 (k0_t1 : Fin k0_t1_loop.trips) (v515 : IVec S16 32) : Prop :=
  (∀ (k0_h1 : k0_cond1 k0_t1 = 1#1), ∀ a x, ((![v515] : Fin 1 → IVec S16 32) a x).toNat < S32768.size a)
theorem k0_idx65_inb : ∀ (k0_t1 : Fin k0_t1_loop.trips) (v515 : IVec S16 32) (k0_hw65 : k0_chk65 k0_t1 v515), ∀ (k0_h1 : k0_cond1 k0_t1 = 1#1), ∀ a x, ((![v515] : Fin 1 → IVec S16 32) a x).toNat < S32768.size a := fun k0_t1 v515 k0_hw65 k0_h1 => k0_hw65 k0_h1

def k0_chk66 (k0_t1 : Fin k0_t1_loop.trips) (v529 : IVec S16 32) : Prop :=
  (∀ (k0_h1 : k0_cond1 k0_t1 = 1#1), ∀ a x, ((![v529] : Fin 1 → IVec S16 32) a x).toNat < S48.size a)
theorem k0_idx66_inb : ∀ (k0_t1 : Fin k0_t1_loop.trips) (v529 : IVec S16 32) (k0_hw66 : k0_chk66 k0_t1 v529), ∀ (k0_h1 : k0_cond1 k0_t1 = 1#1), ∀ a x, ((![v529] : Fin 1 → IVec S16 32) a x).toNat < S48.size a := fun k0_t1 v529 k0_hw66 k0_h1 => k0_hw66 k0_h1

def k0_chk67 (k0_t1 : Fin k0_t1_loop.trips) (v531 : IVec S16 32) : Prop :=
  (∀ (k0_h1 : k0_cond1 k0_t1 = 1#1), ∀ a x, ((![v531] : Fin 1 → IVec S16 32) a x).toNat < S48.size a)
theorem k0_idx67_inb : ∀ (k0_t1 : Fin k0_t1_loop.trips) (v531 : IVec S16 32) (k0_hw67 : k0_chk67 k0_t1 v531), ∀ (k0_h1 : k0_cond1 k0_t1 = 1#1), ∀ a x, ((![v531] : Fin 1 → IVec S16 32) a x).toNat < S48.size a := fun k0_t1 v531 k0_hw67 k0_h1 => k0_hw67 k0_h1

def k0_chk68 (k0_t1 : Fin k0_t1_loop.trips) (v533 : IVec S16 32) : Prop :=
  (∀ (k0_h1 : k0_cond1 k0_t1 = 1#1), ∀ a x, ((![v533] : Fin 1 → IVec S16 32) a x).toNat < S48.size a)
theorem k0_idx68_inb : ∀ (k0_t1 : Fin k0_t1_loop.trips) (v533 : IVec S16 32) (k0_hw68 : k0_chk68 k0_t1 v533), ∀ (k0_h1 : k0_cond1 k0_t1 = 1#1), ∀ a x, ((![v533] : Fin 1 → IVec S16 32) a x).toNat < S48.size a := fun k0_t1 v533 k0_hw68 k0_h1 => k0_hw68 k0_h1
def k0_cond3 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_11 : BitVec 32 := 1#32
  let v27 : BitVec 32 := Scalar.andi arg14 c1_i32_11
  let c1_i32_12 : BitVec 32 := 1#32
  let v28 : BitVec 1 := Scalar.cmpi .eq v27 c1_i32_12
  let v29 : BitVec 32 := Scalar.extui v28
  let c0_i32_13 : BitVec 32 := 0#32
  let v30 : BitVec 1 := Scalar.cmpi .ne v29 c0_i32_13
  v30

def k0_cond4 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_14 : BitVec 32 := 1#32
  let v31 : BitVec 32 := Scalar.addi arg14 c1_i32_14
  let c61_i32_15 : BitVec 32 := 61#32
  let v32 : BitVec 1 := Scalar.cmpi .slt v31 c61_i32_15
  let v33 : BitVec 32 := Scalar.extui v32
  let c0_i32_16 : BitVec 32 := 0#32
  let v34 : BitVec 1 := Scalar.cmpi .ne v33 c0_i32_16
  v34

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c1_i32_22 : BitVec 32 := 1#32
  let v43 : BitVec 32 := Scalar.addi arg14 c1_i32_22
  let c512_i32_23 : BitVec 32 := 512#32
  let v44 : BitVec 32 := Scalar.muli v43 c512_i32_23
  let v45 : BitVec 32 := Scalar.addi v9 v44
  let c64_i32_24 : BitVec 32 := 64#32
  let v46 : BitVec 32 := Scalar.muli v45 c64_i32_24
  ![v46.toNat]
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c1_i32_22 : BitVec 32 := 1#32
  let v43 : BitVec 32 := Scalar.addi arg14 c1_i32_22
  let c512_i32_23 : BitVec 32 := 512#32
  let v44 : BitVec 32 := Scalar.muli v43 c512_i32_23
  let v45 : BitVec 32 := Scalar.addi v9 v44
  ![v45.toNat]
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c512_i32_17 : BitVec 32 := 512#32
  let v35 : BitVec 32 := Scalar.muli arg14 c512_i32_17
  let v36 : BitVec 32 := Scalar.addi v9 v35
  let c64_i32_18 : BitVec 32 := 64#32
  let v37 : BitVec 32 := Scalar.muli v36 c64_i32_18
  ![v37.toNat]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v8 : BitVec 32 := Scalar.muli v1 c61_i32
  let c512_i32 : BitVec 32 := 512#32
  let v9 : BitVec 32 := Scalar.muli v8 c512_i32
  let c0_i32_2 : BitVec 32 := 0#32
  let c1_i32 : BitVec 32 := 1#32
  let arg14 : BitVec 32 := Scf.iv c0_i32_2 c1_i32 k0_t1
  let c512_i32_17 : BitVec 32 := 512#32
  let v35 : BitVec 32 := Scalar.muli arg14 c512_i32_17
  let v36 : BitVec 32 := Scalar.addi v9 v35
  ![v36.toNat]
@[reducible] def k0_t3_loop : Scf.Loop 32 :=
  let c0_i32_19 : BitVec 32 := 0#32
  let c32_i32 : BitVec 32 := 32#32
  let v42 : BitVec 32 := Scalar.addi c0_i32_19 c32_i32
  let c1_i32_20 : BitVec 32 := 1#32
  ⟨c0_i32_19, v42, c1_i32_20⟩

def k0_chk69 (k0_t1 : Fin k0_t1_loop.trips) (v60 : IVec S16 32) : Prop :=
  (∀ (k0_h3 : k0_cond3 k0_t1 = 1#1), ∀ a x, ((![v60] : Fin 1 → IVec S16 32) a x).toNat < S32768.size a)
theorem k0_idx69_inb : ∀ (k0_t1 : Fin k0_t1_loop.trips) (v60 : IVec S16 32) (k0_hw69 : k0_chk69 k0_t1 v60), ∀ (k0_h3 : k0_cond3 k0_t1 = 1#1), ∀ a x, ((![v60] : Fin 1 → IVec S16 32) a x).toNat < S32768.size a := fun k0_t1 v60 k0_hw69 k0_h3 => k0_hw69 k0_h3

def k0_chk70 (k0_t1 : Fin k0_t1_loop.trips) (v67 : IVec S16 32) : Prop :=
  (∀ (k0_h3 : k0_cond3 k0_t1 = 1#1), ∀ a x, ((![v67] : Fin 1 → IVec S16 32) a x).toNat < S32768.size a)
theorem k0_idx70_inb : ∀ (k0_t1 : Fin k0_t1_loop.trips) (v67 : IVec S16 32) (k0_hw70 : k0_chk70 k0_t1 v67), ∀ (k0_h3 : k0_cond3 k0_t1 = 1#1), ∀ a x, ((![v67] : Fin 1 → IVec S16 32) a x).toNat < S32768.size a := fun k0_t1 v67 k0_hw70 k0_h3 => k0_hw70 k0_h3

def k0_chk71 (k0_t1 : Fin k0_t1_loop.trips) (v74 : IVec S16 32) : Prop :=
  (∀ (k0_h3 : k0_cond3 k0_t1 = 1#1), ∀ a x, ((![v74] : Fin 1 → IVec S16 32) a x).toNat < S32768.size a)
theorem k0_idx71_inb : ∀ (k0_t1 : Fin k0_t1_loop.trips) (v74 : IVec S16 32) (k0_hw71 : k0_chk71 k0_t1 v74), ∀ (k0_h3 : k0_cond3 k0_t1 = 1#1), ∀ a x, ((![v74] : Fin 1 → IVec S16 32) a x).toNat < S32768.size a := fun k0_t1 v74 k0_hw71 k0_h3 => k0_hw71 k0_h3

def k0_chk72 (k0_t1 : Fin k0_t1_loop.trips) (v81 : IVec S16 32) : Prop :=
  (∀ (k0_h3 : k0_cond3 k0_t1 = 1#1), ∀ a x, ((![v81] : Fin 1 → IVec S16 32) a x).toNat < S32768.size a)
theorem k0_idx72_inb : ∀ (k0_t1 : Fin k0_t1_loop.trips) (v81 : IVec S16 32) (k0_hw72 : k0_chk72 k0_t1 v81), ∀ (k0_h3 : k0_cond3 k0_t1 = 1#1), ∀ a x, ((![v81] : Fin 1 → IVec S16 32) a x).toNat < S32768.size a := fun k0_t1 v81 k0_hw72 k0_h3 => k0_hw72 k0_h3

def k0_chk73 (k0_t1 : Fin k0_t1_loop.trips) (v88 : IVec S16 32) : Prop :=
  (∀ (k0_h3 : k0_cond3 k0_t1 = 1#1), ∀ a x, ((![v88] : Fin 1 → IVec S16 32) a x).toNat < S32768.size a)
theorem k0_idx73_inb : ∀ (k0_t1 : Fin k0_t1_loop.trips) (v88 : IVec S16 32) (k0_hw73 : k0_chk73 k0_t1 v88), ∀ (k0_h3 : k0_cond3 k0_t1 = 1#1), ∀ a x, ((![v88] : Fin 1 → IVec S16 32) a x).toNat < S32768.size a := fun k0_t1 v88 k0_hw73 k0_h3 => k0_hw73 k0_h3

def k0_chk74 (k0_t1 : Fin k0_t1_loop.trips) (v95 : IVec S16 32) : Prop :=
  (∀ (k0_h3 : k0_cond3 k0_t1 = 1#1), ∀ a x, ((![v95] : Fin 1 → IVec S16 32) a x).toNat < S32768.size a)
theorem k0_idx74_inb : ∀ (k0_t1 : Fin k0_t1_loop.trips) (v95 : IVec S16 32) (k0_hw74 : k0_chk74 k0_t1 v95), ∀ (k0_h3 : k0_cond3 k0_t1 = 1#1), ∀ a x, ((![v95] : Fin 1 → IVec S16 32) a x).toNat < S32768.size a := fun k0_t1 v95 k0_hw74 k0_h3 => k0_hw74 k0_h3

def k0_chk75 (k0_t1 : Fin k0_t1_loop.trips) (v102 : IVec S16 32) : Prop :=
  (∀ (k0_h3 : k0_cond3 k0_t1 = 1#1), ∀ a x, ((![v102] : Fin 1 → IVec S16 32) a x).toNat < S32768.size a)
theorem k0_idx75_inb : ∀ (k0_t1 : Fin k0_t1_loop.trips) (v102 : IVec S16 32) (k0_hw75 : k0_chk75 k0_t1 v102), ∀ (k0_h3 : k0_cond3 k0_t1 = 1#1), ∀ a x, ((![v102] : Fin 1 → IVec S16 32) a x).toNat < S32768.size a := fun k0_t1 v102 k0_hw75 k0_h3 => k0_hw75 k0_h3

def k0_chk76 (k0_t1 : Fin k0_t1_loop.trips) (v109 : IVec S16 32) : Prop :=
  (∀ (k0_h3 : k0_cond3 k0_t1 = 1#1), ∀ a x, ((![v109] : Fin 1 → IVec S16 32) a x).toNat < S32768.size a)
theorem k0_idx76_inb : ∀ (k0_t1 : Fin k0_t1_loop.trips) (v109 : IVec S16 32) (k0_hw76 : k0_chk76 k0_t1 v109), ∀ (k0_h3 : k0_cond3 k0_t1 = 1#1), ∀ a x, ((![v109] : Fin 1 → IVec S16 32) a x).toNat < S32768.size a := fun k0_t1 v109 k0_hw76 k0_h3 => k0_hw76 k0_h3

def k0_chk77 (k0_t1 : Fin k0_t1_loop.trips) (v116 : IVec S16 32) : Prop :=
  (∀ (k0_h3 : k0_cond3 k0_t1 = 1#1), ∀ a x, ((![v116] : Fin 1 → IVec S16 32) a x).toNat < S32768.size a)
theorem k0_idx77_inb : ∀ (k0_t1 : Fin k0_t1_loop.trips) (v116 : IVec S16 32) (k0_hw77 : k0_chk77 k0_t1 v116), ∀ (k0_h3 : k0_cond3 k0_t1 = 1#1), ∀ a x, ((![v116] : Fin 1 → IVec S16 32) a x).toNat < S32768.size a := fun k0_t1 v116 k0_hw77 k0_h3 => k0_hw77 k0_h3

def k0_chk78 (k0_t1 : Fin k0_t1_loop.trips) (v123 : IVec S16 32) : Prop :=
  (∀ (k0_h3 : k0_cond3 k0_t1 = 1#1), ∀ a x, ((![v123] : Fin 1 → IVec S16 32) a x).toNat < S32768.size a)
theorem k0_idx78_inb : ∀ (k0_t1 : Fin k0_t1_loop.trips) (v123 : IVec S16 32) (k0_hw78 : k0_chk78 k0_t1 v123), ∀ (k0_h3 : k0_cond3 k0_t1 = 1#1), ∀ a x, ((![v123] : Fin 1 → IVec S16 32) a x).toNat < S32768.size a := fun k0_t1 v123 k0_hw78 k0_h3 => k0_hw78 k0_h3

def k0_chk79 (k0_t1 : Fin k0_t1_loop.trips) (v130 : IVec S16 32) : Prop :=
  (∀ (k0_h3 : k0_cond3 k0_t1 = 1#1), ∀ a x, ((![v130] : Fin 1 → IVec S16 32) a x).toNat < S32768.size a)
theorem k0_idx79_inb : ∀ (k0_t1 : Fin k0_t1_loop.trips) (v130 : IVec S16 32) (k0_hw79 : k0_chk79 k0_t1 v130), ∀ (k0_h3 : k0_cond3 k0_t1 = 1#1), ∀ a x, ((![v130] : Fin 1 → IVec S16 32) a x).toNat < S32768.size a := fun k0_t1 v130 k0_hw79 k0_h3 => k0_hw79 k0_h3

def k0_chk80 (k0_t1 : Fin k0_t1_loop.trips) (v137 : IVec S16 32) : Prop :=
  (∀ (k0_h3 : k0_cond3 k0_t1 = 1#1), ∀ a x, ((![v137] : Fin 1 → IVec S16 32) a x).toNat < S32768.size a)
theorem k0_idx80_inb : ∀ (k0_t1 : Fin k0_t1_loop.trips) (v137 : IVec S16 32) (k0_hw80 : k0_chk80 k0_t1 v137), ∀ (k0_h3 : k0_cond3 k0_t1 = 1#1), ∀ a x, ((![v137] : Fin 1 → IVec S16 32) a x).toNat < S32768.size a := fun k0_t1 v137 k0_hw80 k0_h3 => k0_hw80 k0_h3

def k0_chk81 (k0_t1 : Fin k0_t1_loop.trips) (v144 : IVec S16 32) : Prop :=
  (∀ (k0_h3 : k0_cond3 k0_t1 = 1#1), ∀ a x, ((![v144] : Fin 1 → IVec S16 32) a x).toNat < S32768.size a)
theorem k0_idx81_inb : ∀ (k0_t1 : Fin k0_t1_loop.trips) (v144 : IVec S16 32) (k0_hw81 : k0_chk81 k0_t1 v144), ∀ (k0_h3 : k0_cond3 k0_t1 = 1#1), ∀ a x, ((![v144] : Fin 1 → IVec S16 32) a x).toNat < S32768.size a := fun k0_t1 v144 k0_hw81 k0_h3 => k0_hw81 k0_h3

def k0_chk82 (k0_t1 : Fin k0_t1_loop.trips) (v151 : IVec S16 32) : Prop :=
  (∀ (k0_h3 : k0_cond3 k0_t1 = 1#1), ∀ a x, ((![v151] : Fin 1 → IVec S16 32) a x).toNat < S32768.size a)
theorem k0_idx82_inb : ∀ (k0_t1 : Fin k0_t1_loop.trips) (v151 : IVec S16 32) (k0_hw82 : k0_chk82 k0_t1 v151), ∀ (k0_h3 : k0_cond3 k0_t1 = 1#1), ∀ a x, ((![v151] : Fin 1 → IVec S16 32) a x).toNat < S32768.size a := fun k0_t1 v151 k0_hw82 k0_h3 => k0_hw82 k0_h3

def k0_chk83 (k0_t1 : Fin k0_t1_loop.trips) (v158 : IVec S16 32) : Prop :=
  (∀ (k0_h3 : k0_cond3 k0_t1 = 1#1), ∀ a x, ((![v158] : Fin 1 → IVec S16 32) a x).toNat < S32768.size a)
theorem k0_idx83_inb : ∀ (k0_t1 : Fin k0_t1_loop.trips) (v158 : IVec S16 32) (k0_hw83 : k0_chk83 k0_t1 v158), ∀ (k0_h3 : k0_cond3 k0_t1 = 1#1), ∀ a x, ((![v158] : Fin 1 → IVec S16 32) a x).toNat < S32768.size a := fun k0_t1 v158 k0_hw83 k0_h3 => k0_hw83 k0_h3

def k0_chk84 (k0_t1 : Fin k0_t1_loop.trips) (v165 : IVec S16 32) : Prop :=
  (∀ (k0_h3 : k0_cond3 k0_t1 = 1#1), ∀ a x, ((![v165] : Fin 1 → IVec S16 32) a x).toNat < S32768.size a)
theorem k0_idx84_inb : ∀ (k0_t1 : Fin k0_t1_loop.trips) (v165 : IVec S16 32) (k0_hw84 : k0_chk84 k0_t1 v165), ∀ (k0_h3 : k0_cond3 k0_t1 = 1#1), ∀ a x, ((![v165] : Fin 1 → IVec S16 32) a x).toNat < S32768.size a := fun k0_t1 v165 k0_hw84 k0_h3 => k0_hw84 k0_h3

def k0_chk85 (k0_t1 : Fin k0_t1_loop.trips) (v172 : IVec S16 32) : Prop :=
  (∀ (k0_h3 : k0_cond3 k0_t1 = 1#1), ∀ a x, ((![v172] : Fin 1 → IVec S16 32) a x).toNat < S32768.size a)
theorem k0_idx85_inb : ∀ (k0_t1 : Fin k0_t1_loop.trips) (v172 : IVec S16 32) (k0_hw85 : k0_chk85 k0_t1 v172), ∀ (k0_h3 : k0_cond3 k0_t1 = 1#1), ∀ a x, ((![v172] : Fin 1 → IVec S16 32) a x).toNat < S32768.size a := fun k0_t1 v172 k0_hw85 k0_h3 => k0_hw85 k0_h3

def k0_chk86 (k0_t1 : Fin k0_t1_loop.trips) (v179 : IVec S16 32) : Prop :=
  (∀ (k0_h3 : k0_cond3 k0_t1 = 1#1), ∀ a x, ((![v179] : Fin 1 → IVec S16 32) a x).toNat < S32768.size a)
theorem k0_idx86_inb : ∀ (k0_t1 : Fin k0_t1_loop.trips) (v179 : IVec S16 32) (k0_hw86 : k0_chk86 k0_t1 v179), ∀ (k0_h3 : k0_cond3 k0_t1 = 1#1), ∀ a x, ((![v179] : Fin 1 → IVec S16 32) a x).toNat < S32768.size a := fun k0_t1 v179 k0_hw86 k0_h3 => k0_hw86 k0_h3

def k0_chk87 (k0_t1 : Fin k0_t1_loop.trips) (v186 : IVec S16 32) : Prop :=
  (∀ (k0_h3 : k0_cond3 k0_t1 = 1#1), ∀ a x, ((![v186] : Fin 1 → IVec S16 32) a x).toNat < S32768.size a)
theorem k0_idx87_inb : ∀ (k0_t1 : Fin k0_t1_loop.trips) (v186 : IVec S16 32) (k0_hw87 : k0_chk87 k0_t1 v186), ∀ (k0_h3 : k0_cond3 k0_t1 = 1#1), ∀ a x, ((![v186] : Fin 1 → IVec S16 32) a x).toNat < S32768.size a := fun k0_t1 v186 k0_hw87 k0_h3 => k0_hw87 k0_h3

def k0_chk88 (k0_t1 : Fin k0_t1_loop.trips) (v193 : IVec S16 32) : Prop :=
  (∀ (k0_h3 : k0_cond3 k0_t1 = 1#1), ∀ a x, ((![v193] : Fin 1 → IVec S16 32) a x).toNat < S32768.size a)
theorem k0_idx88_inb : ∀ (k0_t1 : Fin k0_t1_loop.trips) (v193 : IVec S16 32) (k0_hw88 : k0_chk88 k0_t1 v193), ∀ (k0_h3 : k0_cond3 k0_t1 = 1#1), ∀ a x, ((![v193] : Fin 1 → IVec S16 32) a x).toNat < S32768.size a := fun k0_t1 v193 k0_hw88 k0_h3 => k0_hw88 k0_h3

def k0_chk89 (k0_t1 : Fin k0_t1_loop.trips) (v200 : IVec S16 32) : Prop :=
  (∀ (k0_h3 : k0_cond3 k0_t1 = 1#1), ∀ a x, ((![v200] : Fin 1 → IVec S16 32) a x).toNat < S32768.size a)
theorem k0_idx89_inb : ∀ (k0_t1 : Fin k0_t1_loop.trips) (v200 : IVec S16 32) (k0_hw89 : k0_chk89 k0_t1 v200), ∀ (k0_h3 : k0_cond3 k0_t1 = 1#1), ∀ a x, ((![v200] : Fin 1 → IVec S16 32) a x).toNat < S32768.size a := fun k0_t1 v200 k0_hw89 k0_h3 => k0_hw89 k0_h3

def k0_chk90 (k0_t1 : Fin k0_t1_loop.trips) (v207 : IVec S16 32) : Prop :=
  (∀ (k0_h3 : k0_cond3 k0_t1 = 1#1), ∀ a x, ((![v207] : Fin 1 → IVec S16 32) a x).toNat < S32768.size a)
theorem k0_idx90_inb : ∀ (k0_t1 : Fin k0_t1_loop.trips) (v207 : IVec S16 32) (k0_hw90 : k0_chk90 k0_t1 v207), ∀ (k0_h3 : k0_cond3 k0_t1 = 1#1), ∀ a x, ((![v207] : Fin 1 → IVec S16 32) a x).toNat < S32768.size a := fun k0_t1 v207 k0_hw90 k0_h3 => k0_hw90 k0_h3

def k0_chk91 (k0_t1 : Fin k0_t1_loop.trips) (v214 : IVec S16 32) : Prop :=
  (∀ (k0_h3 : k0_cond3 k0_t1 = 1#1), ∀ a x, ((![v214] : Fin 1 → IVec S16 32) a x).toNat < S32768.size a)
theorem k0_idx91_inb : ∀ (k0_t1 : Fin k0_t1_loop.trips) (v214 : IVec S16 32) (k0_hw91 : k0_chk91 k0_t1 v214), ∀ (k0_h3 : k0_cond3 k0_t1 = 1#1), ∀ a x, ((![v214] : Fin 1 → IVec S16 32) a x).toNat < S32768.size a := fun k0_t1 v214 k0_hw91 k0_h3 => k0_hw91 k0_h3

def k0_chk92 (k0_t1 : Fin k0_t1_loop.trips) (v221 : IVec S16 32) : Prop :=
  (∀ (k0_h3 : k0_cond3 k0_t1 = 1#1), ∀ a x, ((![v221] : Fin 1 → IVec S16 32) a x).toNat < S32768.size a)
theorem k0_idx92_inb : ∀ (k0_t1 : Fin k0_t1_loop.trips) (v221 : IVec S16 32) (k0_hw92 : k0_chk92 k0_t1 v221), ∀ (k0_h3 : k0_cond3 k0_t1 = 1#1), ∀ a x, ((![v221] : Fin 1 → IVec S16 32) a x).toNat < S32768.size a := fun k0_t1 v221 k0_hw92 k0_h3 => k0_hw92 k0_h3

def k0_chk93 (k0_t1 : Fin k0_t1_loop.trips) (v228 : IVec S16 32) : Prop :=
  (∀ (k0_h3 : k0_cond3 k0_t1 = 1#1), ∀ a x, ((![v228] : Fin 1 → IVec S16 32) a x).toNat < S32768.size a)
theorem k0_idx93_inb : ∀ (k0_t1 : Fin k0_t1_loop.trips) (v228 : IVec S16 32) (k0_hw93 : k0_chk93 k0_t1 v228), ∀ (k0_h3 : k0_cond3 k0_t1 = 1#1), ∀ a x, ((![v228] : Fin 1 → IVec S16 32) a x).toNat < S32768.size a := fun k0_t1 v228 k0_hw93 k0_h3 => k0_hw93 k0_h3

def k0_chk94 (k0_t1 : Fin k0_t1_loop.trips) (v235 : IVec S16 32) : Prop :=
  (∀ (k0_h3 : k0_cond3 k0_t1 = 1#1), ∀ a x, ((![v235] : Fin 1 → IVec S16 32) a x).toNat < S32768.size a)
theorem k0_idx94_inb : ∀ (k0_t1 : Fin k0_t1_loop.trips) (v235 : IVec S16 32) (k0_hw94 : k0_chk94 k0_t1 v235), ∀ (k0_h3 : k0_cond3 k0_t1 = 1#1), ∀ a x, ((![v235] : Fin 1 → IVec S16 32) a x).toNat < S32768.size a := fun k0_t1 v235 k0_hw94 k0_h3 => k0_hw94 k0_h3

def k0_chk95 (k0_t1 : Fin k0_t1_loop.trips) (v242 : IVec S16 32) : Prop :=
  (∀ (k0_h3 : k0_cond3 k0_t1 = 1#1), ∀ a x, ((![v242] : Fin 1 → IVec S16 32) a x).toNat < S32768.size a)
theorem k0_idx95_inb : ∀ (k0_t1 : Fin k0_t1_loop.trips) (v242 : IVec S16 32) (k0_hw95 : k0_chk95 k0_t1 v242), ∀ (k0_h3 : k0_cond3 k0_t1 = 1#1), ∀ a x, ((![v242] : Fin 1 → IVec S16 32) a x).toNat < S32768.size a := fun k0_t1 v242 k0_hw95 k0_h3 => k0_hw95 k0_h3

def k0_chk96 (k0_t1 : Fin k0_t1_loop.trips) (v249 : IVec S16 32) : Prop :=
  (∀ (k0_h3 : k0_cond3 k0_t1 = 1#1), ∀ a x, ((![v249] : Fin 1 → IVec S16 32) a x).toNat < S32768.size a)
theorem k0_idx96_inb : ∀ (k0_t1 : Fin k0_t1_loop.trips) (v249 : IVec S16 32) (k0_hw96 : k0_chk96 k0_t1 v249), ∀ (k0_h3 : k0_cond3 k0_t1 = 1#1), ∀ a x, ((![v249] : Fin 1 → IVec S16 32) a x).toNat < S32768.size a := fun k0_t1 v249 k0_hw96 k0_h3 => k0_hw96 k0_h3

def k0_chk97 (k0_t1 : Fin k0_t1_loop.trips) (v256 : IVec S16 32) : Prop :=
  (∀ (k0_h3 : k0_cond3 k0_t1 = 1#1), ∀ a x, ((![v256] : Fin 1 → IVec S16 32) a x).toNat < S32768.size a)
theorem k0_idx97_inb : ∀ (k0_t1 : Fin k0_t1_loop.trips) (v256 : IVec S16 32) (k0_hw97 : k0_chk97 k0_t1 v256), ∀ (k0_h3 : k0_cond3 k0_t1 = 1#1), ∀ a x, ((![v256] : Fin 1 → IVec S16 32) a x).toNat < S32768.size a := fun k0_t1 v256 k0_hw97 k0_h3 => k0_hw97 k0_h3

def k0_chk98 (k0_t1 : Fin k0_t1_loop.trips) (v263 : IVec S16 32) : Prop :=
  (∀ (k0_h3 : k0_cond3 k0_t1 = 1#1), ∀ a x, ((![v263] : Fin 1 → IVec S16 32) a x).toNat < S32768.size a)
theorem k0_idx98_inb : ∀ (k0_t1 : Fin k0_t1_loop.trips) (v263 : IVec S16 32) (k0_hw98 : k0_chk98 k0_t1 v263), ∀ (k0_h3 : k0_cond3 k0_t1 = 1#1), ∀ a x, ((![v263] : Fin 1 → IVec S16 32) a x).toNat < S32768.size a := fun k0_t1 v263 k0_hw98 k0_h3 => k0_hw98 k0_h3

def k0_chk99 (k0_t1 : Fin k0_t1_loop.trips) (v270 : IVec S16 32) : Prop :=
  (∀ (k0_h3 : k0_cond3 k0_t1 = 1#1), ∀ a x, ((![v270] : Fin 1 → IVec S16 32) a x).toNat < S32768.size a)
theorem k0_idx99_inb : ∀ (k0_t1 : Fin k0_t1_loop.trips) (v270 : IVec S16 32) (k0_hw99 : k0_chk99 k0_t1 v270), ∀ (k0_h3 : k0_cond3 k0_t1 = 1#1), ∀ a x, ((![v270] : Fin 1 → IVec S16 32) a x).toNat < S32768.size a := fun k0_t1 v270 k0_hw99 k0_h3 => k0_hw99 k0_h3

def k0_chk100 (k0_t1 : Fin k0_t1_loop.trips) (v277 : IVec S16 32) : Prop :=
  (∀ (k0_h3 : k0_cond3 k0_t1 = 1#1), ∀ a x, ((![v277] : Fin 1 → IVec S16 32) a x).toNat < S32768.size a)
theorem k0_idx100_inb : ∀ (k0_t1 : Fin k0_t1_loop.trips) (v277 : IVec S16 32) (k0_hw100 : k0_chk100 k0_t1 v277), ∀ (k0_h3 : k0_cond3 k0_t1 = 1#1), ∀ a x, ((![v277] : Fin 1 → IVec S16 32) a x).toNat < S32768.size a := fun k0_t1 v277 k0_hw100 k0_h3 => k0_hw100 k0_h3

def k0_chk101 (k0_t1 : Fin k0_t1_loop.trips) (v284 : IVec S16 32) : Prop :=
  (∀ (k0_h3 : k0_cond3 k0_t1 = 1#1), ∀ a x, ((![v284] : Fin 1 → IVec S16 32) a x).toNat < S32768.size a)
theorem k0_idx101_inb : ∀ (k0_t1 : Fin k0_t1_loop.trips) (v284 : IVec S16 32) (k0_hw101 : k0_chk101 k0_t1 v284), ∀ (k0_h3 : k0_cond3 k0_t1 = 1#1), ∀ a x, ((![v284] : Fin 1 → IVec S16 32) a x).toNat < S32768.size a := fun k0_t1 v284 k0_hw101 k0_h3 => k0_hw101 k0_h3

def k0_chk102 (k0_t1 : Fin k0_t1_loop.trips) (v291 : IVec S16 32) : Prop :=
  (∀ (k0_h3 : k0_cond3 k0_t1 = 1#1), ∀ a x, ((![v291] : Fin 1 → IVec S16 32) a x).toNat < S32768.size a)
theorem k0_idx102_inb : ∀ (k0_t1 : Fin k0_t1_loop.trips) (v291 : IVec S16 32) (k0_hw102 : k0_chk102 k0_t1 v291), ∀ (k0_h3 : k0_cond3 k0_t1 = 1#1), ∀ a x, ((![v291] : Fin 1 → IVec S16 32) a x).toNat < S32768.size a := fun k0_t1 v291 k0_hw102 k0_h3 => k0_hw102 k0_h3

def k0_chk103 (k0_t1 : Fin k0_t1_loop.trips) (v298 : IVec S16 32) : Prop :=
  (∀ (k0_h3 : k0_cond3 k0_t1 = 1#1), ∀ a x, ((![v298] : Fin 1 → IVec S16 32) a x).toNat < S32768.size a)
theorem k0_idx103_inb : ∀ (k0_t1 : Fin k0_t1_loop.trips) (v298 : IVec S16 32) (k0_hw103 : k0_chk103 k0_t1 v298), ∀ (k0_h3 : k0_cond3 k0_t1 = 1#1), ∀ a x, ((![v298] : Fin 1 → IVec S16 32) a x).toNat < S32768.size a := fun k0_t1 v298 k0_hw103 k0_h3 => k0_hw103 k0_h3

def k0_chk104 (k0_t1 : Fin k0_t1_loop.trips) (v305 : IVec S16 32) : Prop :=
  (∀ (k0_h3 : k0_cond3 k0_t1 = 1#1), ∀ a x, ((![v305] : Fin 1 → IVec S16 32) a x).toNat < S32768.size a)
theorem k0_idx104_inb : ∀ (k0_t1 : Fin k0_t1_loop.trips) (v305 : IVec S16 32) (k0_hw104 : k0_chk104 k0_t1 v305), ∀ (k0_h3 : k0_cond3 k0_t1 = 1#1), ∀ a x, ((![v305] : Fin 1 → IVec S16 32) a x).toNat < S32768.size a := fun k0_t1 v305 k0_hw104 k0_h3 => k0_hw104 k0_h3

def k0_chk105 (k0_t1 : Fin k0_t1_loop.trips) (v312 : IVec S16 32) : Prop :=
  (∀ (k0_h3 : k0_cond3 k0_t1 = 1#1), ∀ a x, ((![v312] : Fin 1 → IVec S16 32) a x).toNat < S32768.size a)
theorem k0_idx105_inb : ∀ (k0_t1 : Fin k0_t1_loop.trips) (v312 : IVec S16 32) (k0_hw105 : k0_chk105 k0_t1 v312), ∀ (k0_h3 : k0_cond3 k0_t1 = 1#1), ∀ a x, ((![v312] : Fin 1 → IVec S16 32) a x).toNat < S32768.size a := fun k0_t1 v312 k0_hw105 k0_h3 => k0_hw105 k0_h3

def k0_chk106 (k0_t1 : Fin k0_t1_loop.trips) (v319 : IVec S16 32) : Prop :=
  (∀ (k0_h3 : k0_cond3 k0_t1 = 1#1), ∀ a x, ((![v319] : Fin 1 → IVec S16 32) a x).toNat < S32768.size a)
theorem k0_idx106_inb : ∀ (k0_t1 : Fin k0_t1_loop.trips) (v319 : IVec S16 32) (k0_hw106 : k0_chk106 k0_t1 v319), ∀ (k0_h3 : k0_cond3 k0_t1 = 1#1), ∀ a x, ((![v319] : Fin 1 → IVec S16 32) a x).toNat < S32768.size a := fun k0_t1 v319 k0_hw106 k0_h3 => k0_hw106 k0_h3

def k0_chk107 (k0_t1 : Fin k0_t1_loop.trips) (v326 : IVec S16 32) : Prop :=
  (∀ (k0_h3 : k0_cond3 k0_t1 = 1#1), ∀ a x, ((![v326] : Fin 1 → IVec S16 32) a x).toNat < S32768.size a)
theorem k0_idx107_inb : ∀ (k0_t1 : Fin k0_t1_loop.trips) (v326 : IVec S16 32) (k0_hw107 : k0_chk107 k0_t1 v326), ∀ (k0_h3 : k0_cond3 k0_t1 = 1#1), ∀ a x, ((![v326] : Fin 1 → IVec S16 32) a x).toNat < S32768.size a := fun k0_t1 v326 k0_hw107 k0_h3 => k0_hw107 k0_h3

def k0_chk108 (k0_t1 : Fin k0_t1_loop.trips) (v333 : IVec S16 32) : Prop :=
  (∀ (k0_h3 : k0_cond3 k0_t1 = 1#1), ∀ a x, ((![v333] : Fin 1 → IVec S16 32) a x).toNat < S32768.size a)
theorem k0_idx108_inb : ∀ (k0_t1 : Fin k0_t1_loop.trips) (v333 : IVec S16 32) (k0_hw108 : k0_chk108 k0_t1 v333), ∀ (k0_h3 : k0_cond3 k0_t1 = 1#1), ∀ a x, ((![v333] : Fin 1 → IVec S16 32) a x).toNat < S32768.size a := fun k0_t1 v333 k0_hw108 k0_h3 => k0_hw108 k0_h3

def k0_chk109 (k0_t1 : Fin k0_t1_loop.trips) (v340 : IVec S16 32) : Prop :=
  (∀ (k0_h3 : k0_cond3 k0_t1 = 1#1), ∀ a x, ((![v340] : Fin 1 → IVec S16 32) a x).toNat < S32768.size a)
theorem k0_idx109_inb : ∀ (k0_t1 : Fin k0_t1_loop.trips) (v340 : IVec S16 32) (k0_hw109 : k0_chk109 k0_t1 v340), ∀ (k0_h3 : k0_cond3 k0_t1 = 1#1), ∀ a x, ((![v340] : Fin 1 → IVec S16 32) a x).toNat < S32768.size a := fun k0_t1 v340 k0_hw109 k0_h3 => k0_hw109 k0_h3

def k0_chk110 (k0_t1 : Fin k0_t1_loop.trips) (v347 : IVec S16 32) : Prop :=
  (∀ (k0_h3 : k0_cond3 k0_t1 = 1#1), ∀ a x, ((![v347] : Fin 1 → IVec S16 32) a x).toNat < S32768.size a)
theorem k0_idx110_inb : ∀ (k0_t1 : Fin k0_t1_loop.trips) (v347 : IVec S16 32) (k0_hw110 : k0_chk110 k0_t1 v347), ∀ (k0_h3 : k0_cond3 k0_t1 = 1#1), ∀ a x, ((![v347] : Fin 1 → IVec S16 32) a x).toNat < S32768.size a := fun k0_t1 v347 k0_hw110 k0_h3 => k0_hw110 k0_h3

def k0_chk111 (k0_t1 : Fin k0_t1_loop.trips) (v354 : IVec S16 32) : Prop :=
  (∀ (k0_h3 : k0_cond3 k0_t1 = 1#1), ∀ a x, ((![v354] : Fin 1 → IVec S16 32) a x).toNat < S32768.size a)
theorem k0_idx111_inb : ∀ (k0_t1 : Fin k0_t1_loop.trips) (v354 : IVec S16 32) (k0_hw111 : k0_chk111 k0_t1 v354), ∀ (k0_h3 : k0_cond3 k0_t1 = 1#1), ∀ a x, ((![v354] : Fin 1 → IVec S16 32) a x).toNat < S32768.size a := fun k0_t1 v354 k0_hw111 k0_h3 => k0_hw111 k0_h3

def k0_chk112 (k0_t1 : Fin k0_t1_loop.trips) (v361 : IVec S16 32) : Prop :=
  (∀ (k0_h3 : k0_cond3 k0_t1 = 1#1), ∀ a x, ((![v361] : Fin 1 → IVec S16 32) a x).toNat < S32768.size a)
theorem k0_idx112_inb : ∀ (k0_t1 : Fin k0_t1_loop.trips) (v361 : IVec S16 32) (k0_hw112 : k0_chk112 k0_t1 v361), ∀ (k0_h3 : k0_cond3 k0_t1 = 1#1), ∀ a x, ((![v361] : Fin 1 → IVec S16 32) a x).toNat < S32768.size a := fun k0_t1 v361 k0_hw112 k0_h3 => k0_hw112 k0_h3

def k0_chk113 (k0_t1 : Fin k0_t1_loop.trips) (v368 : IVec S16 32) : Prop :=
  (∀ (k0_h3 : k0_cond3 k0_t1 = 1#1), ∀ a x, ((![v368] : Fin 1 → IVec S16 32) a x).toNat < S32768.size a)
theorem k0_idx113_inb : ∀ (k0_t1 : Fin k0_t1_loop.trips) (v368 : IVec S16 32) (k0_hw113 : k0_chk113 k0_t1 v368), ∀ (k0_h3 : k0_cond3 k0_t1 = 1#1), ∀ a x, ((![v368] : Fin 1 → IVec S16 32) a x).toNat < S32768.size a := fun k0_t1 v368 k0_hw113 k0_h3 => k0_hw113 k0_h3

def k0_chk114 (k0_t1 : Fin k0_t1_loop.trips) (v375 : IVec S16 32) : Prop :=
  (∀ (k0_h3 : k0_cond3 k0_t1 = 1#1), ∀ a x, ((![v375] : Fin 1 → IVec S16 32) a x).toNat < S32768.size a)
theorem k0_idx114_inb : ∀ (k0_t1 : Fin k0_t1_loop.trips) (v375 : IVec S16 32) (k0_hw114 : k0_chk114 k0_t1 v375), ∀ (k0_h3 : k0_cond3 k0_t1 = 1#1), ∀ a x, ((![v375] : Fin 1 → IVec S16 32) a x).toNat < S32768.size a := fun k0_t1 v375 k0_hw114 k0_h3 => k0_hw114 k0_h3

def k0_chk115 (k0_t1 : Fin k0_t1_loop.trips) (v382 : IVec S16 32) : Prop :=
  (∀ (k0_h3 : k0_cond3 k0_t1 = 1#1), ∀ a x, ((![v382] : Fin 1 → IVec S16 32) a x).toNat < S32768.size a)
theorem k0_idx115_inb : ∀ (k0_t1 : Fin k0_t1_loop.trips) (v382 : IVec S16 32) (k0_hw115 : k0_chk115 k0_t1 v382), ∀ (k0_h3 : k0_cond3 k0_t1 = 1#1), ∀ a x, ((![v382] : Fin 1 → IVec S16 32) a x).toNat < S32768.size a := fun k0_t1 v382 k0_hw115 k0_h3 => k0_hw115 k0_h3

def k0_chk116 (k0_t1 : Fin k0_t1_loop.trips) (v389 : IVec S16 32) : Prop :=
  (∀ (k0_h3 : k0_cond3 k0_t1 = 1#1), ∀ a x, ((![v389] : Fin 1 → IVec S16 32) a x).toNat < S32768.size a)
theorem k0_idx116_inb : ∀ (k0_t1 : Fin k0_t1_loop.trips) (v389 : IVec S16 32) (k0_hw116 : k0_chk116 k0_t1 v389), ∀ (k0_h3 : k0_cond3 k0_t1 = 1#1), ∀ a x, ((![v389] : Fin 1 → IVec S16 32) a x).toNat < S32768.size a := fun k0_t1 v389 k0_hw116 k0_h3 => k0_hw116 k0_h3

def k0_chk117 (k0_t1 : Fin k0_t1_loop.trips) (v396 : IVec S16 32) : Prop :=
  (∀ (k0_h3 : k0_cond3 k0_t1 = 1#1), ∀ a x, ((![v396] : Fin 1 → IVec S16 32) a x).toNat < S32768.size a)
theorem k0_idx117_inb : ∀ (k0_t1 : Fin k0_t1_loop.trips) (v396 : IVec S16 32) (k0_hw117 : k0_chk117 k0_t1 v396), ∀ (k0_h3 : k0_cond3 k0_t1 = 1#1), ∀ a x, ((![v396] : Fin 1 → IVec S16 32) a x).toNat < S32768.size a := fun k0_t1 v396 k0_hw117 k0_h3 => k0_hw117 k0_h3

def k0_chk118 (k0_t1 : Fin k0_t1_loop.trips) (v403 : IVec S16 32) : Prop :=
  (∀ (k0_h3 : k0_cond3 k0_t1 = 1#1), ∀ a x, ((![v403] : Fin 1 → IVec S16 32) a x).toNat < S32768.size a)
theorem k0_idx118_inb : ∀ (k0_t1 : Fin k0_t1_loop.trips) (v403 : IVec S16 32) (k0_hw118 : k0_chk118 k0_t1 v403), ∀ (k0_h3 : k0_cond3 k0_t1 = 1#1), ∀ a x, ((![v403] : Fin 1 → IVec S16 32) a x).toNat < S32768.size a := fun k0_t1 v403 k0_hw118 k0_h3 => k0_hw118 k0_h3

def k0_chk119 (k0_t1 : Fin k0_t1_loop.trips) (v410 : IVec S16 32) : Prop :=
  (∀ (k0_h3 : k0_cond3 k0_t1 = 1#1), ∀ a x, ((![v410] : Fin 1 → IVec S16 32) a x).toNat < S32768.size a)
theorem k0_idx119_inb : ∀ (k0_t1 : Fin k0_t1_loop.trips) (v410 : IVec S16 32) (k0_hw119 : k0_chk119 k0_t1 v410), ∀ (k0_h3 : k0_cond3 k0_t1 = 1#1), ∀ a x, ((![v410] : Fin 1 → IVec S16 32) a x).toNat < S32768.size a := fun k0_t1 v410 k0_hw119 k0_h3 => k0_hw119 k0_h3

def k0_chk120 (k0_t1 : Fin k0_t1_loop.trips) (v417 : IVec S16 32) : Prop :=
  (∀ (k0_h3 : k0_cond3 k0_t1 = 1#1), ∀ a x, ((![v417] : Fin 1 → IVec S16 32) a x).toNat < S32768.size a)
theorem k0_idx120_inb : ∀ (k0_t1 : Fin k0_t1_loop.trips) (v417 : IVec S16 32) (k0_hw120 : k0_chk120 k0_t1 v417), ∀ (k0_h3 : k0_cond3 k0_t1 = 1#1), ∀ a x, ((![v417] : Fin 1 → IVec S16 32) a x).toNat < S32768.size a := fun k0_t1 v417 k0_hw120 k0_h3 => k0_hw120 k0_h3

def k0_chk121 (k0_t1 : Fin k0_t1_loop.trips) (v424 : IVec S16 32) : Prop :=
  (∀ (k0_h3 : k0_cond3 k0_t1 = 1#1), ∀ a x, ((![v424] : Fin 1 → IVec S16 32) a x).toNat < S32768.size a)
theorem k0_idx121_inb : ∀ (k0_t1 : Fin k0_t1_loop.trips) (v424 : IVec S16 32) (k0_hw121 : k0_chk121 k0_t1 v424), ∀ (k0_h3 : k0_cond3 k0_t1 = 1#1), ∀ a x, ((![v424] : Fin 1 → IVec S16 32) a x).toNat < S32768.size a := fun k0_t1 v424 k0_hw121 k0_h3 => k0_hw121 k0_h3

def k0_chk122 (k0_t1 : Fin k0_t1_loop.trips) (v431 : IVec S16 32) : Prop :=
  (∀ (k0_h3 : k0_cond3 k0_t1 = 1#1), ∀ a x, ((![v431] : Fin 1 → IVec S16 32) a x).toNat < S32768.size a)
theorem k0_idx122_inb : ∀ (k0_t1 : Fin k0_t1_loop.trips) (v431 : IVec S16 32) (k0_hw122 : k0_chk122 k0_t1 v431), ∀ (k0_h3 : k0_cond3 k0_t1 = 1#1), ∀ a x, ((![v431] : Fin 1 → IVec S16 32) a x).toNat < S32768.size a := fun k0_t1 v431 k0_hw122 k0_h3 => k0_hw122 k0_h3

def k0_chk123 (k0_t1 : Fin k0_t1_loop.trips) (v438 : IVec S16 32) : Prop :=
  (∀ (k0_h3 : k0_cond3 k0_t1 = 1#1), ∀ a x, ((![v438] : Fin 1 → IVec S16 32) a x).toNat < S32768.size a)
theorem k0_idx123_inb : ∀ (k0_t1 : Fin k0_t1_loop.trips) (v438 : IVec S16 32) (k0_hw123 : k0_chk123 k0_t1 v438), ∀ (k0_h3 : k0_cond3 k0_t1 = 1#1), ∀ a x, ((![v438] : Fin 1 → IVec S16 32) a x).toNat < S32768.size a := fun k0_t1 v438 k0_hw123 k0_h3 => k0_hw123 k0_h3

def k0_chk124 (k0_t1 : Fin k0_t1_loop.trips) (v445 : IVec S16 32) : Prop :=
  (∀ (k0_h3 : k0_cond3 k0_t1 = 1#1), ∀ a x, ((![v445] : Fin 1 → IVec S16 32) a x).toNat < S32768.size a)
theorem k0_idx124_inb : ∀ (k0_t1 : Fin k0_t1_loop.trips) (v445 : IVec S16 32) (k0_hw124 : k0_chk124 k0_t1 v445), ∀ (k0_h3 : k0_cond3 k0_t1 = 1#1), ∀ a x, ((![v445] : Fin 1 → IVec S16 32) a x).toNat < S32768.size a := fun k0_t1 v445 k0_hw124 k0_h3 => k0_hw124 k0_h3

def k0_chk125 (k0_t1 : Fin k0_t1_loop.trips) (v452 : IVec S16 32) : Prop :=
  (∀ (k0_h3 : k0_cond3 k0_t1 = 1#1), ∀ a x, ((![v452] : Fin 1 → IVec S16 32) a x).toNat < S32768.size a)
theorem k0_idx125_inb : ∀ (k0_t1 : Fin k0_t1_loop.trips) (v452 : IVec S16 32) (k0_hw125 : k0_chk125 k0_t1 v452), ∀ (k0_h3 : k0_cond3 k0_t1 = 1#1), ∀ a x, ((![v452] : Fin 1 → IVec S16 32) a x).toNat < S32768.size a := fun k0_t1 v452 k0_hw125 k0_h3 => k0_hw125 k0_h3

def k0_chk126 (k0_t1 : Fin k0_t1_loop.trips) (v459 : IVec S16 32) : Prop :=
  (∀ (k0_h3 : k0_cond3 k0_t1 = 1#1), ∀ a x, ((![v459] : Fin 1 → IVec S16 32) a x).toNat < S32768.size a)
theorem k0_idx126_inb : ∀ (k0_t1 : Fin k0_t1_loop.trips) (v459 : IVec S16 32) (k0_hw126 : k0_chk126 k0_t1 v459), ∀ (k0_h3 : k0_cond3 k0_t1 = 1#1), ∀ a x, ((![v459] : Fin 1 → IVec S16 32) a x).toNat < S32768.size a := fun k0_t1 v459 k0_hw126 k0_h3 => k0_hw126 k0_h3

def k0_chk127 (k0_t1 : Fin k0_t1_loop.trips) (v466 : IVec S16 32) : Prop :=
  (∀ (k0_h3 : k0_cond3 k0_t1 = 1#1), ∀ a x, ((![v466] : Fin 1 → IVec S16 32) a x).toNat < S32768.size a)
theorem k0_idx127_inb : ∀ (k0_t1 : Fin k0_t1_loop.trips) (v466 : IVec S16 32) (k0_hw127 : k0_chk127 k0_t1 v466), ∀ (k0_h3 : k0_cond3 k0_t1 = 1#1), ∀ a x, ((![v466] : Fin 1 → IVec S16 32) a x).toNat < S32768.size a := fun k0_t1 v466 k0_hw127 k0_h3 => k0_hw127 k0_h3

def k0_chk128 (k0_t1 : Fin k0_t1_loop.trips) (v473 : IVec S16 32) : Prop :=
  (∀ (k0_h3 : k0_cond3 k0_t1 = 1#1), ∀ a x, ((![v473] : Fin 1 → IVec S16 32) a x).toNat < S32768.size a)
theorem k0_idx128_inb : ∀ (k0_t1 : Fin k0_t1_loop.trips) (v473 : IVec S16 32) (k0_hw128 : k0_chk128 k0_t1 v473), ∀ (k0_h3 : k0_cond3 k0_t1 = 1#1), ∀ a x, ((![v473] : Fin 1 → IVec S16 32) a x).toNat < S32768.size a := fun k0_t1 v473 k0_hw128 k0_h3 => k0_hw128 k0_h3

def k0_chk129 (k0_t1 : Fin k0_t1_loop.trips) (v480 : IVec S16 32) : Prop :=
  (∀ (k0_h3 : k0_cond3 k0_t1 = 1#1), ∀ a x, ((![v480] : Fin 1 → IVec S16 32) a x).toNat < S32768.size a)
theorem k0_idx129_inb : ∀ (k0_t1 : Fin k0_t1_loop.trips) (v480 : IVec S16 32) (k0_hw129 : k0_chk129 k0_t1 v480), ∀ (k0_h3 : k0_cond3 k0_t1 = 1#1), ∀ a x, ((![v480] : Fin 1 → IVec S16 32) a x).toNat < S32768.size a := fun k0_t1 v480 k0_hw129 k0_h3 => k0_hw129 k0_h3

def k0_chk130 (k0_t1 : Fin k0_t1_loop.trips) (v487 : IVec S16 32) : Prop :=
  (∀ (k0_h3 : k0_cond3 k0_t1 = 1#1), ∀ a x, ((![v487] : Fin 1 → IVec S16 32) a x).toNat < S32768.size a)
theorem k0_idx130_inb : ∀ (k0_t1 : Fin k0_t1_loop.trips) (v487 : IVec S16 32) (k0_hw130 : k0_chk130 k0_t1 v487), ∀ (k0_h3 : k0_cond3 k0_t1 = 1#1), ∀ a x, ((![v487] : Fin 1 → IVec S16 32) a x).toNat < S32768.size a := fun k0_t1 v487 k0_hw130 k0_h3 => k0_hw130 k0_h3

def k0_chk131 (k0_t1 : Fin k0_t1_loop.trips) (v494 : IVec S16 32) : Prop :=
  (∀ (k0_h3 : k0_cond3 k0_t1 = 1#1), ∀ a x, ((![v494] : Fin 1 → IVec S16 32) a x).toNat < S32768.size a)
theorem k0_idx131_inb : ∀ (k0_t1 : Fin k0_t1_loop.trips) (v494 : IVec S16 32) (k0_hw131 : k0_chk131 k0_t1 v494), ∀ (k0_h3 : k0_cond3 k0_t1 = 1#1), ∀ a x, ((![v494] : Fin 1 → IVec S16 32) a x).toNat < S32768.size a := fun k0_t1 v494 k0_hw131 k0_h3 => k0_hw131 k0_h3

def k0_chk132 (k0_t1 : Fin k0_t1_loop.trips) (v501 : IVec S16 32) : Prop :=
  (∀ (k0_h3 : k0_cond3 k0_t1 = 1#1), ∀ a x, ((![v501] : Fin 1 → IVec S16 32) a x).toNat < S32768.size a)
theorem k0_idx132_inb : ∀ (k0_t1 : Fin k0_t1_loop.trips) (v501 : IVec S16 32) (k0_hw132 : k0_chk132 k0_t1 v501), ∀ (k0_h3 : k0_cond3 k0_t1 = 1#1), ∀ a x, ((![v501] : Fin 1 → IVec S16 32) a x).toNat < S32768.size a := fun k0_t1 v501 k0_hw132 k0_h3 => k0_hw132 k0_h3
def k0_off12 (k0_t3 : Fin k0_t3_loop.trips) : Fin 1 → Nat :=
  let c0_i32_23 : BitVec 32 := 0#32
  let c0_i32_19 : BitVec 32 := 0#32
  let c1_i32_20 : BitVec 32 := 1#32
  let arg15 : BitVec 32 := Scf.iv c0_i32_19 c1_i32_20 k0_t3
  let c1_i32_22 : BitVec 32 := 1#32
  let v43 : BitVec 32 := Scalar.muli arg15 c1_i32_22
  let v44 : BitVec 32 := Scalar.addi c0_i32_23 v43
  let c16_i32_40 : BitVec 32 := 16#32
  let v512 : BitVec 32 := Scalar.muli v44 c16_i32_40
  let v513 : Index := Scalar.indexCast v512
  ![v513.toNat]

def k0_chk133 (k0_t1 : Fin k0_t1_loop.trips) (v515 : IVec S16 32) : Prop :=
  (∀ (k0_h3 : k0_cond3 k0_t1 = 1#1), ∀ a x, ((![v515] : Fin 1 → IVec S16 32) a x).toNat < S32768.size a)
theorem k0_idx133_inb : ∀ (k0_t1 : Fin k0_t1_loop.trips) (v515 : IVec S16 32) (k0_hw133 : k0_chk133 k0_t1 v515), ∀ (k0_h3 : k0_cond3 k0_t1 = 1#1), ∀ a x, ((![v515] : Fin 1 → IVec S16 32) a x).toNat < S32768.size a := fun k0_t1 v515 k0_hw133 k0_h3 => k0_hw133 k0_h3

def k0_chk134 (k0_t1 : Fin k0_t1_loop.trips) (v529 : IVec S16 32) : Prop :=
  (∀ (k0_h3 : k0_cond3 k0_t1 = 1#1), ∀ a x, ((![v529] : Fin 1 → IVec S16 32) a x).toNat < S48.size a)
theorem k0_idx134_inb : ∀ (k0_t1 : Fin k0_t1_loop.trips) (v529 : IVec S16 32) (k0_hw134 : k0_chk134 k0_t1 v529), ∀ (k0_h3 : k0_cond3 k0_t1 = 1#1), ∀ a x, ((![v529] : Fin 1 → IVec S16 32) a x).toNat < S48.size a := fun k0_t1 v529 k0_hw134 k0_h3 => k0_hw134 k0_h3

def k0_chk135 (k0_t1 : Fin k0_t1_loop.trips) (v531 : IVec S16 32) : Prop :=
  (∀ (k0_h3 : k0_cond3 k0_t1 = 1#1), ∀ a x, ((![v531] : Fin 1 → IVec S16 32) a x).toNat < S48.size a)
theorem k0_idx135_inb : ∀ (k0_t1 : Fin k0_t1_loop.trips) (v531 : IVec S16 32) (k0_hw135 : k0_chk135 k0_t1 v531), ∀ (k0_h3 : k0_cond3 k0_t1 = 1#1), ∀ a x, ((![v531] : Fin 1 → IVec S16 32) a x).toNat < S48.size a := fun k0_t1 v531 k0_hw135 k0_h3 => k0_hw135 k0_h3

def k0_chk136 (k0_t1 : Fin k0_t1_loop.trips) (v533 : IVec S16 32) : Prop :=
  (∀ (k0_h3 : k0_cond3 k0_t1 = 1#1), ∀ a x, ((![v533] : Fin 1 → IVec S16 32) a x).toNat < S48.size a)
theorem k0_idx136_inb : ∀ (k0_t1 : Fin k0_t1_loop.trips) (v533 : IVec S16 32) (k0_hw136 : k0_chk136 k0_t1 v533), ∀ (k0_h3 : k0_cond3 k0_t1 = 1#1), ∀ a x, ((![v533] : Fin 1 → IVec S16 32) a x).toNat < S48.size a := fun k0_t1 v533 k0_hw136 k0_h3 => k0_hw136 k0_h3
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v17 : BitVec 1 := Scalar.cmpi .eq v1 c0_i32_5
  let v18 : BitVec 32 := Scalar.extui v17
  let c0_i32_6 : BitVec 32 := 0#32
  let v19 : BitVec 1 := Scalar.cmpi .ne v18 c0_i32_6
  v19

@[reducible] def k0_t4_loop : Scf.Loop 32 :=
  let c0_i32_8 : BitVec 32 := 0#32
  let c32_i32 : BitVec 32 := 32#32
  let v23 : BitVec 32 := Scalar.addi c0_i32_8 c32_i32
  let c1_i32_9 : BitVec 32 := 1#32
  ⟨c0_i32_8, v23, c1_i32_9⟩

def k0_chk137 (i : grid0.Coords) (v41 : IVec S16 32) : Prop :=
  (∀ (k0_h5 : k0_cond5 i = 1#1), ∀ a x, ((![v41] : Fin 1 → IVec S16 32) a x).toNat < S32768.size a)
theorem k0_idx137_inb : ∀ (i : grid0.Coords) (v41 : IVec S16 32) (k0_hw137 : k0_chk137 i v41), ∀ (k0_h5 : k0_cond5 i = 1#1), ∀ a x, ((![v41] : Fin 1 → IVec S16 32) a x).toNat < S32768.size a := fun i v41 k0_hw137 k0_h5 => k0_hw137 k0_h5

def k0_chk138 (i : grid0.Coords) (v48 : IVec S16 32) : Prop :=
  (∀ (k0_h5 : k0_cond5 i = 1#1), ∀ a x, ((![v48] : Fin 1 → IVec S16 32) a x).toNat < S32768.size a)
theorem k0_idx138_inb : ∀ (i : grid0.Coords) (v48 : IVec S16 32) (k0_hw138 : k0_chk138 i v48), ∀ (k0_h5 : k0_cond5 i = 1#1), ∀ a x, ((![v48] : Fin 1 → IVec S16 32) a x).toNat < S32768.size a := fun i v48 k0_hw138 k0_h5 => k0_hw138 k0_h5

def k0_chk139 (i : grid0.Coords) (v55 : IVec S16 32) : Prop :=
  (∀ (k0_h5 : k0_cond5 i = 1#1), ∀ a x, ((![v55] : Fin 1 → IVec S16 32) a x).toNat < S32768.size a)
theorem k0_idx139_inb : ∀ (i : grid0.Coords) (v55 : IVec S16 32) (k0_hw139 : k0_chk139 i v55), ∀ (k0_h5 : k0_cond5 i = 1#1), ∀ a x, ((![v55] : Fin 1 → IVec S16 32) a x).toNat < S32768.size a := fun i v55 k0_hw139 k0_h5 => k0_hw139 k0_h5

def k0_chk140 (i : grid0.Coords) (v62 : IVec S16 32) : Prop :=
  (∀ (k0_h5 : k0_cond5 i = 1#1), ∀ a x, ((![v62] : Fin 1 → IVec S16 32) a x).toNat < S32768.size a)
theorem k0_idx140_inb : ∀ (i : grid0.Coords) (v62 : IVec S16 32) (k0_hw140 : k0_chk140 i v62), ∀ (k0_h5 : k0_cond5 i = 1#1), ∀ a x, ((![v62] : Fin 1 → IVec S16 32) a x).toNat < S32768.size a := fun i v62 k0_hw140 k0_h5 => k0_hw140 k0_h5

def k0_chk141 (i : grid0.Coords) (v69 : IVec S16 32) : Prop :=
  (∀ (k0_h5 : k0_cond5 i = 1#1), ∀ a x, ((![v69] : Fin 1 → IVec S16 32) a x).toNat < S32768.size a)
theorem k0_idx141_inb : ∀ (i : grid0.Coords) (v69 : IVec S16 32) (k0_hw141 : k0_chk141 i v69), ∀ (k0_h5 : k0_cond5 i = 1#1), ∀ a x, ((![v69] : Fin 1 → IVec S16 32) a x).toNat < S32768.size a := fun i v69 k0_hw141 k0_h5 => k0_hw141 k0_h5

def k0_chk142 (i : grid0.Coords) (v76 : IVec S16 32) : Prop :=
  (∀ (k0_h5 : k0_cond5 i = 1#1), ∀ a x, ((![v76] : Fin 1 → IVec S16 32) a x).toNat < S32768.size a)
theorem k0_idx142_inb : ∀ (i : grid0.Coords) (v76 : IVec S16 32) (k0_hw142 : k0_chk142 i v76), ∀ (k0_h5 : k0_cond5 i = 1#1), ∀ a x, ((![v76] : Fin 1 → IVec S16 32) a x).toNat < S32768.size a := fun i v76 k0_hw142 k0_h5 => k0_hw142 k0_h5

def k0_chk143 (i : grid0.Coords) (v83 : IVec S16 32) : Prop :=
  (∀ (k0_h5 : k0_cond5 i = 1#1), ∀ a x, ((![v83] : Fin 1 → IVec S16 32) a x).toNat < S32768.size a)
theorem k0_idx143_inb : ∀ (i : grid0.Coords) (v83 : IVec S16 32) (k0_hw143 : k0_chk143 i v83), ∀ (k0_h5 : k0_cond5 i = 1#1), ∀ a x, ((![v83] : Fin 1 → IVec S16 32) a x).toNat < S32768.size a := fun i v83 k0_hw143 k0_h5 => k0_hw143 k0_h5

def k0_chk144 (i : grid0.Coords) (v90 : IVec S16 32) : Prop :=
  (∀ (k0_h5 : k0_cond5 i = 1#1), ∀ a x, ((![v90] : Fin 1 → IVec S16 32) a x).toNat < S32768.size a)
theorem k0_idx144_inb : ∀ (i : grid0.Coords) (v90 : IVec S16 32) (k0_hw144 : k0_chk144 i v90), ∀ (k0_h5 : k0_cond5 i = 1#1), ∀ a x, ((![v90] : Fin 1 → IVec S16 32) a x).toNat < S32768.size a := fun i v90 k0_hw144 k0_h5 => k0_hw144 k0_h5

def k0_chk145 (i : grid0.Coords) (v97 : IVec S16 32) : Prop :=
  (∀ (k0_h5 : k0_cond5 i = 1#1), ∀ a x, ((![v97] : Fin 1 → IVec S16 32) a x).toNat < S32768.size a)
theorem k0_idx145_inb : ∀ (i : grid0.Coords) (v97 : IVec S16 32) (k0_hw145 : k0_chk145 i v97), ∀ (k0_h5 : k0_cond5 i = 1#1), ∀ a x, ((![v97] : Fin 1 → IVec S16 32) a x).toNat < S32768.size a := fun i v97 k0_hw145 k0_h5 => k0_hw145 k0_h5

def k0_chk146 (i : grid0.Coords) (v104 : IVec S16 32) : Prop :=
  (∀ (k0_h5 : k0_cond5 i = 1#1), ∀ a x, ((![v104] : Fin 1 → IVec S16 32) a x).toNat < S32768.size a)
theorem k0_idx146_inb : ∀ (i : grid0.Coords) (v104 : IVec S16 32) (k0_hw146 : k0_chk146 i v104), ∀ (k0_h5 : k0_cond5 i = 1#1), ∀ a x, ((![v104] : Fin 1 → IVec S16 32) a x).toNat < S32768.size a := fun i v104 k0_hw146 k0_h5 => k0_hw146 k0_h5

def k0_chk147 (i : grid0.Coords) (v111 : IVec S16 32) : Prop :=
  (∀ (k0_h5 : k0_cond5 i = 1#1), ∀ a x, ((![v111] : Fin 1 → IVec S16 32) a x).toNat < S32768.size a)
theorem k0_idx147_inb : ∀ (i : grid0.Coords) (v111 : IVec S16 32) (k0_hw147 : k0_chk147 i v111), ∀ (k0_h5 : k0_cond5 i = 1#1), ∀ a x, ((![v111] : Fin 1 → IVec S16 32) a x).toNat < S32768.size a := fun i v111 k0_hw147 k0_h5 => k0_hw147 k0_h5

def k0_chk148 (i : grid0.Coords) (v118 : IVec S16 32) : Prop :=
  (∀ (k0_h5 : k0_cond5 i = 1#1), ∀ a x, ((![v118] : Fin 1 → IVec S16 32) a x).toNat < S32768.size a)
theorem k0_idx148_inb : ∀ (i : grid0.Coords) (v118 : IVec S16 32) (k0_hw148 : k0_chk148 i v118), ∀ (k0_h5 : k0_cond5 i = 1#1), ∀ a x, ((![v118] : Fin 1 → IVec S16 32) a x).toNat < S32768.size a := fun i v118 k0_hw148 k0_h5 => k0_hw148 k0_h5

def k0_chk149 (i : grid0.Coords) (v125 : IVec S16 32) : Prop :=
  (∀ (k0_h5 : k0_cond5 i = 1#1), ∀ a x, ((![v125] : Fin 1 → IVec S16 32) a x).toNat < S32768.size a)
theorem k0_idx149_inb : ∀ (i : grid0.Coords) (v125 : IVec S16 32) (k0_hw149 : k0_chk149 i v125), ∀ (k0_h5 : k0_cond5 i = 1#1), ∀ a x, ((![v125] : Fin 1 → IVec S16 32) a x).toNat < S32768.size a := fun i v125 k0_hw149 k0_h5 => k0_hw149 k0_h5

def k0_chk150 (i : grid0.Coords) (v132 : IVec S16 32) : Prop :=
  (∀ (k0_h5 : k0_cond5 i = 1#1), ∀ a x, ((![v132] : Fin 1 → IVec S16 32) a x).toNat < S32768.size a)
theorem k0_idx150_inb : ∀ (i : grid0.Coords) (v132 : IVec S16 32) (k0_hw150 : k0_chk150 i v132), ∀ (k0_h5 : k0_cond5 i = 1#1), ∀ a x, ((![v132] : Fin 1 → IVec S16 32) a x).toNat < S32768.size a := fun i v132 k0_hw150 k0_h5 => k0_hw150 k0_h5

def k0_chk151 (i : grid0.Coords) (v139 : IVec S16 32) : Prop :=
  (∀ (k0_h5 : k0_cond5 i = 1#1), ∀ a x, ((![v139] : Fin 1 → IVec S16 32) a x).toNat < S32768.size a)
theorem k0_idx151_inb : ∀ (i : grid0.Coords) (v139 : IVec S16 32) (k0_hw151 : k0_chk151 i v139), ∀ (k0_h5 : k0_cond5 i = 1#1), ∀ a x, ((![v139] : Fin 1 → IVec S16 32) a x).toNat < S32768.size a := fun i v139 k0_hw151 k0_h5 => k0_hw151 k0_h5

def k0_chk152 (i : grid0.Coords) (v146 : IVec S16 32) : Prop :=
  (∀ (k0_h5 : k0_cond5 i = 1#1), ∀ a x, ((![v146] : Fin 1 → IVec S16 32) a x).toNat < S32768.size a)
theorem k0_idx152_inb : ∀ (i : grid0.Coords) (v146 : IVec S16 32) (k0_hw152 : k0_chk152 i v146), ∀ (k0_h5 : k0_cond5 i = 1#1), ∀ a x, ((![v146] : Fin 1 → IVec S16 32) a x).toNat < S32768.size a := fun i v146 k0_hw152 k0_h5 => k0_hw152 k0_h5

def k0_chk153 (i : grid0.Coords) (v153 : IVec S16 32) : Prop :=
  (∀ (k0_h5 : k0_cond5 i = 1#1), ∀ a x, ((![v153] : Fin 1 → IVec S16 32) a x).toNat < S32768.size a)
theorem k0_idx153_inb : ∀ (i : grid0.Coords) (v153 : IVec S16 32) (k0_hw153 : k0_chk153 i v153), ∀ (k0_h5 : k0_cond5 i = 1#1), ∀ a x, ((![v153] : Fin 1 → IVec S16 32) a x).toNat < S32768.size a := fun i v153 k0_hw153 k0_h5 => k0_hw153 k0_h5

def k0_chk154 (i : grid0.Coords) (v160 : IVec S16 32) : Prop :=
  (∀ (k0_h5 : k0_cond5 i = 1#1), ∀ a x, ((![v160] : Fin 1 → IVec S16 32) a x).toNat < S32768.size a)
theorem k0_idx154_inb : ∀ (i : grid0.Coords) (v160 : IVec S16 32) (k0_hw154 : k0_chk154 i v160), ∀ (k0_h5 : k0_cond5 i = 1#1), ∀ a x, ((![v160] : Fin 1 → IVec S16 32) a x).toNat < S32768.size a := fun i v160 k0_hw154 k0_h5 => k0_hw154 k0_h5

def k0_chk155 (i : grid0.Coords) (v167 : IVec S16 32) : Prop :=
  (∀ (k0_h5 : k0_cond5 i = 1#1), ∀ a x, ((![v167] : Fin 1 → IVec S16 32) a x).toNat < S32768.size a)
theorem k0_idx155_inb : ∀ (i : grid0.Coords) (v167 : IVec S16 32) (k0_hw155 : k0_chk155 i v167), ∀ (k0_h5 : k0_cond5 i = 1#1), ∀ a x, ((![v167] : Fin 1 → IVec S16 32) a x).toNat < S32768.size a := fun i v167 k0_hw155 k0_h5 => k0_hw155 k0_h5

def k0_chk156 (i : grid0.Coords) (v174 : IVec S16 32) : Prop :=
  (∀ (k0_h5 : k0_cond5 i = 1#1), ∀ a x, ((![v174] : Fin 1 → IVec S16 32) a x).toNat < S32768.size a)
theorem k0_idx156_inb : ∀ (i : grid0.Coords) (v174 : IVec S16 32) (k0_hw156 : k0_chk156 i v174), ∀ (k0_h5 : k0_cond5 i = 1#1), ∀ a x, ((![v174] : Fin 1 → IVec S16 32) a x).toNat < S32768.size a := fun i v174 k0_hw156 k0_h5 => k0_hw156 k0_h5

def k0_chk157 (i : grid0.Coords) (v181 : IVec S16 32) : Prop :=
  (∀ (k0_h5 : k0_cond5 i = 1#1), ∀ a x, ((![v181] : Fin 1 → IVec S16 32) a x).toNat < S32768.size a)
theorem k0_idx157_inb : ∀ (i : grid0.Coords) (v181 : IVec S16 32) (k0_hw157 : k0_chk157 i v181), ∀ (k0_h5 : k0_cond5 i = 1#1), ∀ a x, ((![v181] : Fin 1 → IVec S16 32) a x).toNat < S32768.size a := fun i v181 k0_hw157 k0_h5 => k0_hw157 k0_h5

def k0_chk158 (i : grid0.Coords) (v188 : IVec S16 32) : Prop :=
  (∀ (k0_h5 : k0_cond5 i = 1#1), ∀ a x, ((![v188] : Fin 1 → IVec S16 32) a x).toNat < S32768.size a)
theorem k0_idx158_inb : ∀ (i : grid0.Coords) (v188 : IVec S16 32) (k0_hw158 : k0_chk158 i v188), ∀ (k0_h5 : k0_cond5 i = 1#1), ∀ a x, ((![v188] : Fin 1 → IVec S16 32) a x).toNat < S32768.size a := fun i v188 k0_hw158 k0_h5 => k0_hw158 k0_h5

def k0_chk159 (i : grid0.Coords) (v195 : IVec S16 32) : Prop :=
  (∀ (k0_h5 : k0_cond5 i = 1#1), ∀ a x, ((![v195] : Fin 1 → IVec S16 32) a x).toNat < S32768.size a)
theorem k0_idx159_inb : ∀ (i : grid0.Coords) (v195 : IVec S16 32) (k0_hw159 : k0_chk159 i v195), ∀ (k0_h5 : k0_cond5 i = 1#1), ∀ a x, ((![v195] : Fin 1 → IVec S16 32) a x).toNat < S32768.size a := fun i v195 k0_hw159 k0_h5 => k0_hw159 k0_h5

def k0_chk160 (i : grid0.Coords) (v202 : IVec S16 32) : Prop :=
  (∀ (k0_h5 : k0_cond5 i = 1#1), ∀ a x, ((![v202] : Fin 1 → IVec S16 32) a x).toNat < S32768.size a)
theorem k0_idx160_inb : ∀ (i : grid0.Coords) (v202 : IVec S16 32) (k0_hw160 : k0_chk160 i v202), ∀ (k0_h5 : k0_cond5 i = 1#1), ∀ a x, ((![v202] : Fin 1 → IVec S16 32) a x).toNat < S32768.size a := fun i v202 k0_hw160 k0_h5 => k0_hw160 k0_h5

def k0_chk161 (i : grid0.Coords) (v209 : IVec S16 32) : Prop :=
  (∀ (k0_h5 : k0_cond5 i = 1#1), ∀ a x, ((![v209] : Fin 1 → IVec S16 32) a x).toNat < S32768.size a)
theorem k0_idx161_inb : ∀ (i : grid0.Coords) (v209 : IVec S16 32) (k0_hw161 : k0_chk161 i v209), ∀ (k0_h5 : k0_cond5 i = 1#1), ∀ a x, ((![v209] : Fin 1 → IVec S16 32) a x).toNat < S32768.size a := fun i v209 k0_hw161 k0_h5 => k0_hw161 k0_h5

def k0_chk162 (i : grid0.Coords) (v216 : IVec S16 32) : Prop :=
  (∀ (k0_h5 : k0_cond5 i = 1#1), ∀ a x, ((![v216] : Fin 1 → IVec S16 32) a x).toNat < S32768.size a)
theorem k0_idx162_inb : ∀ (i : grid0.Coords) (v216 : IVec S16 32) (k0_hw162 : k0_chk162 i v216), ∀ (k0_h5 : k0_cond5 i = 1#1), ∀ a x, ((![v216] : Fin 1 → IVec S16 32) a x).toNat < S32768.size a := fun i v216 k0_hw162 k0_h5 => k0_hw162 k0_h5

def k0_chk163 (i : grid0.Coords) (v223 : IVec S16 32) : Prop :=
  (∀ (k0_h5 : k0_cond5 i = 1#1), ∀ a x, ((![v223] : Fin 1 → IVec S16 32) a x).toNat < S32768.size a)
theorem k0_idx163_inb : ∀ (i : grid0.Coords) (v223 : IVec S16 32) (k0_hw163 : k0_chk163 i v223), ∀ (k0_h5 : k0_cond5 i = 1#1), ∀ a x, ((![v223] : Fin 1 → IVec S16 32) a x).toNat < S32768.size a := fun i v223 k0_hw163 k0_h5 => k0_hw163 k0_h5

def k0_chk164 (i : grid0.Coords) (v230 : IVec S16 32) : Prop :=
  (∀ (k0_h5 : k0_cond5 i = 1#1), ∀ a x, ((![v230] : Fin 1 → IVec S16 32) a x).toNat < S32768.size a)
theorem k0_idx164_inb : ∀ (i : grid0.Coords) (v230 : IVec S16 32) (k0_hw164 : k0_chk164 i v230), ∀ (k0_h5 : k0_cond5 i = 1#1), ∀ a x, ((![v230] : Fin 1 → IVec S16 32) a x).toNat < S32768.size a := fun i v230 k0_hw164 k0_h5 => k0_hw164 k0_h5

def k0_chk165 (i : grid0.Coords) (v237 : IVec S16 32) : Prop :=
  (∀ (k0_h5 : k0_cond5 i = 1#1), ∀ a x, ((![v237] : Fin 1 → IVec S16 32) a x).toNat < S32768.size a)
theorem k0_idx165_inb : ∀ (i : grid0.Coords) (v237 : IVec S16 32) (k0_hw165 : k0_chk165 i v237), ∀ (k0_h5 : k0_cond5 i = 1#1), ∀ a x, ((![v237] : Fin 1 → IVec S16 32) a x).toNat < S32768.size a := fun i v237 k0_hw165 k0_h5 => k0_hw165 k0_h5

def k0_chk166 (i : grid0.Coords) (v244 : IVec S16 32) : Prop :=
  (∀ (k0_h5 : k0_cond5 i = 1#1), ∀ a x, ((![v244] : Fin 1 → IVec S16 32) a x).toNat < S32768.size a)
theorem k0_idx166_inb : ∀ (i : grid0.Coords) (v244 : IVec S16 32) (k0_hw166 : k0_chk166 i v244), ∀ (k0_h5 : k0_cond5 i = 1#1), ∀ a x, ((![v244] : Fin 1 → IVec S16 32) a x).toNat < S32768.size a := fun i v244 k0_hw166 k0_h5 => k0_hw166 k0_h5

def k0_chk167 (i : grid0.Coords) (v251 : IVec S16 32) : Prop :=
  (∀ (k0_h5 : k0_cond5 i = 1#1), ∀ a x, ((![v251] : Fin 1 → IVec S16 32) a x).toNat < S32768.size a)
theorem k0_idx167_inb : ∀ (i : grid0.Coords) (v251 : IVec S16 32) (k0_hw167 : k0_chk167 i v251), ∀ (k0_h5 : k0_cond5 i = 1#1), ∀ a x, ((![v251] : Fin 1 → IVec S16 32) a x).toNat < S32768.size a := fun i v251 k0_hw167 k0_h5 => k0_hw167 k0_h5

def k0_chk168 (i : grid0.Coords) (v258 : IVec S16 32) : Prop :=
  (∀ (k0_h5 : k0_cond5 i = 1#1), ∀ a x, ((![v258] : Fin 1 → IVec S16 32) a x).toNat < S32768.size a)
theorem k0_idx168_inb : ∀ (i : grid0.Coords) (v258 : IVec S16 32) (k0_hw168 : k0_chk168 i v258), ∀ (k0_h5 : k0_cond5 i = 1#1), ∀ a x, ((![v258] : Fin 1 → IVec S16 32) a x).toNat < S32768.size a := fun i v258 k0_hw168 k0_h5 => k0_hw168 k0_h5

def k0_chk169 (i : grid0.Coords) (v265 : IVec S16 32) : Prop :=
  (∀ (k0_h5 : k0_cond5 i = 1#1), ∀ a x, ((![v265] : Fin 1 → IVec S16 32) a x).toNat < S32768.size a)
theorem k0_idx169_inb : ∀ (i : grid0.Coords) (v265 : IVec S16 32) (k0_hw169 : k0_chk169 i v265), ∀ (k0_h5 : k0_cond5 i = 1#1), ∀ a x, ((![v265] : Fin 1 → IVec S16 32) a x).toNat < S32768.size a := fun i v265 k0_hw169 k0_h5 => k0_hw169 k0_h5

def k0_chk170 (i : grid0.Coords) (v272 : IVec S16 32) : Prop :=
  (∀ (k0_h5 : k0_cond5 i = 1#1), ∀ a x, ((![v272] : Fin 1 → IVec S16 32) a x).toNat < S32768.size a)
theorem k0_idx170_inb : ∀ (i : grid0.Coords) (v272 : IVec S16 32) (k0_hw170 : k0_chk170 i v272), ∀ (k0_h5 : k0_cond5 i = 1#1), ∀ a x, ((![v272] : Fin 1 → IVec S16 32) a x).toNat < S32768.size a := fun i v272 k0_hw170 k0_h5 => k0_hw170 k0_h5

def k0_chk171 (i : grid0.Coords) (v279 : IVec S16 32) : Prop :=
  (∀ (k0_h5 : k0_cond5 i = 1#1), ∀ a x, ((![v279] : Fin 1 → IVec S16 32) a x).toNat < S32768.size a)
theorem k0_idx171_inb : ∀ (i : grid0.Coords) (v279 : IVec S16 32) (k0_hw171 : k0_chk171 i v279), ∀ (k0_h5 : k0_cond5 i = 1#1), ∀ a x, ((![v279] : Fin 1 → IVec S16 32) a x).toNat < S32768.size a := fun i v279 k0_hw171 k0_h5 => k0_hw171 k0_h5

def k0_chk172 (i : grid0.Coords) (v286 : IVec S16 32) : Prop :=
  (∀ (k0_h5 : k0_cond5 i = 1#1), ∀ a x, ((![v286] : Fin 1 → IVec S16 32) a x).toNat < S32768.size a)
theorem k0_idx172_inb : ∀ (i : grid0.Coords) (v286 : IVec S16 32) (k0_hw172 : k0_chk172 i v286), ∀ (k0_h5 : k0_cond5 i = 1#1), ∀ a x, ((![v286] : Fin 1 → IVec S16 32) a x).toNat < S32768.size a := fun i v286 k0_hw172 k0_h5 => k0_hw172 k0_h5

def k0_chk173 (i : grid0.Coords) (v293 : IVec S16 32) : Prop :=
  (∀ (k0_h5 : k0_cond5 i = 1#1), ∀ a x, ((![v293] : Fin 1 → IVec S16 32) a x).toNat < S32768.size a)
theorem k0_idx173_inb : ∀ (i : grid0.Coords) (v293 : IVec S16 32) (k0_hw173 : k0_chk173 i v293), ∀ (k0_h5 : k0_cond5 i = 1#1), ∀ a x, ((![v293] : Fin 1 → IVec S16 32) a x).toNat < S32768.size a := fun i v293 k0_hw173 k0_h5 => k0_hw173 k0_h5

def k0_chk174 (i : grid0.Coords) (v300 : IVec S16 32) : Prop :=
  (∀ (k0_h5 : k0_cond5 i = 1#1), ∀ a x, ((![v300] : Fin 1 → IVec S16 32) a x).toNat < S32768.size a)
theorem k0_idx174_inb : ∀ (i : grid0.Coords) (v300 : IVec S16 32) (k0_hw174 : k0_chk174 i v300), ∀ (k0_h5 : k0_cond5 i = 1#1), ∀ a x, ((![v300] : Fin 1 → IVec S16 32) a x).toNat < S32768.size a := fun i v300 k0_hw174 k0_h5 => k0_hw174 k0_h5

def k0_chk175 (i : grid0.Coords) (v307 : IVec S16 32) : Prop :=
  (∀ (k0_h5 : k0_cond5 i = 1#1), ∀ a x, ((![v307] : Fin 1 → IVec S16 32) a x).toNat < S32768.size a)
theorem k0_idx175_inb : ∀ (i : grid0.Coords) (v307 : IVec S16 32) (k0_hw175 : k0_chk175 i v307), ∀ (k0_h5 : k0_cond5 i = 1#1), ∀ a x, ((![v307] : Fin 1 → IVec S16 32) a x).toNat < S32768.size a := fun i v307 k0_hw175 k0_h5 => k0_hw175 k0_h5

def k0_chk176 (i : grid0.Coords) (v314 : IVec S16 32) : Prop :=
  (∀ (k0_h5 : k0_cond5 i = 1#1), ∀ a x, ((![v314] : Fin 1 → IVec S16 32) a x).toNat < S32768.size a)
theorem k0_idx176_inb : ∀ (i : grid0.Coords) (v314 : IVec S16 32) (k0_hw176 : k0_chk176 i v314), ∀ (k0_h5 : k0_cond5 i = 1#1), ∀ a x, ((![v314] : Fin 1 → IVec S16 32) a x).toNat < S32768.size a := fun i v314 k0_hw176 k0_h5 => k0_hw176 k0_h5

def k0_chk177 (i : grid0.Coords) (v321 : IVec S16 32) : Prop :=
  (∀ (k0_h5 : k0_cond5 i = 1#1), ∀ a x, ((![v321] : Fin 1 → IVec S16 32) a x).toNat < S32768.size a)
theorem k0_idx177_inb : ∀ (i : grid0.Coords) (v321 : IVec S16 32) (k0_hw177 : k0_chk177 i v321), ∀ (k0_h5 : k0_cond5 i = 1#1), ∀ a x, ((![v321] : Fin 1 → IVec S16 32) a x).toNat < S32768.size a := fun i v321 k0_hw177 k0_h5 => k0_hw177 k0_h5

def k0_chk178 (i : grid0.Coords) (v328 : IVec S16 32) : Prop :=
  (∀ (k0_h5 : k0_cond5 i = 1#1), ∀ a x, ((![v328] : Fin 1 → IVec S16 32) a x).toNat < S32768.size a)
theorem k0_idx178_inb : ∀ (i : grid0.Coords) (v328 : IVec S16 32) (k0_hw178 : k0_chk178 i v328), ∀ (k0_h5 : k0_cond5 i = 1#1), ∀ a x, ((![v328] : Fin 1 → IVec S16 32) a x).toNat < S32768.size a := fun i v328 k0_hw178 k0_h5 => k0_hw178 k0_h5

def k0_chk179 (i : grid0.Coords) (v335 : IVec S16 32) : Prop :=
  (∀ (k0_h5 : k0_cond5 i = 1#1), ∀ a x, ((![v335] : Fin 1 → IVec S16 32) a x).toNat < S32768.size a)
theorem k0_idx179_inb : ∀ (i : grid0.Coords) (v335 : IVec S16 32) (k0_hw179 : k0_chk179 i v335), ∀ (k0_h5 : k0_cond5 i = 1#1), ∀ a x, ((![v335] : Fin 1 → IVec S16 32) a x).toNat < S32768.size a := fun i v335 k0_hw179 k0_h5 => k0_hw179 k0_h5

def k0_chk180 (i : grid0.Coords) (v342 : IVec S16 32) : Prop :=
  (∀ (k0_h5 : k0_cond5 i = 1#1), ∀ a x, ((![v342] : Fin 1 → IVec S16 32) a x).toNat < S32768.size a)
theorem k0_idx180_inb : ∀ (i : grid0.Coords) (v342 : IVec S16 32) (k0_hw180 : k0_chk180 i v342), ∀ (k0_h5 : k0_cond5 i = 1#1), ∀ a x, ((![v342] : Fin 1 → IVec S16 32) a x).toNat < S32768.size a := fun i v342 k0_hw180 k0_h5 => k0_hw180 k0_h5

def k0_chk181 (i : grid0.Coords) (v349 : IVec S16 32) : Prop :=
  (∀ (k0_h5 : k0_cond5 i = 1#1), ∀ a x, ((![v349] : Fin 1 → IVec S16 32) a x).toNat < S32768.size a)
theorem k0_idx181_inb : ∀ (i : grid0.Coords) (v349 : IVec S16 32) (k0_hw181 : k0_chk181 i v349), ∀ (k0_h5 : k0_cond5 i = 1#1), ∀ a x, ((![v349] : Fin 1 → IVec S16 32) a x).toNat < S32768.size a := fun i v349 k0_hw181 k0_h5 => k0_hw181 k0_h5

def k0_chk182 (i : grid0.Coords) (v356 : IVec S16 32) : Prop :=
  (∀ (k0_h5 : k0_cond5 i = 1#1), ∀ a x, ((![v356] : Fin 1 → IVec S16 32) a x).toNat < S32768.size a)
theorem k0_idx182_inb : ∀ (i : grid0.Coords) (v356 : IVec S16 32) (k0_hw182 : k0_chk182 i v356), ∀ (k0_h5 : k0_cond5 i = 1#1), ∀ a x, ((![v356] : Fin 1 → IVec S16 32) a x).toNat < S32768.size a := fun i v356 k0_hw182 k0_h5 => k0_hw182 k0_h5

def k0_chk183 (i : grid0.Coords) (v363 : IVec S16 32) : Prop :=
  (∀ (k0_h5 : k0_cond5 i = 1#1), ∀ a x, ((![v363] : Fin 1 → IVec S16 32) a x).toNat < S32768.size a)
theorem k0_idx183_inb : ∀ (i : grid0.Coords) (v363 : IVec S16 32) (k0_hw183 : k0_chk183 i v363), ∀ (k0_h5 : k0_cond5 i = 1#1), ∀ a x, ((![v363] : Fin 1 → IVec S16 32) a x).toNat < S32768.size a := fun i v363 k0_hw183 k0_h5 => k0_hw183 k0_h5

def k0_chk184 (i : grid0.Coords) (v370 : IVec S16 32) : Prop :=
  (∀ (k0_h5 : k0_cond5 i = 1#1), ∀ a x, ((![v370] : Fin 1 → IVec S16 32) a x).toNat < S32768.size a)
theorem k0_idx184_inb : ∀ (i : grid0.Coords) (v370 : IVec S16 32) (k0_hw184 : k0_chk184 i v370), ∀ (k0_h5 : k0_cond5 i = 1#1), ∀ a x, ((![v370] : Fin 1 → IVec S16 32) a x).toNat < S32768.size a := fun i v370 k0_hw184 k0_h5 => k0_hw184 k0_h5

def k0_chk185 (i : grid0.Coords) (v377 : IVec S16 32) : Prop :=
  (∀ (k0_h5 : k0_cond5 i = 1#1), ∀ a x, ((![v377] : Fin 1 → IVec S16 32) a x).toNat < S32768.size a)
theorem k0_idx185_inb : ∀ (i : grid0.Coords) (v377 : IVec S16 32) (k0_hw185 : k0_chk185 i v377), ∀ (k0_h5 : k0_cond5 i = 1#1), ∀ a x, ((![v377] : Fin 1 → IVec S16 32) a x).toNat < S32768.size a := fun i v377 k0_hw185 k0_h5 => k0_hw185 k0_h5

def k0_chk186 (i : grid0.Coords) (v384 : IVec S16 32) : Prop :=
  (∀ (k0_h5 : k0_cond5 i = 1#1), ∀ a x, ((![v384] : Fin 1 → IVec S16 32) a x).toNat < S32768.size a)
theorem k0_idx186_inb : ∀ (i : grid0.Coords) (v384 : IVec S16 32) (k0_hw186 : k0_chk186 i v384), ∀ (k0_h5 : k0_cond5 i = 1#1), ∀ a x, ((![v384] : Fin 1 → IVec S16 32) a x).toNat < S32768.size a := fun i v384 k0_hw186 k0_h5 => k0_hw186 k0_h5

def k0_chk187 (i : grid0.Coords) (v391 : IVec S16 32) : Prop :=
  (∀ (k0_h5 : k0_cond5 i = 1#1), ∀ a x, ((![v391] : Fin 1 → IVec S16 32) a x).toNat < S32768.size a)
theorem k0_idx187_inb : ∀ (i : grid0.Coords) (v391 : IVec S16 32) (k0_hw187 : k0_chk187 i v391), ∀ (k0_h5 : k0_cond5 i = 1#1), ∀ a x, ((![v391] : Fin 1 → IVec S16 32) a x).toNat < S32768.size a := fun i v391 k0_hw187 k0_h5 => k0_hw187 k0_h5

def k0_chk188 (i : grid0.Coords) (v398 : IVec S16 32) : Prop :=
  (∀ (k0_h5 : k0_cond5 i = 1#1), ∀ a x, ((![v398] : Fin 1 → IVec S16 32) a x).toNat < S32768.size a)
theorem k0_idx188_inb : ∀ (i : grid0.Coords) (v398 : IVec S16 32) (k0_hw188 : k0_chk188 i v398), ∀ (k0_h5 : k0_cond5 i = 1#1), ∀ a x, ((![v398] : Fin 1 → IVec S16 32) a x).toNat < S32768.size a := fun i v398 k0_hw188 k0_h5 => k0_hw188 k0_h5

def k0_chk189 (i : grid0.Coords) (v405 : IVec S16 32) : Prop :=
  (∀ (k0_h5 : k0_cond5 i = 1#1), ∀ a x, ((![v405] : Fin 1 → IVec S16 32) a x).toNat < S32768.size a)
theorem k0_idx189_inb : ∀ (i : grid0.Coords) (v405 : IVec S16 32) (k0_hw189 : k0_chk189 i v405), ∀ (k0_h5 : k0_cond5 i = 1#1), ∀ a x, ((![v405] : Fin 1 → IVec S16 32) a x).toNat < S32768.size a := fun i v405 k0_hw189 k0_h5 => k0_hw189 k0_h5

def k0_chk190 (i : grid0.Coords) (v412 : IVec S16 32) : Prop :=
  (∀ (k0_h5 : k0_cond5 i = 1#1), ∀ a x, ((![v412] : Fin 1 → IVec S16 32) a x).toNat < S32768.size a)
theorem k0_idx190_inb : ∀ (i : grid0.Coords) (v412 : IVec S16 32) (k0_hw190 : k0_chk190 i v412), ∀ (k0_h5 : k0_cond5 i = 1#1), ∀ a x, ((![v412] : Fin 1 → IVec S16 32) a x).toNat < S32768.size a := fun i v412 k0_hw190 k0_h5 => k0_hw190 k0_h5

def k0_chk191 (i : grid0.Coords) (v419 : IVec S16 32) : Prop :=
  (∀ (k0_h5 : k0_cond5 i = 1#1), ∀ a x, ((![v419] : Fin 1 → IVec S16 32) a x).toNat < S32768.size a)
theorem k0_idx191_inb : ∀ (i : grid0.Coords) (v419 : IVec S16 32) (k0_hw191 : k0_chk191 i v419), ∀ (k0_h5 : k0_cond5 i = 1#1), ∀ a x, ((![v419] : Fin 1 → IVec S16 32) a x).toNat < S32768.size a := fun i v419 k0_hw191 k0_h5 => k0_hw191 k0_h5

def k0_chk192 (i : grid0.Coords) (v426 : IVec S16 32) : Prop :=
  (∀ (k0_h5 : k0_cond5 i = 1#1), ∀ a x, ((![v426] : Fin 1 → IVec S16 32) a x).toNat < S32768.size a)
theorem k0_idx192_inb : ∀ (i : grid0.Coords) (v426 : IVec S16 32) (k0_hw192 : k0_chk192 i v426), ∀ (k0_h5 : k0_cond5 i = 1#1), ∀ a x, ((![v426] : Fin 1 → IVec S16 32) a x).toNat < S32768.size a := fun i v426 k0_hw192 k0_h5 => k0_hw192 k0_h5

def k0_chk193 (i : grid0.Coords) (v433 : IVec S16 32) : Prop :=
  (∀ (k0_h5 : k0_cond5 i = 1#1), ∀ a x, ((![v433] : Fin 1 → IVec S16 32) a x).toNat < S32768.size a)
theorem k0_idx193_inb : ∀ (i : grid0.Coords) (v433 : IVec S16 32) (k0_hw193 : k0_chk193 i v433), ∀ (k0_h5 : k0_cond5 i = 1#1), ∀ a x, ((![v433] : Fin 1 → IVec S16 32) a x).toNat < S32768.size a := fun i v433 k0_hw193 k0_h5 => k0_hw193 k0_h5

def k0_chk194 (i : grid0.Coords) (v440 : IVec S16 32) : Prop :=
  (∀ (k0_h5 : k0_cond5 i = 1#1), ∀ a x, ((![v440] : Fin 1 → IVec S16 32) a x).toNat < S32768.size a)
theorem k0_idx194_inb : ∀ (i : grid0.Coords) (v440 : IVec S16 32) (k0_hw194 : k0_chk194 i v440), ∀ (k0_h5 : k0_cond5 i = 1#1), ∀ a x, ((![v440] : Fin 1 → IVec S16 32) a x).toNat < S32768.size a := fun i v440 k0_hw194 k0_h5 => k0_hw194 k0_h5

def k0_chk195 (i : grid0.Coords) (v447 : IVec S16 32) : Prop :=
  (∀ (k0_h5 : k0_cond5 i = 1#1), ∀ a x, ((![v447] : Fin 1 → IVec S16 32) a x).toNat < S32768.size a)
theorem k0_idx195_inb : ∀ (i : grid0.Coords) (v447 : IVec S16 32) (k0_hw195 : k0_chk195 i v447), ∀ (k0_h5 : k0_cond5 i = 1#1), ∀ a x, ((![v447] : Fin 1 → IVec S16 32) a x).toNat < S32768.size a := fun i v447 k0_hw195 k0_h5 => k0_hw195 k0_h5

def k0_chk196 (i : grid0.Coords) (v454 : IVec S16 32) : Prop :=
  (∀ (k0_h5 : k0_cond5 i = 1#1), ∀ a x, ((![v454] : Fin 1 → IVec S16 32) a x).toNat < S32768.size a)
theorem k0_idx196_inb : ∀ (i : grid0.Coords) (v454 : IVec S16 32) (k0_hw196 : k0_chk196 i v454), ∀ (k0_h5 : k0_cond5 i = 1#1), ∀ a x, ((![v454] : Fin 1 → IVec S16 32) a x).toNat < S32768.size a := fun i v454 k0_hw196 k0_h5 => k0_hw196 k0_h5

def k0_chk197 (i : grid0.Coords) (v461 : IVec S16 32) : Prop :=
  (∀ (k0_h5 : k0_cond5 i = 1#1), ∀ a x, ((![v461] : Fin 1 → IVec S16 32) a x).toNat < S32768.size a)
theorem k0_idx197_inb : ∀ (i : grid0.Coords) (v461 : IVec S16 32) (k0_hw197 : k0_chk197 i v461), ∀ (k0_h5 : k0_cond5 i = 1#1), ∀ a x, ((![v461] : Fin 1 → IVec S16 32) a x).toNat < S32768.size a := fun i v461 k0_hw197 k0_h5 => k0_hw197 k0_h5

def k0_chk198 (i : grid0.Coords) (v468 : IVec S16 32) : Prop :=
  (∀ (k0_h5 : k0_cond5 i = 1#1), ∀ a x, ((![v468] : Fin 1 → IVec S16 32) a x).toNat < S32768.size a)
theorem k0_idx198_inb : ∀ (i : grid0.Coords) (v468 : IVec S16 32) (k0_hw198 : k0_chk198 i v468), ∀ (k0_h5 : k0_cond5 i = 1#1), ∀ a x, ((![v468] : Fin 1 → IVec S16 32) a x).toNat < S32768.size a := fun i v468 k0_hw198 k0_h5 => k0_hw198 k0_h5

def k0_chk199 (i : grid0.Coords) (v475 : IVec S16 32) : Prop :=
  (∀ (k0_h5 : k0_cond5 i = 1#1), ∀ a x, ((![v475] : Fin 1 → IVec S16 32) a x).toNat < S32768.size a)
theorem k0_idx199_inb : ∀ (i : grid0.Coords) (v475 : IVec S16 32) (k0_hw199 : k0_chk199 i v475), ∀ (k0_h5 : k0_cond5 i = 1#1), ∀ a x, ((![v475] : Fin 1 → IVec S16 32) a x).toNat < S32768.size a := fun i v475 k0_hw199 k0_h5 => k0_hw199 k0_h5

def k0_chk200 (i : grid0.Coords) (v482 : IVec S16 32) : Prop :=
  (∀ (k0_h5 : k0_cond5 i = 1#1), ∀ a x, ((![v482] : Fin 1 → IVec S16 32) a x).toNat < S32768.size a)
theorem k0_idx200_inb : ∀ (i : grid0.Coords) (v482 : IVec S16 32) (k0_hw200 : k0_chk200 i v482), ∀ (k0_h5 : k0_cond5 i = 1#1), ∀ a x, ((![v482] : Fin 1 → IVec S16 32) a x).toNat < S32768.size a := fun i v482 k0_hw200 k0_h5 => k0_hw200 k0_h5
def k0_off13 (k0_t4 : Fin k0_t4_loop.trips) : Fin 1 → Nat :=
  let c0_i32_12 : BitVec 32 := 0#32
  let c0_i32_8 : BitVec 32 := 0#32
  let c1_i32_9 : BitVec 32 := 1#32
  let arg14 : BitVec 32 := Scf.iv c0_i32_8 c1_i32_9 k0_t4
  let c1_i32_11 : BitVec 32 := 1#32
  let v24 : BitVec 32 := Scalar.muli arg14 c1_i32_11
  let v25 : BitVec 32 := Scalar.addi c0_i32_12 v24
  let c16_i32_29 : BitVec 32 := 16#32
  let v493 : BitVec 32 := Scalar.muli v25 c16_i32_29
  let v494 : Index := Scalar.indexCast v493
  ![v494.toNat]

def k0_chk201 (i : grid0.Coords) (v496 : IVec S16 32) : Prop :=
  (∀ (k0_h5 : k0_cond5 i = 1#1), ∀ a x, ((![v496] : Fin 1 → IVec S16 32) a x).toNat < S32768.size a)
theorem k0_idx201_inb : ∀ (i : grid0.Coords) (v496 : IVec S16 32) (k0_hw201 : k0_chk201 i v496), ∀ (k0_h5 : k0_cond5 i = 1#1), ∀ a x, ((![v496] : Fin 1 → IVec S16 32) a x).toNat < S32768.size a := fun i v496 k0_hw201 k0_h5 => k0_hw201 k0_h5

def k0_chk202 (i : grid0.Coords) (v510 : IVec S16 32) : Prop :=
  (∀ (k0_h5 : k0_cond5 i = 1#1), ∀ a x, ((![v510] : Fin 1 → IVec S16 32) a x).toNat < S48.size a)
theorem k0_idx202_inb : ∀ (i : grid0.Coords) (v510 : IVec S16 32) (k0_hw202 : k0_chk202 i v510), ∀ (k0_h5 : k0_cond5 i = 1#1), ∀ a x, ((![v510] : Fin 1 → IVec S16 32) a x).toNat < S48.size a := fun i v510 k0_hw202 k0_h5 => k0_hw202 k0_h5

def k0_chk203 (i : grid0.Coords) (v512 : IVec S16 32) : Prop :=
  (∀ (k0_h5 : k0_cond5 i = 1#1), ∀ a x, ((![v512] : Fin 1 → IVec S16 32) a x).toNat < S48.size a)
theorem k0_idx203_inb : ∀ (i : grid0.Coords) (v512 : IVec S16 32) (k0_hw203 : k0_chk203 i v512), ∀ (k0_h5 : k0_cond5 i = 1#1), ∀ a x, ((![v512] : Fin 1 → IVec S16 32) a x).toNat < S48.size a := fun i v512 k0_hw203 k0_h5 => k0_hw203 k0_h5

def k0_chk204 (i : grid0.Coords) (v514 : IVec S16 32) : Prop :=
  (∀ (k0_h5 : k0_cond5 i = 1#1), ∀ a x, ((![v514] : Fin 1 → IVec S16 32) a x).toNat < S48.size a)
theorem k0_idx204_inb : ∀ (i : grid0.Coords) (v514 : IVec S16 32) (k0_hw204 : k0_chk204 i v514), ∀ (k0_h5 : k0_cond5 i = 1#1), ∀ a x, ((![v514] : Fin 1 → IVec S16 32) a x).toNat < S48.size a := fun i v514 k0_hw204 k0_h5 => k0_hw204 k0_h5
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v20 : BitVec 1 := Scalar.cmpi .eq v1 c31_i32
  let v21 : BitVec 32 := Scalar.extui v20
  let c0_i32_7 : BitVec 32 := 0#32
  let v22 : BitVec 1 := Scalar.cmpi .ne v21 c0_i32_7
  v22

@[reducible] def k0_t5_loop : Scf.Loop 32 :=
  let c0_i32_8 : BitVec 32 := 0#32
  let c4_i32 : BitVec 32 := 4#32
  let v23 : BitVec 32 := Scalar.addi c0_i32_8 c4_i32
  let c1_i32_9 : BitVec 32 := 1#32
  ⟨c0_i32_8, v23, c1_i32_9⟩

def k0_chk205 (i : grid0.Coords) (v41 : IVec S16 32) : Prop :=
  (∀ (k0_h6 : k0_cond6 i = 1#1), ∀ a x, ((![v41] : Fin 1 → IVec S16 32) a x).toNat < S32768.size a)
theorem k0_idx205_inb : ∀ (i : grid0.Coords) (v41 : IVec S16 32) (k0_hw205 : k0_chk205 i v41), ∀ (k0_h6 : k0_cond6 i = 1#1), ∀ a x, ((![v41] : Fin 1 → IVec S16 32) a x).toNat < S32768.size a := fun i v41 k0_hw205 k0_h6 => k0_hw205 k0_h6

def k0_chk206 (i : grid0.Coords) (v48 : IVec S16 32) : Prop :=
  (∀ (k0_h6 : k0_cond6 i = 1#1), ∀ a x, ((![v48] : Fin 1 → IVec S16 32) a x).toNat < S32768.size a)
theorem k0_idx206_inb : ∀ (i : grid0.Coords) (v48 : IVec S16 32) (k0_hw206 : k0_chk206 i v48), ∀ (k0_h6 : k0_cond6 i = 1#1), ∀ a x, ((![v48] : Fin 1 → IVec S16 32) a x).toNat < S32768.size a := fun i v48 k0_hw206 k0_h6 => k0_hw206 k0_h6

def k0_chk207 (i : grid0.Coords) (v55 : IVec S16 32) : Prop :=
  (∀ (k0_h6 : k0_cond6 i = 1#1), ∀ a x, ((![v55] : Fin 1 → IVec S16 32) a x).toNat < S32768.size a)
theorem k0_idx207_inb : ∀ (i : grid0.Coords) (v55 : IVec S16 32) (k0_hw207 : k0_chk207 i v55), ∀ (k0_h6 : k0_cond6 i = 1#1), ∀ a x, ((![v55] : Fin 1 → IVec S16 32) a x).toNat < S32768.size a := fun i v55 k0_hw207 k0_h6 => k0_hw207 k0_h6

def k0_chk208 (i : grid0.Coords) (v62 : IVec S16 32) : Prop :=
  (∀ (k0_h6 : k0_cond6 i = 1#1), ∀ a x, ((![v62] : Fin 1 → IVec S16 32) a x).toNat < S32768.size a)
theorem k0_idx208_inb : ∀ (i : grid0.Coords) (v62 : IVec S16 32) (k0_hw208 : k0_chk208 i v62), ∀ (k0_h6 : k0_cond6 i = 1#1), ∀ a x, ((![v62] : Fin 1 → IVec S16 32) a x).toNat < S32768.size a := fun i v62 k0_hw208 k0_h6 => k0_hw208 k0_h6

def k0_chk209 (i : grid0.Coords) (v69 : IVec S16 32) : Prop :=
  (∀ (k0_h6 : k0_cond6 i = 1#1), ∀ a x, ((![v69] : Fin 1 → IVec S16 32) a x).toNat < S32768.size a)
theorem k0_idx209_inb : ∀ (i : grid0.Coords) (v69 : IVec S16 32) (k0_hw209 : k0_chk209 i v69), ∀ (k0_h6 : k0_cond6 i = 1#1), ∀ a x, ((![v69] : Fin 1 → IVec S16 32) a x).toNat < S32768.size a := fun i v69 k0_hw209 k0_h6 => k0_hw209 k0_h6

def k0_chk210 (i : grid0.Coords) (v76 : IVec S16 32) : Prop :=
  (∀ (k0_h6 : k0_cond6 i = 1#1), ∀ a x, ((![v76] : Fin 1 → IVec S16 32) a x).toNat < S32768.size a)
theorem k0_idx210_inb : ∀ (i : grid0.Coords) (v76 : IVec S16 32) (k0_hw210 : k0_chk210 i v76), ∀ (k0_h6 : k0_cond6 i = 1#1), ∀ a x, ((![v76] : Fin 1 → IVec S16 32) a x).toNat < S32768.size a := fun i v76 k0_hw210 k0_h6 => k0_hw210 k0_h6

def k0_chk211 (i : grid0.Coords) (v83 : IVec S16 32) : Prop :=
  (∀ (k0_h6 : k0_cond6 i = 1#1), ∀ a x, ((![v83] : Fin 1 → IVec S16 32) a x).toNat < S32768.size a)
theorem k0_idx211_inb : ∀ (i : grid0.Coords) (v83 : IVec S16 32) (k0_hw211 : k0_chk211 i v83), ∀ (k0_h6 : k0_cond6 i = 1#1), ∀ a x, ((![v83] : Fin 1 → IVec S16 32) a x).toNat < S32768.size a := fun i v83 k0_hw211 k0_h6 => k0_hw211 k0_h6

def k0_chk212 (i : grid0.Coords) (v90 : IVec S16 32) : Prop :=
  (∀ (k0_h6 : k0_cond6 i = 1#1), ∀ a x, ((![v90] : Fin 1 → IVec S16 32) a x).toNat < S32768.size a)
theorem k0_idx212_inb : ∀ (i : grid0.Coords) (v90 : IVec S16 32) (k0_hw212 : k0_chk212 i v90), ∀ (k0_h6 : k0_cond6 i = 1#1), ∀ a x, ((![v90] : Fin 1 → IVec S16 32) a x).toNat < S32768.size a := fun i v90 k0_hw212 k0_h6 => k0_hw212 k0_h6

def k0_chk213 (i : grid0.Coords) (v97 : IVec S16 32) : Prop :=
  (∀ (k0_h6 : k0_cond6 i = 1#1), ∀ a x, ((![v97] : Fin 1 → IVec S16 32) a x).toNat < S32768.size a)
theorem k0_idx213_inb : ∀ (i : grid0.Coords) (v97 : IVec S16 32) (k0_hw213 : k0_chk213 i v97), ∀ (k0_h6 : k0_cond6 i = 1#1), ∀ a x, ((![v97] : Fin 1 → IVec S16 32) a x).toNat < S32768.size a := fun i v97 k0_hw213 k0_h6 => k0_hw213 k0_h6

def k0_chk214 (i : grid0.Coords) (v104 : IVec S16 32) : Prop :=
  (∀ (k0_h6 : k0_cond6 i = 1#1), ∀ a x, ((![v104] : Fin 1 → IVec S16 32) a x).toNat < S32768.size a)
theorem k0_idx214_inb : ∀ (i : grid0.Coords) (v104 : IVec S16 32) (k0_hw214 : k0_chk214 i v104), ∀ (k0_h6 : k0_cond6 i = 1#1), ∀ a x, ((![v104] : Fin 1 → IVec S16 32) a x).toNat < S32768.size a := fun i v104 k0_hw214 k0_h6 => k0_hw214 k0_h6

def k0_chk215 (i : grid0.Coords) (v111 : IVec S16 32) : Prop :=
  (∀ (k0_h6 : k0_cond6 i = 1#1), ∀ a x, ((![v111] : Fin 1 → IVec S16 32) a x).toNat < S32768.size a)
theorem k0_idx215_inb : ∀ (i : grid0.Coords) (v111 : IVec S16 32) (k0_hw215 : k0_chk215 i v111), ∀ (k0_h6 : k0_cond6 i = 1#1), ∀ a x, ((![v111] : Fin 1 → IVec S16 32) a x).toNat < S32768.size a := fun i v111 k0_hw215 k0_h6 => k0_hw215 k0_h6

def k0_chk216 (i : grid0.Coords) (v118 : IVec S16 32) : Prop :=
  (∀ (k0_h6 : k0_cond6 i = 1#1), ∀ a x, ((![v118] : Fin 1 → IVec S16 32) a x).toNat < S32768.size a)
theorem k0_idx216_inb : ∀ (i : grid0.Coords) (v118 : IVec S16 32) (k0_hw216 : k0_chk216 i v118), ∀ (k0_h6 : k0_cond6 i = 1#1), ∀ a x, ((![v118] : Fin 1 → IVec S16 32) a x).toNat < S32768.size a := fun i v118 k0_hw216 k0_h6 => k0_hw216 k0_h6

def k0_chk217 (i : grid0.Coords) (v125 : IVec S16 32) : Prop :=
  (∀ (k0_h6 : k0_cond6 i = 1#1), ∀ a x, ((![v125] : Fin 1 → IVec S16 32) a x).toNat < S32768.size a)
theorem k0_idx217_inb : ∀ (i : grid0.Coords) (v125 : IVec S16 32) (k0_hw217 : k0_chk217 i v125), ∀ (k0_h6 : k0_cond6 i = 1#1), ∀ a x, ((![v125] : Fin 1 → IVec S16 32) a x).toNat < S32768.size a := fun i v125 k0_hw217 k0_h6 => k0_hw217 k0_h6

def k0_chk218 (i : grid0.Coords) (v132 : IVec S16 32) : Prop :=
  (∀ (k0_h6 : k0_cond6 i = 1#1), ∀ a x, ((![v132] : Fin 1 → IVec S16 32) a x).toNat < S32768.size a)
theorem k0_idx218_inb : ∀ (i : grid0.Coords) (v132 : IVec S16 32) (k0_hw218 : k0_chk218 i v132), ∀ (k0_h6 : k0_cond6 i = 1#1), ∀ a x, ((![v132] : Fin 1 → IVec S16 32) a x).toNat < S32768.size a := fun i v132 k0_hw218 k0_h6 => k0_hw218 k0_h6

def k0_chk219 (i : grid0.Coords) (v139 : IVec S16 32) : Prop :=
  (∀ (k0_h6 : k0_cond6 i = 1#1), ∀ a x, ((![v139] : Fin 1 → IVec S16 32) a x).toNat < S32768.size a)
theorem k0_idx219_inb : ∀ (i : grid0.Coords) (v139 : IVec S16 32) (k0_hw219 : k0_chk219 i v139), ∀ (k0_h6 : k0_cond6 i = 1#1), ∀ a x, ((![v139] : Fin 1 → IVec S16 32) a x).toNat < S32768.size a := fun i v139 k0_hw219 k0_h6 => k0_hw219 k0_h6

def k0_chk220 (i : grid0.Coords) (v146 : IVec S16 32) : Prop :=
  (∀ (k0_h6 : k0_cond6 i = 1#1), ∀ a x, ((![v146] : Fin 1 → IVec S16 32) a x).toNat < S32768.size a)
theorem k0_idx220_inb : ∀ (i : grid0.Coords) (v146 : IVec S16 32) (k0_hw220 : k0_chk220 i v146), ∀ (k0_h6 : k0_cond6 i = 1#1), ∀ a x, ((![v146] : Fin 1 → IVec S16 32) a x).toNat < S32768.size a := fun i v146 k0_hw220 k0_h6 => k0_hw220 k0_h6

def k0_chk221 (i : grid0.Coords) (v153 : IVec S16 32) : Prop :=
  (∀ (k0_h6 : k0_cond6 i = 1#1), ∀ a x, ((![v153] : Fin 1 → IVec S16 32) a x).toNat < S32768.size a)
theorem k0_idx221_inb : ∀ (i : grid0.Coords) (v153 : IVec S16 32) (k0_hw221 : k0_chk221 i v153), ∀ (k0_h6 : k0_cond6 i = 1#1), ∀ a x, ((![v153] : Fin 1 → IVec S16 32) a x).toNat < S32768.size a := fun i v153 k0_hw221 k0_h6 => k0_hw221 k0_h6

def k0_chk222 (i : grid0.Coords) (v160 : IVec S16 32) : Prop :=
  (∀ (k0_h6 : k0_cond6 i = 1#1), ∀ a x, ((![v160] : Fin 1 → IVec S16 32) a x).toNat < S32768.size a)
theorem k0_idx222_inb : ∀ (i : grid0.Coords) (v160 : IVec S16 32) (k0_hw222 : k0_chk222 i v160), ∀ (k0_h6 : k0_cond6 i = 1#1), ∀ a x, ((![v160] : Fin 1 → IVec S16 32) a x).toNat < S32768.size a := fun i v160 k0_hw222 k0_h6 => k0_hw222 k0_h6

def k0_chk223 (i : grid0.Coords) (v167 : IVec S16 32) : Prop :=
  (∀ (k0_h6 : k0_cond6 i = 1#1), ∀ a x, ((![v167] : Fin 1 → IVec S16 32) a x).toNat < S32768.size a)
theorem k0_idx223_inb : ∀ (i : grid0.Coords) (v167 : IVec S16 32) (k0_hw223 : k0_chk223 i v167), ∀ (k0_h6 : k0_cond6 i = 1#1), ∀ a x, ((![v167] : Fin 1 → IVec S16 32) a x).toNat < S32768.size a := fun i v167 k0_hw223 k0_h6 => k0_hw223 k0_h6

def k0_chk224 (i : grid0.Coords) (v174 : IVec S16 32) : Prop :=
  (∀ (k0_h6 : k0_cond6 i = 1#1), ∀ a x, ((![v174] : Fin 1 → IVec S16 32) a x).toNat < S32768.size a)
theorem k0_idx224_inb : ∀ (i : grid0.Coords) (v174 : IVec S16 32) (k0_hw224 : k0_chk224 i v174), ∀ (k0_h6 : k0_cond6 i = 1#1), ∀ a x, ((![v174] : Fin 1 → IVec S16 32) a x).toNat < S32768.size a := fun i v174 k0_hw224 k0_h6 => k0_hw224 k0_h6

def k0_chk225 (i : grid0.Coords) (v181 : IVec S16 32) : Prop :=
  (∀ (k0_h6 : k0_cond6 i = 1#1), ∀ a x, ((![v181] : Fin 1 → IVec S16 32) a x).toNat < S32768.size a)
theorem k0_idx225_inb : ∀ (i : grid0.Coords) (v181 : IVec S16 32) (k0_hw225 : k0_chk225 i v181), ∀ (k0_h6 : k0_cond6 i = 1#1), ∀ a x, ((![v181] : Fin 1 → IVec S16 32) a x).toNat < S32768.size a := fun i v181 k0_hw225 k0_h6 => k0_hw225 k0_h6

def k0_chk226 (i : grid0.Coords) (v188 : IVec S16 32) : Prop :=
  (∀ (k0_h6 : k0_cond6 i = 1#1), ∀ a x, ((![v188] : Fin 1 → IVec S16 32) a x).toNat < S32768.size a)
theorem k0_idx226_inb : ∀ (i : grid0.Coords) (v188 : IVec S16 32) (k0_hw226 : k0_chk226 i v188), ∀ (k0_h6 : k0_cond6 i = 1#1), ∀ a x, ((![v188] : Fin 1 → IVec S16 32) a x).toNat < S32768.size a := fun i v188 k0_hw226 k0_h6 => k0_hw226 k0_h6

def k0_chk227 (i : grid0.Coords) (v195 : IVec S16 32) : Prop :=
  (∀ (k0_h6 : k0_cond6 i = 1#1), ∀ a x, ((![v195] : Fin 1 → IVec S16 32) a x).toNat < S32768.size a)
theorem k0_idx227_inb : ∀ (i : grid0.Coords) (v195 : IVec S16 32) (k0_hw227 : k0_chk227 i v195), ∀ (k0_h6 : k0_cond6 i = 1#1), ∀ a x, ((![v195] : Fin 1 → IVec S16 32) a x).toNat < S32768.size a := fun i v195 k0_hw227 k0_h6 => k0_hw227 k0_h6

def k0_chk228 (i : grid0.Coords) (v202 : IVec S16 32) : Prop :=
  (∀ (k0_h6 : k0_cond6 i = 1#1), ∀ a x, ((![v202] : Fin 1 → IVec S16 32) a x).toNat < S32768.size a)
theorem k0_idx228_inb : ∀ (i : grid0.Coords) (v202 : IVec S16 32) (k0_hw228 : k0_chk228 i v202), ∀ (k0_h6 : k0_cond6 i = 1#1), ∀ a x, ((![v202] : Fin 1 → IVec S16 32) a x).toNat < S32768.size a := fun i v202 k0_hw228 k0_h6 => k0_hw228 k0_h6

def k0_chk229 (i : grid0.Coords) (v209 : IVec S16 32) : Prop :=
  (∀ (k0_h6 : k0_cond6 i = 1#1), ∀ a x, ((![v209] : Fin 1 → IVec S16 32) a x).toNat < S32768.size a)
theorem k0_idx229_inb : ∀ (i : grid0.Coords) (v209 : IVec S16 32) (k0_hw229 : k0_chk229 i v209), ∀ (k0_h6 : k0_cond6 i = 1#1), ∀ a x, ((![v209] : Fin 1 → IVec S16 32) a x).toNat < S32768.size a := fun i v209 k0_hw229 k0_h6 => k0_hw229 k0_h6

def k0_chk230 (i : grid0.Coords) (v216 : IVec S16 32) : Prop :=
  (∀ (k0_h6 : k0_cond6 i = 1#1), ∀ a x, ((![v216] : Fin 1 → IVec S16 32) a x).toNat < S32768.size a)
theorem k0_idx230_inb : ∀ (i : grid0.Coords) (v216 : IVec S16 32) (k0_hw230 : k0_chk230 i v216), ∀ (k0_h6 : k0_cond6 i = 1#1), ∀ a x, ((![v216] : Fin 1 → IVec S16 32) a x).toNat < S32768.size a := fun i v216 k0_hw230 k0_h6 => k0_hw230 k0_h6

def k0_chk231 (i : grid0.Coords) (v223 : IVec S16 32) : Prop :=
  (∀ (k0_h6 : k0_cond6 i = 1#1), ∀ a x, ((![v223] : Fin 1 → IVec S16 32) a x).toNat < S32768.size a)
theorem k0_idx231_inb : ∀ (i : grid0.Coords) (v223 : IVec S16 32) (k0_hw231 : k0_chk231 i v223), ∀ (k0_h6 : k0_cond6 i = 1#1), ∀ a x, ((![v223] : Fin 1 → IVec S16 32) a x).toNat < S32768.size a := fun i v223 k0_hw231 k0_h6 => k0_hw231 k0_h6

def k0_chk232 (i : grid0.Coords) (v230 : IVec S16 32) : Prop :=
  (∀ (k0_h6 : k0_cond6 i = 1#1), ∀ a x, ((![v230] : Fin 1 → IVec S16 32) a x).toNat < S32768.size a)
theorem k0_idx232_inb : ∀ (i : grid0.Coords) (v230 : IVec S16 32) (k0_hw232 : k0_chk232 i v230), ∀ (k0_h6 : k0_cond6 i = 1#1), ∀ a x, ((![v230] : Fin 1 → IVec S16 32) a x).toNat < S32768.size a := fun i v230 k0_hw232 k0_h6 => k0_hw232 k0_h6

def k0_chk233 (i : grid0.Coords) (v237 : IVec S16 32) : Prop :=
  (∀ (k0_h6 : k0_cond6 i = 1#1), ∀ a x, ((![v237] : Fin 1 → IVec S16 32) a x).toNat < S32768.size a)
theorem k0_idx233_inb : ∀ (i : grid0.Coords) (v237 : IVec S16 32) (k0_hw233 : k0_chk233 i v237), ∀ (k0_h6 : k0_cond6 i = 1#1), ∀ a x, ((![v237] : Fin 1 → IVec S16 32) a x).toNat < S32768.size a := fun i v237 k0_hw233 k0_h6 => k0_hw233 k0_h6

def k0_chk234 (i : grid0.Coords) (v244 : IVec S16 32) : Prop :=
  (∀ (k0_h6 : k0_cond6 i = 1#1), ∀ a x, ((![v244] : Fin 1 → IVec S16 32) a x).toNat < S32768.size a)
theorem k0_idx234_inb : ∀ (i : grid0.Coords) (v244 : IVec S16 32) (k0_hw234 : k0_chk234 i v244), ∀ (k0_h6 : k0_cond6 i = 1#1), ∀ a x, ((![v244] : Fin 1 → IVec S16 32) a x).toNat < S32768.size a := fun i v244 k0_hw234 k0_h6 => k0_hw234 k0_h6

def k0_chk235 (i : grid0.Coords) (v251 : IVec S16 32) : Prop :=
  (∀ (k0_h6 : k0_cond6 i = 1#1), ∀ a x, ((![v251] : Fin 1 → IVec S16 32) a x).toNat < S32768.size a)
theorem k0_idx235_inb : ∀ (i : grid0.Coords) (v251 : IVec S16 32) (k0_hw235 : k0_chk235 i v251), ∀ (k0_h6 : k0_cond6 i = 1#1), ∀ a x, ((![v251] : Fin 1 → IVec S16 32) a x).toNat < S32768.size a := fun i v251 k0_hw235 k0_h6 => k0_hw235 k0_h6

def k0_chk236 (i : grid0.Coords) (v258 : IVec S16 32) : Prop :=
  (∀ (k0_h6 : k0_cond6 i = 1#1), ∀ a x, ((![v258] : Fin 1 → IVec S16 32) a x).toNat < S32768.size a)
theorem k0_idx236_inb : ∀ (i : grid0.Coords) (v258 : IVec S16 32) (k0_hw236 : k0_chk236 i v258), ∀ (k0_h6 : k0_cond6 i = 1#1), ∀ a x, ((![v258] : Fin 1 → IVec S16 32) a x).toNat < S32768.size a := fun i v258 k0_hw236 k0_h6 => k0_hw236 k0_h6

def k0_chk237 (i : grid0.Coords) (v265 : IVec S16 32) : Prop :=
  (∀ (k0_h6 : k0_cond6 i = 1#1), ∀ a x, ((![v265] : Fin 1 → IVec S16 32) a x).toNat < S32768.size a)
theorem k0_idx237_inb : ∀ (i : grid0.Coords) (v265 : IVec S16 32) (k0_hw237 : k0_chk237 i v265), ∀ (k0_h6 : k0_cond6 i = 1#1), ∀ a x, ((![v265] : Fin 1 → IVec S16 32) a x).toNat < S32768.size a := fun i v265 k0_hw237 k0_h6 => k0_hw237 k0_h6

def k0_chk238 (i : grid0.Coords) (v272 : IVec S16 32) : Prop :=
  (∀ (k0_h6 : k0_cond6 i = 1#1), ∀ a x, ((![v272] : Fin 1 → IVec S16 32) a x).toNat < S32768.size a)
theorem k0_idx238_inb : ∀ (i : grid0.Coords) (v272 : IVec S16 32) (k0_hw238 : k0_chk238 i v272), ∀ (k0_h6 : k0_cond6 i = 1#1), ∀ a x, ((![v272] : Fin 1 → IVec S16 32) a x).toNat < S32768.size a := fun i v272 k0_hw238 k0_h6 => k0_hw238 k0_h6

def k0_chk239 (i : grid0.Coords) (v279 : IVec S16 32) : Prop :=
  (∀ (k0_h6 : k0_cond6 i = 1#1), ∀ a x, ((![v279] : Fin 1 → IVec S16 32) a x).toNat < S32768.size a)
theorem k0_idx239_inb : ∀ (i : grid0.Coords) (v279 : IVec S16 32) (k0_hw239 : k0_chk239 i v279), ∀ (k0_h6 : k0_cond6 i = 1#1), ∀ a x, ((![v279] : Fin 1 → IVec S16 32) a x).toNat < S32768.size a := fun i v279 k0_hw239 k0_h6 => k0_hw239 k0_h6

def k0_chk240 (i : grid0.Coords) (v286 : IVec S16 32) : Prop :=
  (∀ (k0_h6 : k0_cond6 i = 1#1), ∀ a x, ((![v286] : Fin 1 → IVec S16 32) a x).toNat < S32768.size a)
theorem k0_idx240_inb : ∀ (i : grid0.Coords) (v286 : IVec S16 32) (k0_hw240 : k0_chk240 i v286), ∀ (k0_h6 : k0_cond6 i = 1#1), ∀ a x, ((![v286] : Fin 1 → IVec S16 32) a x).toNat < S32768.size a := fun i v286 k0_hw240 k0_h6 => k0_hw240 k0_h6

def k0_chk241 (i : grid0.Coords) (v293 : IVec S16 32) : Prop :=
  (∀ (k0_h6 : k0_cond6 i = 1#1), ∀ a x, ((![v293] : Fin 1 → IVec S16 32) a x).toNat < S32768.size a)
theorem k0_idx241_inb : ∀ (i : grid0.Coords) (v293 : IVec S16 32) (k0_hw241 : k0_chk241 i v293), ∀ (k0_h6 : k0_cond6 i = 1#1), ∀ a x, ((![v293] : Fin 1 → IVec S16 32) a x).toNat < S32768.size a := fun i v293 k0_hw241 k0_h6 => k0_hw241 k0_h6

def k0_chk242 (i : grid0.Coords) (v300 : IVec S16 32) : Prop :=
  (∀ (k0_h6 : k0_cond6 i = 1#1), ∀ a x, ((![v300] : Fin 1 → IVec S16 32) a x).toNat < S32768.size a)
theorem k0_idx242_inb : ∀ (i : grid0.Coords) (v300 : IVec S16 32) (k0_hw242 : k0_chk242 i v300), ∀ (k0_h6 : k0_cond6 i = 1#1), ∀ a x, ((![v300] : Fin 1 → IVec S16 32) a x).toNat < S32768.size a := fun i v300 k0_hw242 k0_h6 => k0_hw242 k0_h6

def k0_chk243 (i : grid0.Coords) (v307 : IVec S16 32) : Prop :=
  (∀ (k0_h6 : k0_cond6 i = 1#1), ∀ a x, ((![v307] : Fin 1 → IVec S16 32) a x).toNat < S32768.size a)
theorem k0_idx243_inb : ∀ (i : grid0.Coords) (v307 : IVec S16 32) (k0_hw243 : k0_chk243 i v307), ∀ (k0_h6 : k0_cond6 i = 1#1), ∀ a x, ((![v307] : Fin 1 → IVec S16 32) a x).toNat < S32768.size a := fun i v307 k0_hw243 k0_h6 => k0_hw243 k0_h6

def k0_chk244 (i : grid0.Coords) (v314 : IVec S16 32) : Prop :=
  (∀ (k0_h6 : k0_cond6 i = 1#1), ∀ a x, ((![v314] : Fin 1 → IVec S16 32) a x).toNat < S32768.size a)
theorem k0_idx244_inb : ∀ (i : grid0.Coords) (v314 : IVec S16 32) (k0_hw244 : k0_chk244 i v314), ∀ (k0_h6 : k0_cond6 i = 1#1), ∀ a x, ((![v314] : Fin 1 → IVec S16 32) a x).toNat < S32768.size a := fun i v314 k0_hw244 k0_h6 => k0_hw244 k0_h6

def k0_chk245 (i : grid0.Coords) (v321 : IVec S16 32) : Prop :=
  (∀ (k0_h6 : k0_cond6 i = 1#1), ∀ a x, ((![v321] : Fin 1 → IVec S16 32) a x).toNat < S32768.size a)
theorem k0_idx245_inb : ∀ (i : grid0.Coords) (v321 : IVec S16 32) (k0_hw245 : k0_chk245 i v321), ∀ (k0_h6 : k0_cond6 i = 1#1), ∀ a x, ((![v321] : Fin 1 → IVec S16 32) a x).toNat < S32768.size a := fun i v321 k0_hw245 k0_h6 => k0_hw245 k0_h6

def k0_chk246 (i : grid0.Coords) (v328 : IVec S16 32) : Prop :=
  (∀ (k0_h6 : k0_cond6 i = 1#1), ∀ a x, ((![v328] : Fin 1 → IVec S16 32) a x).toNat < S32768.size a)
theorem k0_idx246_inb : ∀ (i : grid0.Coords) (v328 : IVec S16 32) (k0_hw246 : k0_chk246 i v328), ∀ (k0_h6 : k0_cond6 i = 1#1), ∀ a x, ((![v328] : Fin 1 → IVec S16 32) a x).toNat < S32768.size a := fun i v328 k0_hw246 k0_h6 => k0_hw246 k0_h6

def k0_chk247 (i : grid0.Coords) (v335 : IVec S16 32) : Prop :=
  (∀ (k0_h6 : k0_cond6 i = 1#1), ∀ a x, ((![v335] : Fin 1 → IVec S16 32) a x).toNat < S32768.size a)
theorem k0_idx247_inb : ∀ (i : grid0.Coords) (v335 : IVec S16 32) (k0_hw247 : k0_chk247 i v335), ∀ (k0_h6 : k0_cond6 i = 1#1), ∀ a x, ((![v335] : Fin 1 → IVec S16 32) a x).toNat < S32768.size a := fun i v335 k0_hw247 k0_h6 => k0_hw247 k0_h6

def k0_chk248 (i : grid0.Coords) (v342 : IVec S16 32) : Prop :=
  (∀ (k0_h6 : k0_cond6 i = 1#1), ∀ a x, ((![v342] : Fin 1 → IVec S16 32) a x).toNat < S32768.size a)
theorem k0_idx248_inb : ∀ (i : grid0.Coords) (v342 : IVec S16 32) (k0_hw248 : k0_chk248 i v342), ∀ (k0_h6 : k0_cond6 i = 1#1), ∀ a x, ((![v342] : Fin 1 → IVec S16 32) a x).toNat < S32768.size a := fun i v342 k0_hw248 k0_h6 => k0_hw248 k0_h6

def k0_chk249 (i : grid0.Coords) (v349 : IVec S16 32) : Prop :=
  (∀ (k0_h6 : k0_cond6 i = 1#1), ∀ a x, ((![v349] : Fin 1 → IVec S16 32) a x).toNat < S32768.size a)
theorem k0_idx249_inb : ∀ (i : grid0.Coords) (v349 : IVec S16 32) (k0_hw249 : k0_chk249 i v349), ∀ (k0_h6 : k0_cond6 i = 1#1), ∀ a x, ((![v349] : Fin 1 → IVec S16 32) a x).toNat < S32768.size a := fun i v349 k0_hw249 k0_h6 => k0_hw249 k0_h6

def k0_chk250 (i : grid0.Coords) (v356 : IVec S16 32) : Prop :=
  (∀ (k0_h6 : k0_cond6 i = 1#1), ∀ a x, ((![v356] : Fin 1 → IVec S16 32) a x).toNat < S32768.size a)
theorem k0_idx250_inb : ∀ (i : grid0.Coords) (v356 : IVec S16 32) (k0_hw250 : k0_chk250 i v356), ∀ (k0_h6 : k0_cond6 i = 1#1), ∀ a x, ((![v356] : Fin 1 → IVec S16 32) a x).toNat < S32768.size a := fun i v356 k0_hw250 k0_h6 => k0_hw250 k0_h6

def k0_chk251 (i : grid0.Coords) (v363 : IVec S16 32) : Prop :=
  (∀ (k0_h6 : k0_cond6 i = 1#1), ∀ a x, ((![v363] : Fin 1 → IVec S16 32) a x).toNat < S32768.size a)
theorem k0_idx251_inb : ∀ (i : grid0.Coords) (v363 : IVec S16 32) (k0_hw251 : k0_chk251 i v363), ∀ (k0_h6 : k0_cond6 i = 1#1), ∀ a x, ((![v363] : Fin 1 → IVec S16 32) a x).toNat < S32768.size a := fun i v363 k0_hw251 k0_h6 => k0_hw251 k0_h6

def k0_chk252 (i : grid0.Coords) (v370 : IVec S16 32) : Prop :=
  (∀ (k0_h6 : k0_cond6 i = 1#1), ∀ a x, ((![v370] : Fin 1 → IVec S16 32) a x).toNat < S32768.size a)
theorem k0_idx252_inb : ∀ (i : grid0.Coords) (v370 : IVec S16 32) (k0_hw252 : k0_chk252 i v370), ∀ (k0_h6 : k0_cond6 i = 1#1), ∀ a x, ((![v370] : Fin 1 → IVec S16 32) a x).toNat < S32768.size a := fun i v370 k0_hw252 k0_h6 => k0_hw252 k0_h6

def k0_chk253 (i : grid0.Coords) (v377 : IVec S16 32) : Prop :=
  (∀ (k0_h6 : k0_cond6 i = 1#1), ∀ a x, ((![v377] : Fin 1 → IVec S16 32) a x).toNat < S32768.size a)
theorem k0_idx253_inb : ∀ (i : grid0.Coords) (v377 : IVec S16 32) (k0_hw253 : k0_chk253 i v377), ∀ (k0_h6 : k0_cond6 i = 1#1), ∀ a x, ((![v377] : Fin 1 → IVec S16 32) a x).toNat < S32768.size a := fun i v377 k0_hw253 k0_h6 => k0_hw253 k0_h6

def k0_chk254 (i : grid0.Coords) (v384 : IVec S16 32) : Prop :=
  (∀ (k0_h6 : k0_cond6 i = 1#1), ∀ a x, ((![v384] : Fin 1 → IVec S16 32) a x).toNat < S32768.size a)
theorem k0_idx254_inb : ∀ (i : grid0.Coords) (v384 : IVec S16 32) (k0_hw254 : k0_chk254 i v384), ∀ (k0_h6 : k0_cond6 i = 1#1), ∀ a x, ((![v384] : Fin 1 → IVec S16 32) a x).toNat < S32768.size a := fun i v384 k0_hw254 k0_h6 => k0_hw254 k0_h6

def k0_chk255 (i : grid0.Coords) (v391 : IVec S16 32) : Prop :=
  (∀ (k0_h6 : k0_cond6 i = 1#1), ∀ a x, ((![v391] : Fin 1 → IVec S16 32) a x).toNat < S32768.size a)
theorem k0_idx255_inb : ∀ (i : grid0.Coords) (v391 : IVec S16 32) (k0_hw255 : k0_chk255 i v391), ∀ (k0_h6 : k0_cond6 i = 1#1), ∀ a x, ((![v391] : Fin 1 → IVec S16 32) a x).toNat < S32768.size a := fun i v391 k0_hw255 k0_h6 => k0_hw255 k0_h6

def k0_chk256 (i : grid0.Coords) (v398 : IVec S16 32) : Prop :=
  (∀ (k0_h6 : k0_cond6 i = 1#1), ∀ a x, ((![v398] : Fin 1 → IVec S16 32) a x).toNat < S32768.size a)
theorem k0_idx256_inb : ∀ (i : grid0.Coords) (v398 : IVec S16 32) (k0_hw256 : k0_chk256 i v398), ∀ (k0_h6 : k0_cond6 i = 1#1), ∀ a x, ((![v398] : Fin 1 → IVec S16 32) a x).toNat < S32768.size a := fun i v398 k0_hw256 k0_h6 => k0_hw256 k0_h6

def k0_chk257 (i : grid0.Coords) (v405 : IVec S16 32) : Prop :=
  (∀ (k0_h6 : k0_cond6 i = 1#1), ∀ a x, ((![v405] : Fin 1 → IVec S16 32) a x).toNat < S32768.size a)
theorem k0_idx257_inb : ∀ (i : grid0.Coords) (v405 : IVec S16 32) (k0_hw257 : k0_chk257 i v405), ∀ (k0_h6 : k0_cond6 i = 1#1), ∀ a x, ((![v405] : Fin 1 → IVec S16 32) a x).toNat < S32768.size a := fun i v405 k0_hw257 k0_h6 => k0_hw257 k0_h6

def k0_chk258 (i : grid0.Coords) (v412 : IVec S16 32) : Prop :=
  (∀ (k0_h6 : k0_cond6 i = 1#1), ∀ a x, ((![v412] : Fin 1 → IVec S16 32) a x).toNat < S32768.size a)
theorem k0_idx258_inb : ∀ (i : grid0.Coords) (v412 : IVec S16 32) (k0_hw258 : k0_chk258 i v412), ∀ (k0_h6 : k0_cond6 i = 1#1), ∀ a x, ((![v412] : Fin 1 → IVec S16 32) a x).toNat < S32768.size a := fun i v412 k0_hw258 k0_h6 => k0_hw258 k0_h6

def k0_chk259 (i : grid0.Coords) (v419 : IVec S16 32) : Prop :=
  (∀ (k0_h6 : k0_cond6 i = 1#1), ∀ a x, ((![v419] : Fin 1 → IVec S16 32) a x).toNat < S32768.size a)
theorem k0_idx259_inb : ∀ (i : grid0.Coords) (v419 : IVec S16 32) (k0_hw259 : k0_chk259 i v419), ∀ (k0_h6 : k0_cond6 i = 1#1), ∀ a x, ((![v419] : Fin 1 → IVec S16 32) a x).toNat < S32768.size a := fun i v419 k0_hw259 k0_h6 => k0_hw259 k0_h6

def k0_chk260 (i : grid0.Coords) (v426 : IVec S16 32) : Prop :=
  (∀ (k0_h6 : k0_cond6 i = 1#1), ∀ a x, ((![v426] : Fin 1 → IVec S16 32) a x).toNat < S32768.size a)
theorem k0_idx260_inb : ∀ (i : grid0.Coords) (v426 : IVec S16 32) (k0_hw260 : k0_chk260 i v426), ∀ (k0_h6 : k0_cond6 i = 1#1), ∀ a x, ((![v426] : Fin 1 → IVec S16 32) a x).toNat < S32768.size a := fun i v426 k0_hw260 k0_h6 => k0_hw260 k0_h6

def k0_chk261 (i : grid0.Coords) (v433 : IVec S16 32) : Prop :=
  (∀ (k0_h6 : k0_cond6 i = 1#1), ∀ a x, ((![v433] : Fin 1 → IVec S16 32) a x).toNat < S32768.size a)
theorem k0_idx261_inb : ∀ (i : grid0.Coords) (v433 : IVec S16 32) (k0_hw261 : k0_chk261 i v433), ∀ (k0_h6 : k0_cond6 i = 1#1), ∀ a x, ((![v433] : Fin 1 → IVec S16 32) a x).toNat < S32768.size a := fun i v433 k0_hw261 k0_h6 => k0_hw261 k0_h6

def k0_chk262 (i : grid0.Coords) (v440 : IVec S16 32) : Prop :=
  (∀ (k0_h6 : k0_cond6 i = 1#1), ∀ a x, ((![v440] : Fin 1 → IVec S16 32) a x).toNat < S32768.size a)
theorem k0_idx262_inb : ∀ (i : grid0.Coords) (v440 : IVec S16 32) (k0_hw262 : k0_chk262 i v440), ∀ (k0_h6 : k0_cond6 i = 1#1), ∀ a x, ((![v440] : Fin 1 → IVec S16 32) a x).toNat < S32768.size a := fun i v440 k0_hw262 k0_h6 => k0_hw262 k0_h6

def k0_chk263 (i : grid0.Coords) (v447 : IVec S16 32) : Prop :=
  (∀ (k0_h6 : k0_cond6 i = 1#1), ∀ a x, ((![v447] : Fin 1 → IVec S16 32) a x).toNat < S32768.size a)
theorem k0_idx263_inb : ∀ (i : grid0.Coords) (v447 : IVec S16 32) (k0_hw263 : k0_chk263 i v447), ∀ (k0_h6 : k0_cond6 i = 1#1), ∀ a x, ((![v447] : Fin 1 → IVec S16 32) a x).toNat < S32768.size a := fun i v447 k0_hw263 k0_h6 => k0_hw263 k0_h6

def k0_chk264 (i : grid0.Coords) (v454 : IVec S16 32) : Prop :=
  (∀ (k0_h6 : k0_cond6 i = 1#1), ∀ a x, ((![v454] : Fin 1 → IVec S16 32) a x).toNat < S32768.size a)
theorem k0_idx264_inb : ∀ (i : grid0.Coords) (v454 : IVec S16 32) (k0_hw264 : k0_chk264 i v454), ∀ (k0_h6 : k0_cond6 i = 1#1), ∀ a x, ((![v454] : Fin 1 → IVec S16 32) a x).toNat < S32768.size a := fun i v454 k0_hw264 k0_h6 => k0_hw264 k0_h6

def k0_chk265 (i : grid0.Coords) (v461 : IVec S16 32) : Prop :=
  (∀ (k0_h6 : k0_cond6 i = 1#1), ∀ a x, ((![v461] : Fin 1 → IVec S16 32) a x).toNat < S32768.size a)
theorem k0_idx265_inb : ∀ (i : grid0.Coords) (v461 : IVec S16 32) (k0_hw265 : k0_chk265 i v461), ∀ (k0_h6 : k0_cond6 i = 1#1), ∀ a x, ((![v461] : Fin 1 → IVec S16 32) a x).toNat < S32768.size a := fun i v461 k0_hw265 k0_h6 => k0_hw265 k0_h6

def k0_chk266 (i : grid0.Coords) (v468 : IVec S16 32) : Prop :=
  (∀ (k0_h6 : k0_cond6 i = 1#1), ∀ a x, ((![v468] : Fin 1 → IVec S16 32) a x).toNat < S32768.size a)
theorem k0_idx266_inb : ∀ (i : grid0.Coords) (v468 : IVec S16 32) (k0_hw266 : k0_chk266 i v468), ∀ (k0_h6 : k0_cond6 i = 1#1), ∀ a x, ((![v468] : Fin 1 → IVec S16 32) a x).toNat < S32768.size a := fun i v468 k0_hw266 k0_h6 => k0_hw266 k0_h6

def k0_chk267 (i : grid0.Coords) (v475 : IVec S16 32) : Prop :=
  (∀ (k0_h6 : k0_cond6 i = 1#1), ∀ a x, ((![v475] : Fin 1 → IVec S16 32) a x).toNat < S32768.size a)
theorem k0_idx267_inb : ∀ (i : grid0.Coords) (v475 : IVec S16 32) (k0_hw267 : k0_chk267 i v475), ∀ (k0_h6 : k0_cond6 i = 1#1), ∀ a x, ((![v475] : Fin 1 → IVec S16 32) a x).toNat < S32768.size a := fun i v475 k0_hw267 k0_h6 => k0_hw267 k0_h6

def k0_chk268 (i : grid0.Coords) (v482 : IVec S16 32) : Prop :=
  (∀ (k0_h6 : k0_cond6 i = 1#1), ∀ a x, ((![v482] : Fin 1 → IVec S16 32) a x).toNat < S32768.size a)
theorem k0_idx268_inb : ∀ (i : grid0.Coords) (v482 : IVec S16 32) (k0_hw268 : k0_chk268 i v482), ∀ (k0_h6 : k0_cond6 i = 1#1), ∀ a x, ((![v482] : Fin 1 → IVec S16 32) a x).toNat < S32768.size a := fun i v482 k0_hw268 k0_h6 => k0_hw268 k0_h6
def k0_off14 (k0_t5 : Fin k0_t5_loop.trips) : Fin 1 → Nat :=
  let c0_i32_12 : BitVec 32 := 0#32
  let c0_i32_8 : BitVec 32 := 0#32
  let c1_i32_9 : BitVec 32 := 1#32
  let arg14 : BitVec 32 := Scf.iv c0_i32_8 c1_i32_9 k0_t5
  let c1_i32_11 : BitVec 32 := 1#32
  let v24 : BitVec 32 := Scalar.muli arg14 c1_i32_11
  let v25 : BitVec 32 := Scalar.addi c0_i32_12 v24
  let c16_i32_29 : BitVec 32 := 16#32
  let v493 : BitVec 32 := Scalar.muli v25 c16_i32_29
  let v494 : Index := Scalar.indexCast v493
  ![v494.toNat]

def k0_chk269 (i : grid0.Coords) (v496 : IVec S16 32) : Prop :=
  (∀ (k0_h6 : k0_cond6 i = 1#1), ∀ a x, ((![v496] : Fin 1 → IVec S16 32) a x).toNat < S32768.size a)
theorem k0_idx269_inb : ∀ (i : grid0.Coords) (v496 : IVec S16 32) (k0_hw269 : k0_chk269 i v496), ∀ (k0_h6 : k0_cond6 i = 1#1), ∀ a x, ((![v496] : Fin 1 → IVec S16 32) a x).toNat < S32768.size a := fun i v496 k0_hw269 k0_h6 => k0_hw269 k0_h6

def k0_chk270 (i : grid0.Coords) (v510 : IVec S16 32) : Prop :=
  (∀ (k0_h6 : k0_cond6 i = 1#1), ∀ a x, ((![v510] : Fin 1 → IVec S16 32) a x).toNat < S48.size a)
theorem k0_idx270_inb : ∀ (i : grid0.Coords) (v510 : IVec S16 32) (k0_hw270 : k0_chk270 i v510), ∀ (k0_h6 : k0_cond6 i = 1#1), ∀ a x, ((![v510] : Fin 1 → IVec S16 32) a x).toNat < S48.size a := fun i v510 k0_hw270 k0_h6 => k0_hw270 k0_h6

def k0_chk271 (i : grid0.Coords) (v512 : IVec S16 32) : Prop :=
  (∀ (k0_h6 : k0_cond6 i = 1#1), ∀ a x, ((![v512] : Fin 1 → IVec S16 32) a x).toNat < S48.size a)
theorem k0_idx271_inb : ∀ (i : grid0.Coords) (v512 : IVec S16 32) (k0_hw271 : k0_chk271 i v512), ∀ (k0_h6 : k0_cond6 i = 1#1), ∀ a x, ((![v512] : Fin 1 → IVec S16 32) a x).toNat < S48.size a := fun i v512 k0_hw271 k0_h6 => k0_hw271 k0_h6

def k0_chk272 (i : grid0.Coords) (v514 : IVec S16 32) : Prop :=
  (∀ (k0_h6 : k0_cond6 i = 1#1), ∀ a x, ((![v514] : Fin 1 → IVec S16 32) a x).toNat < S48.size a)
theorem k0_idx272_inb : ∀ (i : grid0.Coords) (v514 : IVec S16 32) (k0_hw272 : k0_chk272 i v514), ∀ (k0_h6 : k0_cond6 i = 1#1), ∀ a x, ((![v514] : Fin 1 → IVec S16 32) a x).toNat < S48.size a := fun i v514 k0_hw272 k0_h6 => k0_hw272 k0_h6
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8_r4 : BitVec 32 := 0#32
  ![v1.toNat, 0]
abbrev grid1 : Pipeline.Grid := .none

abbrev stage1_0 : Fin 1 → Memref sig .tc .vmem S32x48 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x64 : Shape := ⟨2, ![1000000, 64]⟩
abbrev S1000000 : Shape := ⟨1, ![1000000]⟩
abbrev S_ : Shape := ⟨0, ![]⟩
abbrev S1000000x1 : Shape := ⟨2, ![1000000, 1]⟩
abbrev S10 : Shape := ⟨1, ![10]⟩
abbrev S1 : Shape := ⟨1, ![1]⟩
abbrev S11 : Shape := ⟨1, ![11]⟩
abbrev S1x10 : Shape := ⟨2, ![1, 10]⟩
abbrev S1000000x10 : Shape := ⟨2, ![1000000, 10]⟩

abbrev nBuf : Space → Nat
  | .hbm => 100
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S_, .f32⟩
  | .hbm, ⟨3, _⟩ => ⟨S1000000, .f32⟩
  | .hbm, ⟨4, _⟩ => ⟨S_, .f32⟩
  | .hbm, ⟨5, _⟩ => ⟨S1000000, .f32⟩
  | .hbm, ⟨6, _⟩ => ⟨S1000000, .f32⟩
  | .hbm, ⟨7, _⟩ => ⟨S1000000x1, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S_, .f32⟩
  | .hbm, ⟨12, _⟩ => ⟨S1000000, .f32⟩
  | .hbm, ⟨13, _⟩ => ⟨S1000000x1, .f32⟩
  | .hbm, ⟨14, _⟩ => ⟨S1000000x64, .f32⟩
  | .hbm, ⟨15, _⟩ => ⟨S1000000x64, .f32⟩
  | .hbm, ⟨16, _⟩ => ⟨S_, .f32⟩
  | .hbm, ⟨17, _⟩ => ⟨S1000000, .f32⟩
  | .hbm, ⟨18, _⟩ => ⟨S1000000x64, .i32⟩
  | .hbm, ⟨19, _⟩ => ⟨S1000000x1, .f32⟩
  | .hbm, ⟨20, _⟩ => ⟨S1000000x64, .f32⟩
  | .hbm, ⟨21, _⟩ => ⟨S1000000x64, .i1⟩
  | .hbm, ⟨22, _⟩ => ⟨S_, .i32⟩
  | .hbm, ⟨23, _⟩ => ⟨S_, .i32⟩
  | .hbm, ⟨24, _⟩ => ⟨S1000000x64, .i32⟩
  | .hbm, ⟨25, _⟩ => ⟨S1000000x64, .i32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S1000000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S1, .f32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S1, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S1, .f32⟩
  | .hbm, ⟨52, _⟩ => ⟨S11, .f32⟩
  | .hbm, ⟨53, _⟩ => ⟨S10, .f32⟩
  | .hbm, ⟨54, _⟩ => ⟨S10, .f32⟩
  | .hbm, ⟨55, _⟩ => ⟨S1000000x1, .f32⟩
  | .hbm, ⟨56, _⟩ => ⟨S1x10, .f32⟩
  | .hbm, ⟨57, _⟩ => ⟨S1000000x10, .f32⟩
  | .hbm, ⟨58, _⟩ => ⟨S1000000x10, .f32⟩
  | .hbm, ⟨59, _⟩ => ⟨S1000000x10, .i1⟩
  | .hbm, ⟨60, _⟩ => ⟨S1x10, .f32⟩
  | .hbm, ⟨61, _⟩ => ⟨S1000000x10, .f32⟩
  | .hbm, ⟨62, _⟩ => ⟨S1000000x10, .f32⟩
  | .hbm, ⟨63, _⟩ => ⟨S1000000x10, .i1⟩
  | .hbm, ⟨64, _⟩ => ⟨S1000000x10, .i1⟩
  | .hbm, ⟨65, _⟩ => ⟨S1000000x10, .f32⟩
  | .hbm, ⟨66, _⟩ => ⟨S_, .f32⟩
  | .hbm, ⟨67, _⟩ => ⟨S10, .f32⟩
  | .hbm, ⟨68, _⟩ => ⟨S_, .f32⟩
  | .hbm, ⟨69, _⟩ => ⟨S10, .f32⟩
  | .hbm, ⟨70, _⟩ => ⟨S10, .f32⟩
  | .hbm, ⟨71, _⟩ => ⟨S_, .f32⟩
  | .hbm, ⟨72, _⟩ => ⟨S10, .f32⟩
  | .hbm, ⟨73, _⟩ => ⟨S_, .f32⟩
  | .hbm, ⟨74, _⟩ => ⟨S10, .f32⟩
  | .hbm, ⟨75, _⟩ => ⟨S10, .f32⟩
  | .hbm, ⟨76, _⟩ => ⟨S1000000x1, .f32⟩
  | .hbm, ⟨77, _⟩ => ⟨S1000000x10, .f32⟩
  | .hbm, ⟨78, _⟩ => ⟨S1000000x10, .f32⟩
  | .hbm, ⟨79, _⟩ => ⟨S_, .f32⟩
  | .hbm, ⟨80, _⟩ => ⟨S10, .f32⟩
  | .hbm, ⟨81, _⟩ => ⟨S10, .f32⟩
  | .hbm, ⟨82, _⟩ => ⟨S1000000x10, .f32⟩
  | .hbm, ⟨83, _⟩ => ⟨S1000000x10, .f32⟩
  | .hbm, ⟨84, _⟩ => ⟨S_, .f32⟩
  | .hbm, ⟨85, _⟩ => ⟨S10, .f32⟩
  | .hbm, ⟨86, _⟩ => ⟨S10, .f32⟩
  | .hbm, ⟨87, _⟩ => ⟨S10, .f32⟩
  | .hbm, ⟨88, _⟩ => ⟨S10, .f32⟩
  | .hbm, ⟨89, _⟩ => ⟨S10, .f32⟩
  | .hbm, ⟨90, _⟩ => ⟨S_, .f32⟩
  | .hbm, ⟨91, _⟩ => ⟨S10, .f32⟩
  | .hbm, ⟨92, _⟩ => ⟨S10, .i1⟩
  | .hbm, ⟨93, _⟩ => ⟨S_, .f32⟩
  | .hbm, ⟨94, _⟩ => ⟨S_, .f32⟩
  | .hbm, ⟨95, _⟩ => ⟨S10, .f32⟩
  | .hbm, ⟨96, _⟩ => ⟨S10, .f32⟩
  | .hbm, ⟨97, _⟩ => ⟨S_, .f32⟩
  | .hbm, ⟨98, _⟩ => ⟨S_, .f32⟩
  | .hbm, ⟨99, _⟩ => ⟨S1, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_cst_9 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_12 : Ref sig .tc := ⟨.hbm, 90, rfl⟩
abbrev main_v52 : Ref sig .tc := ⟨.hbm, 91, rfl⟩
abbrev main_v53 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v54 : Ref sig .tc := ⟨.hbm, 96, rfl⟩
abbrev main_cst_14 : Ref sig .tc := ⟨.hbm, 97, rfl⟩
abbrev main_v55 : Ref sig .tc := ⟨.hbm, 98, rfl⟩
abbrev main_v56 : Ref sig .tc := ⟨.hbm, 99, rfl⟩

abbrev nD : Nat := 1
abbrev τ : Topo := Topo.v7x

variable {F : FTy → Type} [FloatOps F]
-- ==== Proof.Group.lean ====
/-
  One group of sixteen rows, as ONE program over the buffers it reads and the two in-range checks it assumes: the four
  printed groups of the tile kernel (even chunk, odd chunk, extra chunk, tail) are its instances.
-/
module

public import proofs.«01_k».proof.Defs
public import Idealize.ShloMosaic.Lib.SparseCore.Quiescent
public import Idealize.ShloMosaic.Lib.Tactic
public import proofs.«01_k».proof.Proof.Gen.KernelIdeal

@[expose] public section

noncomputable section

namespace Cert.Proof.Ece

open Cert.KernelIdeal Cert.KernelIdeal.Gen
open Idealize.ShloMosaic Idealize.SL.Sem

variable {F : FTy → Type} [FloatOps F]

/-- The sixteen positions of column `c` of a group, each lane's column rotated by an exclusive or with its number. -/
abbrev gIdx (v6 fx : IVec S16 32) (c : ℕ) : IVec S16 32 := addi fx (xori v6 (broadcast S16 (BitVec.ofNat 32 c)))

/-- The programs of the tile at grid point `i`. -/
abbrev PR (F : FTy → Type) (i : grid0.Coords) : Type → Type 1 :=
  Prog (TpuEff nD τ sig (Elt F) Λ₀ (.scVector ((i 0).castLE hcore0) ((i 1).castLE hsub0)))

variable {i : grid0.Coords}

/-- `n` columns from column `c` on: each assumes its positions in range, gathers them, exponentiates, and adds to and
    maximises into the first of four accumulators, which then goes to the end of the row of four. -/
def gcols (xb : Memref sig .scVector .vmem S32768 .f32) (P : IVec S16 32 → Prop) (dec : ∀ v, Decidable (P v))
    (inb : ∀ v, P v → ∀ a x, ((![v] : Fin 1 → IVec S16 32) a x).toNat < S32768.size a) (v6 fx : IVec S16 32)
    (k : FVec F S16 .f32 → FVec F S16 .f32 → FVec F S16 .f32 → FVec F S16 .f32 → FVec F S16 .f32 → FVec F S16 .f32 →
      FVec F S16 .f32 → FVec F S16 .f32 → PR F i PUnit) :
    ℕ → ℕ → FVec F S16 .f32 → FVec F S16 .f32 → FVec F S16 .f32 → FVec F S16 .f32 → FVec F S16 .f32 → FVec F S16 .f32 →
      FVec F S16 .f32 → FVec F S16 .f32 → PR F i PUnit
  | 0, _, s0, m0, s1, m1, s2, m2, s3, m3 => k s0 m0 s1 m1 s2 m2 s3 m3
  | n + 1, c, s0, m0, s1, m1, s2, m2, s3, m3 =>
    .op (.assume (P (gIdx v6 fx c)) (dec _)) fun h =>
    .op (.load xb (.whole _) (View.loadsAt_whole (View.loads_vmem h_S32768))) fun f =>
      gcols xb P dec inb v6 fx k n (c + 1) s1 m1 s2 m2 s3 m3
        (addf s0 (exp (loadIdx f ![gIdx v6 fx c] (inb _ h.down)))) (maximumf m0 (exp (loadIdx f ![gIdx v6 fx c] (inb _ h.down))))

/-- The bin of each lane: ten times the confidence, to an integer, clipped to 0 … 9. -/
def gBin (conf : FVec F S16 .f32) : IVec S16 32 :=
  maxsi (minsi (fptosi 32 (mulf conf (broadcast S16 (Scalar.ofBits .f32 0x41200000#32)))) (broadcast S16 9#32)) (broadcast S16 0#32)

/-- A group's whole program. -/
def group (xb : Memref sig .scVector .vmem S32768 .f32) (tb : Memref sig .scVector .vmem S512 .i32)
    (bins : Memref sig .scVector .vmem S48 .f32)
    (P : IVec S16 32 → Prop) (dec : ∀ v, Decidable (P v))
    (inb : ∀ v, P v → ∀ a x, ((![v] : Fin 1 → IVec S16 32) a x).toNat < S32768.size a)
    (PB : IVec S16 32 → Prop) (decB : ∀ v, Decidable (PB v))
    (inbB : ∀ v, PB v → ∀ a x, ((![v] : Fin 1 → IVec S16 32) a x).toNat < S48.size a)
    (v6 : IVec S16 32) (v7 z : FVec F S16 .f32) (fx : IVec S16 32) (off : Fin 1 → ℕ) (hoff : ∀ a, off a + S16.size a ≤ S512.size a) : PR F i PUnit :=
  gcols xb P dec inb v6 fx (fun s0 m0 s1 m1 s2 m2 s3 m3 =>
    .op (.load tb (Rect.unit (s := S512) off S16.size hoff).toLoadRect (View.loadsAt_vmem h_S16)) fun (tv : Vec F S16 .i32) =>
    .op (.assume (P (addi fx tv)) (dec _)) fun h =>
    .op (.load xb (.whole _) (View.loadsAt_whole (View.loads_vmem h_S32768))) fun f =>
    .op (.assume (PB (gBin (divf (maximumf (maximumf m0 m1) (maximumf m2 m3)) (addf (addf s0 s1) (addf s2 s3))))) (decB _)) fun h0 =>
    SparseCore.vectorStoreIdx bins ![gBin (divf (maximumf (maximumf m0 m1) (maximumf m2 m3)) (addf (addf s0 s1) (addf s2 s3)))] v7
      (fun _ => 1#1) true (inbB _ h0.down) (View.stores_vmem_bits_univ h_S48 rfl) >>= fun _ =>
    .op (.assume (PB (addi (gBin (divf (maximumf (maximumf m0 m1) (maximumf m2 m3)) (addf (addf s0 s1) (addf s2 s3)))) (broadcast S16 16#32))) (decB _)) fun h1 =>
    SparseCore.vectorStoreIdx bins ![addi (gBin (divf (maximumf (maximumf m0 m1) (maximumf m2 m3)) (addf (addf s0 s1) (addf s2 s3)))) (broadcast S16 16#32)]
      (divf (maximumf (maximumf m0 m1) (maximumf m2 m3)) (addf (addf s0 s1) (addf s2 s3)))
      (fun _ => 1#1) true (inbB _ h1.down) (View.stores_vmem_bits_univ h_S48 rfl) >>= fun _ =>
    .op (.assume (PB (addi (gBin (divf (maximumf (maximumf m0 m1) (maximumf m2 m3)) (addf (addf s0 s1) (addf s2 s3)))) (broadcast S16 32#32))) (decB _)) fun h2 =>
    SparseCore.vectorStoreIdx bins ![addi (gBin (divf (maximumf (maximumf m0 m1) (maximumf m2 m3)) (addf (addf s0 s1) (addf s2 s3)))) (broadcast S16 32#32)]
      (select (cmpf .oeq (exp (loadIdx f ![addi fx tv] (inb _ h.down))) (maximumf (maximumf m0 m1) (maximumf m2 m3)))
        (broadcast S16 (Scalar.ofBits .f32 0x3F800000#32)) (broadcast S16 (Scalar.ofBits .f32 0x00000000#32)))
      (fun _ => 1#1) true (inbB _ h2.down) (View.stores_vmem_bits_univ h_S48 rfl) >>= fun _ => pure ⟨⟩)
    64 0 z z z z z z z z

end Cert.Proof.Ece

end
-- ==== Proof.Body.lean ====
/-
  The tile kernel's body, written with the group of sixteen rows as one program: the printed body is this program by
  unfolding.
-/
module

public import proofs.«01_k».proof.Proof.Group

@[expose] public section

set_option maxRecDepth 100000

noncomputable section

namespace Cert.Proof.Ece

open Cert.KernelIdeal Cert.KernelIdeal.Gen
open Idealize.ShloMosaic Idealize.SL.Sem

variable {F : FTy → Type} [FloatOps F]

abbrev mX : Memref sig .scVector .hbm S64000000 .f32 := Memref.whole main_v0_scv
abbrev mT : Memref sig .scVector .hbm S1000000 .i32 := Memref.whole main_arg1_scv
abbrev mO : Memref sig .scVector .hbm S32x48 .f32 := Memref.whole main_v1_scv
abbrev xb0 : Memref sig .scVector .vmem S32768 .f32 := Memref.whole cc0_scratch0
abbrev xb1 : Memref sig .scVector .vmem S32768 .f32 := Memref.whole cc0_scratch1
abbrev tb0 : Memref sig .scVector .vmem S512 .i32 := Memref.whole cc0_scratch2
abbrev tb1 : Memref sig .scVector .vmem S512 .i32 := Memref.whole cc0_scratch3
abbrev bn : Memref sig .scVector .vmem S48 .f32 := Memref.whole cc0_scratch4

/-- The lane numbers. -/
abbrev lanes : IVec S16 32 := iota .scVector S16 32 [0] iota_S16_d0_w32_scVector
abbrev ones : FVec F S16 .f32 := broadcast S16 (Scalar.ofBits .f32 0x3F800000#32)
abbrev zers : FVec F S16 .f32 := broadcast S16 (Scalar.ofBits .f32 0x00000000#32)

/-- The flat position of the first word of each lane's row, for the group numbered `n`. -/
abbrev rowPos (n : ℕ) : IVec S16 32 :=
  muli (addi lanes (broadcast S16 (Scalar.muli (Scalar.addi 0#32 (Scalar.muli (Scf.iv 0#32 1#32 n) 1#32)) 16#32)))
    (broadcast S16 64#32)

variable (i : grid0.Coords)

abbrev sliceX (o : Fin 1 → ℕ) (h : ∀ a, o a + S32768.size a ≤ S64000000.size a) : Memref sig .scVector .hbm S32768 .f32 :=
  mX.slice (Rect.unit (s := S64000000) o S32768.size h) (fun _ => rfl)
abbrev sliceT (o : Fin 1 → ℕ) (h : ∀ a, o a + S512.size a ≤ S1000000.size a) : Memref sig .scVector .hbm S512 .i32 :=
  mT.slice (Rect.unit (s := S1000000) o S512.size h) (fun _ => rfl)

/-- The group `n` of an even chunk. -/
abbrev grpE (k : Fin k0_t1_loop.trips) (h1 : k0_cond1 k = 1#1) (n : Fin k0_t2_loop.trips) : PR F i PUnit :=
  group xb0 tb0 bn (k0_chk1 k) (k0_chk1.dec k) (fun v h => k0_idx1_inb k v h h1) (k0_chk66 k) (k0_chk66.dec k)
    (fun v h => k0_idx66_inb k v h h1) lanes ones zers (rowPos n) (k0_off7 n) (k0_off7_inb k n h1)

/-- The group `n` of an odd chunk. -/
abbrev grpO (k : Fin k0_t1_loop.trips) (h1 : k0_cond3 k = 1#1) (n : Fin k0_t3_loop.trips) : PR F i PUnit :=
  group xb1 tb1 bn (k0_chk69 k) (k0_chk69.dec k) (fun v h => k0_idx69_inb k v h h1) (k0_chk134 k) (k0_chk134.dec k)
    (fun v h => k0_idx134_inb k v h h1) lanes ones zers (rowPos n) (k0_off12 n) (k0_off12_inb k n h1)

/-- The group `n` of the extra chunk. -/
abbrev grpX (h1 : k0_cond5 i = 1#1) (n : Fin k0_t4_loop.trips) : PR F i PUnit :=
  group xb0 tb0 bn (k0_chk137 i) (k0_chk137.dec i) (fun v h => k0_idx137_inb i v h h1) (k0_chk202 i) (k0_chk202.dec i)
    (fun v h => k0_idx202_inb i v h h1) lanes ones zers (rowPos n) (k0_off13 n) (k0_off13_inb i n h1)

/-- The group `n` of the tail. -/
abbrev grpT (h1 : k0_cond6 i = 1#1) (n : Fin k0_t5_loop.trips) : PR F i PUnit :=
  group xb0 tb0 bn (k0_chk205 i) (k0_chk205.dec i) (fun v h => k0_idx205_inb i v h h1) (k0_chk270 i) (k0_chk270.dec i)
    (fun v h => k0_idx270_inb i v h h1) lanes ones zers (rowPos n) (k0_off14 n) (k0_off14_inb i n h1)

def evenHalf (k : Fin k0_t1_loop.trips) (r : PR F i PUnit) : PR F i PUnit := do
  if h1 : k0_cond1 k = 1#1 then do
    if h2 : k0_cond2 k = 1#1 then do
      Prog.lift (.enqueueDma (sliceX (k0_off3 i k) (k0_off3_inb i k h1 h2)) (.here xb1) (.dma cc0_scratch6.sem) (View.wordExact_bits rfl) (Memref.isWhole_whole _).wordExact ⟨Or.inl rfl, trivial⟩)
      Prog.lift (.enqueueDma (sliceT (k0_off4 i k) (k0_off4_inb i k h1 h2)) (.here tb1) (.dma cc0_scratch8.sem) (View.wordExact_bits rfl) (Memref.isWhole_whole _).wordExact ⟨Or.inl rfl, trivial⟩)
      pure ⟨⟩
    else do
      pure ⟨⟩
    Prog.lift (.waitDma2 cc0_scratch5.sem (sliceX (k0_off5 i k) (k0_off5_inb i k h1)) xb0 (View.wordExact_bits rfl) (Memref.isWhole_whole _).wordExact)
    Prog.lift (.waitDma2 cc0_scratch7.sem (sliceT (k0_off6 i k) (k0_off6_inb i k h1)) tb0 (View.wordExact_bits rfl) (Memref.isWhole_whole _).wordExact)
    Scf.Loop.for k0_t2_loop (k0_t2_ok k h1) ⟨⟩ fun n _ => grpE i k h1 n
    pure ⟨⟩
  else do
    pure ⟨⟩
  r

def oddHalf (k : Fin k0_t1_loop.trips) (r : PR F i PUnit) : PR F i PUnit := do
  if h1 : k0_cond3 k = 1#1 then do
    if h2 : k0_cond4 k = 1#1 then do
      Prog.lift (.enqueueDma (sliceX (k0_off8 i k) (k0_off8_inb i k h1 h2)) (.here xb0) (.dma cc0_scratch5.sem) (View.wordExact_bits rfl) (Memref.isWhole_whole _).wordExact ⟨Or.inl rfl, trivial⟩)
      Prog.lift (.enqueueDma (sliceT (k0_off9 i k) (k0_off9_inb i k h1 h2)) (.here tb0) (.dma cc0_scratch7.sem) (View.wordExact_bits rfl) (Memref.isWhole_whole _).wordExact ⟨Or.inl rfl, trivial⟩)
      pure ⟨⟩
    else do
      pure ⟨⟩
    Prog.lift (.waitDma2 cc0_scratch6.sem (sliceX (k0_off10 i k) (k0_off10_inb i k h1)) xb1 (View.wordExact_bits rfl) (Memref.isWhole_whole _).wordExact)
    Prog.lift (.waitDma2 cc0_scratch8.sem (sliceT (k0_off11 i k) (k0_off11_inb i k h1)) tb1 (View.wordExact_bits rfl) (Memref.isWhole_whole _).wordExact)
    Scf.Loop.for k0_t3_loop (k0_t3_ok k h1) ⟨⟩ fun n _ => grpO i k h1 n
    pure ⟨⟩
  else do
    pure ⟨⟩
  r

/-- The extra chunk. -/
def extra (r : PR F i PUnit) : PR F i PUnit := do
  if h5 : k0_cond5 i = 1#1 then do
    Prog.lift (.enqueueDma (sliceX ![63963136] inb_S64000000_S32768_63963136) (.here xb0) (.dma cc0_scoped0.sem) (View.wordExact_bits rfl) (Memref.isWhole_whole _).wordExact ⟨Or.inl rfl, trivial⟩)
    Prog.lift (.waitDma2 cc0_scoped0.sem (sliceX ![63963136] inb_S64000000_S32768_63963136) xb0 (View.wordExact_bits rfl) (Memref.isWhole_whole _).wordExact)
    Prog.lift (.enqueueDma (sliceT ![999424] inb_S1000000_S512_999424) (.here tb0) (.dma cc0_scoped1.sem) (View.wordExact_bits rfl) (Memref.isWhole_whole _).wordExact ⟨Or.inl rfl, trivial⟩)
    Prog.lift (.waitDma2 cc0_scoped1.sem (sliceT ![999424] inb_S1000000_S512_999424) tb0 (View.wordExact_bits rfl) (Memref.isWhole_whole _).wordExact)
    Scf.Loop.for k0_t4_loop (k0_t4_ok i h5) ⟨⟩ fun n _ => grpX i h5 n
    pure ⟨⟩
  else do
    pure ⟨⟩
  r

abbrev xbT : Memref sig .scVector .vmem S4096 .f32 := xb0.slice (Rect.unit (s := S32768) ![0] S4096.size inb_S32768_S4096_0) (fun _ => rfl)
abbrev tbT : Memref sig .scVector .vmem S64 .i32 := tb0.slice (Rect.unit (s := S512) ![0] S64.size inb_S512_S64_0) (fun _ => rfl)
abbrev mXT : Memref sig .scVector .hbm S4096 .f32 := mX.slice (Rect.unit (s := S64000000) ![63995904] S4096.size inb_S64000000_S4096_63995904) (fun _ => rfl)
abbrev mTT : Memref sig .scVector .hbm S64 .i32 := mT.slice (Rect.unit (s := S1000000) ![999936] S64.size inb_S1000000_S64_999936) (fun _ => rfl)

/-- The tail's sixty-four rows. -/
def tailP (r : PR F i PUnit) : PR F i PUnit := do
  if h6 : k0_cond6 i = 1#1 then do
    Prog.lift (.enqueueDma mXT (.here xbT) (.dma cc0_scoped2.sem) (View.wordExact_bits rfl) (View.wordExact_bits rfl) ⟨Or.inl rfl, trivial⟩)
    Prog.lift (.waitDma2 cc0_scoped2.sem mXT xbT (View.wordExact_bits rfl) (View.wordExact_bits rfl))
    Prog.lift (.enqueueDma mTT (.here tbT) (.dma cc0_scoped3.sem) (View.wordExact_bits rfl) (View.wordExact_bits rfl) ⟨Or.inl rfl, trivial⟩)
    Prog.lift (.waitDma2 cc0_scoped3.sem mTT tbT (View.wordExact_bits rfl) (View.wordExact_bits rfl))
    Scf.Loop.for k0_t5_loop (k0_t5_ok i h6) ⟨⟩ fun n _ => grpT i h6 n
    pure ⟨⟩
  else do
    pure ⟨⟩
  r

/-- The tile's row of the result. -/
abbrev mRow : Memref sig .scVector .hbm S48 .f32 :=
  (mO.slice (Rect.unit (s := S32x48) (k0_off15 i) S1x48.size (k0_off15_inb i)) (fun _ => rfl)).squeeze S48 squeezes_S1x48_S48

/-- The three sixteens of bins put at zero. -/
def zeroP (r : PR F i PUnit) : PR F i PUnit := do
  let v3 : Vec F S16 .f32 ← Prog.lift (.load bn (Rect.unit (s := S48) ![0] S16.size inb_S48_S16_0).toLoadRect (View.loadsAt_vmem h_S16))
  Prog.lift (.store bn (Rect.unit (s := S48) ![0] S16.size inb_S48_S16_0) zers Finset.univ (View.stores_vmem_bits_univ h_S16 rfl) (.inl rfl))
  let v4 : Vec F S16 .f32 ← Prog.lift (.load bn (Rect.unit (s := S48) ![16] S16.size inb_S48_S16_16).toLoadRect (View.loadsAt_vmem h_S16))
  Prog.lift (.store bn (Rect.unit (s := S48) ![16] S16.size inb_S48_S16_16) zers Finset.univ (View.stores_vmem_bits_univ h_S16 rfl) (.inl rfl))
  let v5 : Vec F S16 .f32 ← Prog.lift (.load bn (Rect.unit (s := S48) ![32] S16.size inb_S48_S16_32).toLoadRect (View.loadsAt_vmem h_S16))
  Prog.lift (.store bn (Rect.unit (s := S48) ![32] S16.size inb_S48_S16_32) zers Finset.univ (View.stores_vmem_bits_univ h_S16 rfl) (.inl rfl))
  r

/-- The body up to and with the start of the copy of the bins to the tile's row of the result. -/
def mainP : PR F i PUnit := zeroP i do
  Prog.lift (.enqueueDma (sliceX (k0_off1 i) (k0_off1_inb i)) (.here xb0) (.dma cc0_scratch5.sem) (View.wordExact_bits rfl) (Memref.isWhole_whole _).wordExact ⟨Or.inl rfl, trivial⟩)
  Prog.lift (.enqueueDma (sliceT (k0_off2 i) (k0_off2_inb i)) (.here tb0) (.dma cc0_scratch7.sem) (View.wordExact_bits rfl) (Memref.isWhole_whole _).wordExact ⟨Or.inl rfl, trivial⟩)
  Scf.Loop.for k0_t1_loop k0_t1_ok ⟨⟩ fun k _ => evenHalf i k (oddHalf i k (pure ⟨⟩))
  extra i <| tailP i do
    Prog.lift (.enqueueDma bn (.here (mRow i)) (.dma cc0_scoped4.sem) (Memref.isWhole_whole _).wordExact ((View.wordExact_bits rfl).reshape _ _) ⟨Or.inl rfl, trivial⟩)
    pure ⟨⟩

/-- The tile's whole body. -/
def tileP : PR F i PUnit := do
  mainP i
  Prog.lift (.waitDma2 cc0_scoped4.sem bn (mRow i) (Memref.isWhole_whole _).wordExact ((View.wordExact_bits rfl).reshape _ _))
  pure ⟨⟩

set_option maxHeartbeats 4000000 in
/-- The printed body of the tile kernel is `tileP`. -/
theorem body_eq : cc0__sc_body (F := F) i mX (Memref.isWhole_whole _) mT (Memref.isWhole_whole _) mO (Memref.isWhole_whole _)
    xb0 (Memref.isWhole_whole _) xb1 (Memref.isWhole_whole _) tb0 (Memref.isWhole_whole _) tb1 (Memref.isWhole_whole _)
    bn (Memref.isWhole_whole _) cc0_scratch5 cc0_scratch6 cc0_scratch7 cc0_scratch8 cc0_scoped0 cc0_scoped1 cc0_scoped2
    cc0_scoped3 cc0_scoped4 = tileP i := by
  rfl

end Cert.Proof.Ece

end
-- ==== Proof.Val.lean ====
/-
  What the tile kernel computes, as functions of numbers: the logits `X` by flat position, the targets `T` by row number,
  the forty-eight bins `B` by slot.
-/
module

public import proofs.«01_k».proof.Proof.Body

@[expose] public section

noncomputable section

namespace Cert.Proof.Ece

open Cert.KernelIdeal Cert.KernelIdeal.Gen
open Idealize.ShloMosaic Idealize.SL.Sem

variable {F : FTy → Type} [FloatOps F]

/-- The zero the kernel starts from, and the one it counts with. -/
abbrev f0 : F .f32 := Scalar.ofBits .f32 0x00000000#32
abbrev f1 : F .f32 := Scalar.ofBits .f32 0x3F800000#32

/-- The `k` numbers `e j`, `e (4 + j)`, `e (8 + j)` … added up from zero. -/
def accS (e : ℕ → F .f32) (j : ℕ) : ℕ → F .f32
  | 0 => f0
  | k + 1 => FloatOps.addf (accS e j k) (e (4 * k + j))

/-- The largest of zero and the `k` numbers `e j`, `e (4 + j)`, … -/
def accM (e : ℕ → F .f32) (j : ℕ) : ℕ → F .f32
  | 0 => f0
  | k + 1 => FloatOps.maximumf (accM e j k) (e (4 * k + j))

/-- Column `c` of lane `l`'s exponentials: the row's column `l xor c`. -/
def expAt (X : ℕ → F .f32) (r l c : ℕ) : F .f32 := FloatOps.exp (X (64 * r + (l ^^^ c)))

/-- The sum of the exponentials of row `r`, read by lane `l`. -/
def rowSum (X : ℕ → F .f32) (r l : ℕ) : F .f32 :=
  FloatOps.addf (FloatOps.addf (accS (expAt X r l) 0 16) (accS (expAt X r l) 1 16))
    (FloatOps.addf (accS (expAt X r l) 2 16) (accS (expAt X r l) 3 16))

/-- The largest exponential of row `r`. -/
def rowMax (X : ℕ → F .f32) (r l : ℕ) : F .f32 :=
  FloatOps.maximumf (FloatOps.maximumf (accM (expAt X r l) 0 16) (accM (expAt X r l) 1 16))
    (FloatOps.maximumf (accM (expAt X r l) 2 16) (accM (expAt X r l) 3 16))

/-- The confidence of row `r`. -/
def rowConf (X : ℕ → F .f32) (r l : ℕ) : F .f32 := FloatOps.divf (rowMax X r l) (rowSum X r l)

/-- The bin of a confidence. -/
def binW (q : F .f32) : BitVec 32 :=
  IntOp.maxsi (IntOp.minsi (FloatOps.fptosi 32 (FloatOps.mulf q (Scalar.ofBits .f32 0x41200000#32))) 9#32) 0#32

/-- One if row `r`'s target column holds the largest exponential, zero otherwise. -/
def rowHit (X : ℕ → F .f32) (T : ℕ → BitVec 32) (r l : ℕ) : F .f32 :=
  if FloatOps.cmpf .oeq (FloatOps.exp (X (64 * r + (T r).toNat))) (rowMax X r l) = 1#1 then f1 else f0

/-- Slot `k` of the bins raised by `v`. -/
def put (B : ℕ → F .f32) (k : ℕ) (v : F .f32) : ℕ → F .f32 := fun j => if j = k then Elt.idxAdd (F := F) .f32 (B k) v else B j

/-- Sixteen lanes each raising its slot. -/
def scat (B : ℕ → F .f32) (ix : ℕ → ℕ) (v : ℕ → F .f32) : ℕ → F .f32 :=
  (List.range 16).foldl (fun B l => put B (ix l) (v l)) B

/-- The group of the sixteen rows from row `r` on: the counts, the confidences and the hits added to their bins. -/
def grpB (X : ℕ → F .f32) (T : ℕ → BitVec 32) (r : ℕ) (B : ℕ → F .f32) : ℕ → F .f32 :=
  scat (scat (scat B (fun l => (binW (rowConf X (r + l) l)).toNat) fun _ => f1)
      (fun l => (binW (rowConf X (r + l) l)).toNat + 16) fun l => rowConf X (r + l) l)
    (fun l => (binW (rowConf X (r + l) l)).toNat + 32) fun l => rowHit X T (r + l) l

/-- `n` groups from row `r` on. -/
def runB (X : ℕ → F .f32) (T : ℕ → BitVec 32) (r : ℕ) (B : ℕ → F .f32) : ℕ → ℕ → F .f32
  | 0 => B
  | n + 1 => grpB X T (r + 16 * n) (runB X T r B n)

/-! ### The lanes -/

/-- Lane `l` as an index of the sixteen. -/
abbrev lix (l : Fin 16) : S16.Idx := Shape.ofLane (d := ![16]) l

theorem lanes_apply (x : S16.Idx) : lanes x = BitVec.ofNat 32 (x 0).val := by
  show BitVec.ofNat 32 _ = _
  simp

theorem rowPos_toNat (n : ℕ) (hn : n < 32) (x : S16.Idx) : (rowPos n x).toNat = 64 * (16 * n + (x 0).val) := by
  have hx : (x 0).val < 16 := (x 0).isLt
  show ((lanes x + ((0#32 + (Scf.iv 0#32 1#32 n * 1#32)) * 16#32)) * 64#32).toNat = _
  rw [lanes_apply]
  have : (Scf.iv 0#32 1#32 n : BitVec 32) = BitVec.ofNat 32 n := by
    unfold Scf.iv; simp
  rw [this]
  simp only [BitVec.toNat_mul, BitVec.toNat_add, BitVec.toNat_ofNat]
  omega

theorem gIdx_toNat (n : ℕ) (hn : n < 32) (c : ℕ) (hc : c < 64) (x : S16.Idx) :
    (gIdx lanes (rowPos n) c x).toNat = 64 * (16 * n + (x 0).val) + ((x 0).val ^^^ c) := by
  have hx : (x 0).val < 16 := (x 0).isLt
  have hxor : (x 0).val ^^^ c < 64 := Nat.xor_lt_two_pow (n := 6) (by omega) (by omega)
  show (rowPos n x + (lanes x ^^^ BitVec.ofNat 32 c)).toNat = _
  rw [BitVec.toNat_add, rowPos_toNat n hn, BitVec.toNat_xor, lanes_apply, BitVec.toNat_ofNat, BitVec.toNat_ofNat,
    Nat.mod_eq_of_lt (show (x 0).val < 2 ^ 32 by omega), Nat.mod_eq_of_lt (show c < 2 ^ 32 by omega)]
  omega

theorem tIdx_toNat (n : ℕ) (hn : n < 32) (tv : IVec S16 32) (x : S16.Idx) (ht : (tv x).toNat < 64) :
    (addi (rowPos n) tv x).toNat = 64 * (16 * n + (x 0).val) + (tv x).toNat := by
  have hx : (x 0).val < 16 := (x 0).isLt
  show (rowPos n x + tv x).toNat = _
  rw [BitVec.toNat_add, rowPos_toNat n hn]
  omega

theorem binW_le (q : F .f32) : (binW q).toNat ≤ 9 := by
  unfold binW IntOp.maxsi IntOp.minsi
  generalize (FloatOps.fptosi 32 (FloatOps.mulf q (Scalar.ofBits .f32 0x41200000#32)) : BitVec 32) = w
  have e := BitVec.toInt_eq_toNat_cond w
  by_cases h : w.slt 9#32 = true
  · rw [if_pos h]
    by_cases h' : (0#32).slt w = true
    · rw [if_pos h']
      rw [BitVec.slt_eq_decide, decide_eq_true_eq] at h h'
      rw [show (9#32 : BitVec 32).toInt = 9 from by decide] at h
      rw [show (0#32 : BitVec 32).toInt = 0 from by decide] at h'
      have := w.isLt
      split at e <;> omega
    · rw [if_neg h']; decide
  · rw [if_neg h]; decide

/-! ### The scatter -/

theorem scat_fin (B : ℕ → F .f32) (ix : ℕ → ℕ) (v : ℕ → F .f32) :
    scat B ix v = (List.finRange 16).foldl (fun B l => put B (ix l.val) (v l.val)) B := by
  unfold scat
  rw [show List.range 16 = (List.finRange 16).map Fin.val from by decide, List.foldl_map]

theorem storeIdx_eq (B : ℕ → F .f32) (v : IVec S16 32) (val : FVec F S16 .f32) (ix : ℕ → ℕ) (vl : ℕ → F .f32)
    (hix : ∀ l : Fin 16, (v (lix l)).toNat = ix l.val) (hvl : ∀ l : Fin 16, val (lix l) = vl l.val)
    (h : ∀ a x, ((![v] : Fin 1 → IVec S16 32) a x).toNat < S48.size a) :
    storeIdx (F := F) (s := S48) (e := .f32) (fun j => B (j 0).val) ![v] val (fun _ => 1#1) true h
      = fun j => scat B ix vl (j 0).val := by
  rw [scat_fin]
  unfold storeIdx
  refine List.foldl_hom (fun (B : ℕ → F .f32) (j : S48.Idx) => B (j 0).val) (fun B l => ?_)
  funext j
  refine (congrFun (if_pos (rfl : (1#1 : BitVec 1) = 1)) j).trans ?_
  show _ = if (j 0).val = ix l.val then Elt.idxAdd (F := F) .f32 (B (ix l.val)) (vl l.val) else B (j 0).val
  rw [← hix l, ← hvl l]
  by_cases e : (j 0).val = (v (lix l)).toNat
  · rw [if_pos e, if_pos (fun a => by rw [Fin.eq_zero a]; exact e)]
    rfl
  · rw [if_neg e, if_neg (fun H => e (H 0))]

end Cert.Proof.Ece

end
-- ==== Proof.Setup.lean ====
/-
  The tile kernel as the launch theorem sees it: the configuration, the resource algebra, what the one SparseCore call
  takes and brings back.
-/
module

public import proofs.«01_k».proof.Proof.Val
public import Idealize.ShloMosaic.Lib.StableHlo.Run
public import Idealize.ShloMosaic.Lib.Pipeline.Kit
public import Idealize.ShloMosaic.Lib.Transfers

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section
variable [FloatOps F]
abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩
end

abbrev UH : Type := URounds (GSem nD τ sig) ℕ
abbrev UP : Type := UR sig nD τ
abbrev UU : Type := UH × (UP × Counters)

/-- The resources of the proof. -/
abbrev 𝕄 (F : FTy → Type) := MT nD τ sig (HIx 1) (Elt F) ℕ UU ℕ

abbrev EH : Emb UH (𝕄 F) := embL

variable (m : (ℓ : Loc nD τ sig) → Buf (Elt F) ℓ) (ρ : Dev nD → PrngReg)

/-- The flat logits, the targets and the tiles' rows of bins, as locations of device `d`. -/
abbrev xLoc (d : Dev nD) : Loc nD τ sig := (SparseCore.T d).loc main_v0
abbrev tLoc (d : Dev nD) : Loc nD τ sig := (SparseCore.T d).loc main_arg1
abbrev oLoc (d : Dev nD) : Loc nD τ sig := (SparseCore.T d).loc main_v1

theorem hdiv : 32 ∣ S32x48.size 0 := ⟨1, rfl⟩
/-- Row `w` of the (32, 48) array of bins: one tile's. -/
abbrev row (w : Fin 32) : Rect S32x48 := Rect.part (s := S32x48) (a₀ := 0) hdiv w
abbrev rowSet (w : Fin 32) : Finset S32x48.Idx := ((mO).view.slice (row w)).set

/-- The number of the tile at subcore `s` of SparseCore `c`. -/
abbrev wid (c : Fin 2) (s : Fin 16) : Fin 32 := ⟨2 * s.val + c.val, by omega⟩

variable [FloatOps F]

/-- The flat logits of `f` by position. -/
def xAt (f : S64000000.Idx → F .f32) (p : ℕ) : F .f32 := if h : p < 64000000 then f (Shape.ofLane (d := ![64000000]) (⟨p, h⟩ : Fin 64000000)) else f0
/-- The targets of `f` by row number. -/
def tAt (f : S1000000.Idx → BitVec 32) (r : ℕ) : BitVec 32 := if h : r < 1000000 then f (Shape.ofLane (d := ![1000000]) (⟨r, h⟩ : Fin 1000000)) else 0#32

/-- The bins of tile `w`: its sixty-one chunks of thirty-two groups, tile 0's extra chunk, tile 31's four last groups. -/
def tileB (X : ℕ → F .f32) (T : ℕ → BitVec 32) (w : ℕ) : ℕ → F .f32 :=
  let B := runB X T (w * 31232) (fun _ => f0) (61 * 32)
  let B := if w = 0 then runB X T 999424 B 32 else B
  if w = 31 then runB X T 999936 B 4 else B

/-- The array of bins the call leaves. -/
def outC (fx : S64000000.Idx → F .f32) (ft : S1000000.Idx → BitVec 32) : S32x48.Idx → F .f32 :=
  fun j => tileB (xAt fx) (tAt ft) (j 0).val (j 1).val

variable (xc : (d : Dev nD) → Buf (Elt F) (xLoc d))

/-- The share of the arrays every tile reads that goes to SparseCore `c`, and to tile `(c, s)`. -/
abbrev cq (c : Fin 2) : PosShare TreeShare := Transfers.shareTok fullShare 2 c
abbrev sq (c : Fin 2) (s : Fin 16) : PosShare TreeShare := Transfers.shareTok (cq c) 16 s

abbrev xPts (d : Dev nD) (q : PosShare TreeShare) : sProp (𝕄 F) := xLoc d ↦{q} xc d
abbrev tPts (d : Dev nD) (q : PosShare TreeShare) : sProp (𝕄 F) := tLoc d ↦{q} m (tLoc d)
abbrev oRow (d : Dev nD) (w : Fin 32) (f : Buf (Elt F) (oLoc d)) : sProp (𝕄 F) := oLoc d ↦[rowSet w]{fullShare} f

abbrev outV (d : Dev nD) : Buf (Elt F) (oLoc d) := outC (xc d) (m (tLoc d))

/-- What tile `(c, s)` is dealt, at contents `f` of its row of bins. -/
abbrev tileR (d : Dev nD) (c : Fin 2) (s : Fin 16) (f : Buf (Elt F) (oLoc d)) : sProp (𝕄 F) :=
  iprop(xPts xc d (sq c s) ∗ tPts m d (sq c s) ∗ oRow d (wid c s) f)

/-- What SparseCore `c` is dealt. -/
abbrev coreR (d : Dev nD) (c : Fin 2) (f : Buf (Elt F) (oLoc d)) : sProp (𝕄 F) :=
  iprop(xPts xc d (cq c) ∗ tPts m d (cq c) ∗ bigSep Finset.univ fun s : Fin 16 => oRow d (wid c s) f)

/-- The one call takes read shares of the logits and the targets and the array of bins by rows, and brings the bins back
    at what the tiles compute. -/
def P : (K (F := F)).Pay (nD := nD) (Val := Elt F) (Name := ℕ) (U := UU) where
  st := fun q d c => match q with | 0 => coreR m xc d (Fin.cast nCore_zero c) (m (oLoc d))
  dn := fun q d c => match q with | 0 => coreR m xc d (Fin.cast nCore_zero c) (outV m xc d)
  go := fun q d c i => match q with | 0 => tileR m xc d (Fin.cast nCore_zero c) (Fin.cast nSub_zero i) (m (oLoc d))
  td := fun q d c i => match q with | 0 => tileR m xc d (Fin.cast nCore_zero c) (Fin.cast nSub_zero i) (outV m xc d)
  x := fun _ _ => iprop(emp)

instance P_storable : (P m xc).IsStorable where
  st q d c := match q with
    | 0 => (inferInstance : BI.Storable (upEmb : UEmb _ (𝕄 F)) (coreR m xc d (Fin.cast nCore_zero c) (m (oLoc d))))
  dn q d c := match q with
    | 0 => (inferInstance : BI.Storable (upEmb : UEmb _ (𝕄 F)) (coreR m xc d (Fin.cast nCore_zero c) (outV m xc d)))
  go q d c i := match q with
    | 0 => (inferInstance : BI.Storable (upEmb : UEmb _ (𝕄 F)) (tileR m xc d (Fin.cast nCore_zero c) (Fin.cast nSub_zero i) (m (oLoc d))))
  td q d c i := match q with
    | 0 => (inferInstance : BI.Storable (upEmb : UEmb _ (𝕄 F)) (tileR m xc d (Fin.cast nCore_zero c) (Fin.cast nSub_zero i) (outV m xc d)))

end Cert.Proof.Ece

end
-- ==== Proof.Row.lean ====
/-
  One row of logits over the extended reals: its confidence, its bin, and whether its target has the largest probability.
-/
module

public import Idealize.ShloMosaic.PureOps
public import Idealize.ShloMosaic.PureOps.Ideal
public import Mathlib.Analysis.SpecialFunctions.Exp

@[expose] public section

noncomputable section

namespace Cert.Proof.Ece

open Idealize.ShloMosaic

/-- The largest exponential of a row. -/
def top (x : Fin 64 → EReal) : EReal := Finset.univ.sup fun c => Ideal.exp (x c)

/-- The sum of a row's exponentials. -/
def tot (x : Fin 64 → EReal) : EReal := ∑ c, Ideal.exp (x c)

/-- The confidence of a row: its largest probability. -/
def conf (x : Fin 64 → EReal) : EReal := Ideal.div (top x) (tot x)

/-- The same row's probabilities as a softmax has them, its largest logit taken off first. -/
def soft (x : Fin 64 → EReal) (c : Fin 64) : EReal :=
  Ideal.div (Ideal.exp (x c - Finset.univ.sup x)) (∑ c, Ideal.exp (x c - Finset.univ.sup x))

/-- A supremum that one member attains. -/
theorem sup_at (h : Fin 64 → EReal) (c₀ : Fin 64) (hc : ∀ c, h c ≤ h c₀) : Finset.univ.sup h = h c₀ :=
  le_antisymm (Finset.sup_le fun c _ => hc c) (Finset.le_sup (Finset.mem_univ c₀))

/-- The exponential of a real number. -/
theorem exp_coe (r : ℝ) : Ideal.exp (r : EReal) = ((Real.exp r : ℝ) : EReal) := rfl

/-- The quotient of two real numbers, the second one positive. -/
theorem div_coe (a b : ℝ) (hb : 0 < b) : Ideal.div (a : EReal) (b : EReal) = ((a / b : ℝ) : EReal) := by
  unfold Ideal.div
  rw [if_neg (by exact_mod_cast hb.ne')]
  rw [div_eq_mul_inv, EReal.coe_mul, EReal.coe_inv]

/-- A finite sum of real numbers. -/
theorem sum_coe (g : Fin 64 → ℝ) : (∑ c, ((g c : ℝ) : EReal)) = ((∑ c, g c : ℝ) : EReal) := by
  induction (Finset.univ : Finset (Fin 64)) using Finset.induction_on with
  | empty => simp
  | insert a s ha ih => rw [Finset.sum_insert ha, Finset.sum_insert ha, EReal.coe_add, ih]

/-- A row that has a real number for its largest logit. The others may lie at the bottom. -/
def Sound (x : Fin 64 → EReal) : Prop := ∃ (c₀ : Fin 64) (m : ℝ), x c₀ = (m : EReal) ∧ ∀ c, x c ≤ (m : EReal)

/-- What the exponential makes of a logit that is at most the row's largest, and of their difference. -/
theorem weight (v : EReal) (m : ℝ) (h : v ≤ (m : EReal)) : ∃ w : ℝ, 0 ≤ w ∧ w ≤ Real.exp m ∧ Ideal.exp v = (w : EReal)
    ∧ Ideal.exp (v - (m : EReal)) = ((w / Real.exp m : ℝ) : EReal) := by
  induction v with
  | bot =>
    refine ⟨0, le_rfl, (Real.exp_pos _).le, rfl, ?_⟩
    rw [EReal.bot_sub, zero_div]
    rfl
  | top => exact absurd (top_le_iff.1 h) (EReal.coe_ne_top m)
  | coe y =>
    refine ⟨Real.exp y, (Real.exp_pos _).le, Real.exp_le_exp.2 (EReal.coe_le_coe_iff.1 h), rfl, ?_⟩
    rw [← EReal.coe_sub, exp_coe, Real.exp_sub]

/-- A sound row's exponentials as real numbers, and its largest one, sum and softmax in their terms. -/
theorem sound_real (x : Fin 64 → EReal) (hx : Sound x) : ∃ (w : Fin 64 → ℝ) (c₀ : Fin 64), (∀ c, w c ≤ w c₀) ∧ 0 < w c₀
    ∧ w c₀ ≤ ∑ c, w c ∧ (∀ c, Ideal.exp (x c) = (w c : EReal)) ∧ top x = (w c₀ : EReal) ∧ tot x = ((∑ c, w c : ℝ) : EReal)
    ∧ ∀ c, soft x c = ((w c / ∑ c, w c : ℝ) : EReal) := by
  obtain ⟨c₀, m, h₀, hm⟩ := hx
  choose w w0 wm we ws using fun c => weight (x c) m (hm c)
  have hc₀ : w c₀ = Real.exp m := by
    have h1 := we c₀
    rw [h₀, exp_coe] at h1
    exact (EReal.coe_eq_coe_iff.1 h1).symm
  have hpos : 0 < w c₀ := hc₀ ▸ Real.exp_pos m
  have hle : ∀ c, w c ≤ w c₀ := fun c => hc₀ ▸ wm c
  have hsum : w c₀ ≤ ∑ c, w c := Finset.single_le_sum (fun c _ => w0 c) (Finset.mem_univ c₀)
  refine ⟨w, c₀, hle, hpos, hsum, we, ?_, ?_, fun c => ?_⟩
  · unfold top
    simp only [we]
    exact sup_at (fun c => ((w c : ℝ) : EReal)) c₀ fun c => EReal.coe_le_coe_iff.2 (hle c)
  · unfold tot
    simp only [we]
    exact sum_coe w
  · have hs : Finset.univ.sup x = (m : EReal) := (sup_at x c₀ fun c => h₀ ▸ hm c).trans h₀
    have hd : (∑ c, w c / Real.exp m) = (∑ c, w c) / Real.exp m := (Finset.sum_div _ _ _).symm
    unfold soft
    rw [hs]
    simp only [ws]
    rw [sum_coe fun c => w c / Real.exp m, hd, div_coe _ _ (div_pos (hpos.trans_le hsum) (Real.exp_pos _)),
      div_div_div_cancel_right₀ (Real.exp_pos _).ne']

/-- The largest softmax probability is the confidence. -/
theorem sup_soft (x : Fin 64 → EReal) (hx : Sound x) : Finset.univ.sup (soft x) = conf x := by
  obtain ⟨w, c₀, hle, hpos, hsum, -, ht, hT, hs⟩ := sound_real x hx
  have hT0 := hpos.trans_le hsum
  unfold conf
  rw [ht, hT, div_coe _ _ hT0, ← hs c₀]
  refine sup_at _ c₀ fun c => ?_
  rw [hs, hs]
  exact EReal.coe_le_coe_iff.2 (div_le_div_of_nonneg_right (hle c) hT0.le)

/-- A class has the largest probability exactly when it has the largest exponential. -/
theorem soft_eq_conf (x : Fin 64 → EReal) (hx : Sound x) (c : Fin 64) : soft x c = conf x ↔ Ideal.exp (x c) = top x := by
  obtain ⟨w, c₀, -, hpos, hsum, he, ht, hT, hs⟩ := sound_real x hx
  have hT0 := hpos.trans_le hsum
  unfold conf
  rw [hs, ht, hT, div_coe _ _ hT0, he, EReal.coe_eq_coe_iff, EReal.coe_eq_coe_iff, div_left_inj' hT0.ne']

/-- The confidence is a real number above 0 and at most 1, and ten times it is an edge only where ten times the largest
    exponential is that multiple of their sum. -/
theorem conf_real (x : Fin 64 → EReal) (hx : Sound x) : ∃ q : ℝ, conf x = (q : EReal) ∧ 0 < q ∧ q ≤ 1 ∧
    ∀ k : ℝ, q * 10 = k → top x * ((10 : ℝ) : EReal) = (k : EReal) * tot x := by
  obtain ⟨w, c₀, -, hpos, hsum, -, ht, hT, -⟩ := sound_real x hx
  have hT0 := hpos.trans_le hsum
  refine ⟨w c₀ / ∑ c, w c, ?_, div_pos hpos hT0, (div_le_one hT0).2 hsum, fun k hk => ?_⟩
  · unfold conf
    rw [ht, hT, div_coe _ _ hT0]
  · rw [ht, hT, ← EReal.coe_mul, ← EReal.coe_mul, ← hk]
    congr 1
    have := hT0.ne'
    field_simp

/-- Where ten times the largest exponential is not their sum, the largest logit is a real number. -/
theorem sound_of_off (x : Fin 64 → EReal) (h : top x * ((10 : ℝ) : EReal) ≠ ((1 : ℝ) : EReal) * tot x) : Sound x := by
  obtain ⟨c₀, hc⟩ := Finite.exists_max x
  have hpos : ∀ v : EReal, 0 ≤ Ideal.exp v := fun v => by
    induction v with
    | bot => exact le_rfl
    | top => exact le_top
    | coe y => exact EReal.coe_nonneg.2 (Real.exp_pos y).le
  rcases hv : x c₀ with _ | _ | m
  · have hb : ∀ c, Ideal.exp (x c) = 0 := fun c => by
      have : x c = ⊥ := le_bot_iff.1 ((hc c).trans_eq hv)
      rw [this]
      rfl
    refine absurd ?_ h
    unfold top tot
    simp only [hb]
    rw [Finset.sup_const Finset.univ_nonempty, Finset.sum_const_zero, zero_mul, mul_zero]
  · have he : Ideal.exp (x c₀) = ⊤ := by
      rw [hv]
      rfl
    have h1 : top x = ⊤ := top_le_iff.1 (he ▸ Finset.le_sup (f := fun c => Ideal.exp (x c)) (Finset.mem_univ c₀))
    have h2 : tot x = ⊤ := top_le_iff.1
      (he ▸ Finset.single_le_sum (f := fun c => Ideal.exp (x c)) (fun c _ => hpos _) (Finset.mem_univ c₀))
    refine absurd ?_ h
    rw [h1, h2, EReal.top_mul_coe_of_pos (by norm_num), EReal.coe_mul_top_of_pos (by norm_num)]
  · exact ⟨c₀, m, hv, fun c => (hc c).trans_eq hv⟩

end Cert.Proof.Ece

end
-- ==== Proof.RowBin.lean ====
/-
  The bin a row's confidence goes to, over the extended reals: the interval that holds it.
-/
module

public import proofs.«01_k».proof.Proof.Val
public import proofs.«01_k».proof.Proof.Row
public import Idealize.ShloMosaic.PureOps.Ideal.Laws

@[expose] public section

noncomputable section

namespace Cert.Proof.Ece

open Idealize.ShloMosaic

/-- The pattern of ten is ten. -/
theorem ofBits_ten : Ideal.ofBits .f32 0x41200000#32 = ((10 : ℝ) : EReal) := by
  simp [Ideal.ofBits, Ideal.ieee]
  rw [← EReal.coe_mul]
  norm_num

/-- The pattern of one is one. -/
theorem ofBits_one : Ideal.ofBits .f32 0x3F800000#32 = ((1 : ℝ) : EReal) := by
  simp [Ideal.ofBits, Ideal.ieee]
  rw [← EReal.coe_mul]
  norm_num

/-- The bin number of a word that reads a number from 0 to 10. -/
theorem clamp_word (n : ℕ) (hn : n ≤ 10) : (IntOp.maxsi (IntOp.minsi (BitVec.ofNat 32 n) 9#32) 0#32).toNat = min n 9 := by
  have key : ∀ n ≤ 10, (IntOp.maxsi (IntOp.minsi (BitVec.ofNat 32 n) 9#32) 0#32).toNat = min n 9 := by decide
  exact key n hn

/-- The bin of a confidence is the whole part of ten times it, at most nine. -/
theorem binW_real (q : ℝ) (h0 : 0 < q) (h1 : q ≤ 1) : (binW (F := Ideal) (q : EReal)).toNat = min ⌊q * 10⌋₊ 9 := by
  have hq : (q : EReal) * Ideal.ofBits .f32 0x41200000#32 = ((q * 10 : ℝ) : EReal) := by rw [ofBits_ten, EReal.coe_mul]
  have hn : ⌊q * 10⌋₊ ≤ 10 := by
    have : q * 10 ≤ (10 : ℕ) := by push_cast; linarith
    exact Nat.floor_le_of_le this
  rw [← clamp_word _ hn]
  show (IntOp.maxsi (IntOp.minsi (Ideal.fptosi 32 ((q : EReal) * Ideal.ofBits .f32 0x41200000#32)) 9#32) 0#32).toNat = _
  rw [hq]
  congr 3
  have hf : (⌊q * 10⌋ : ℤ) = ((⌊q * 10⌋₊ : ℕ) : ℤ) := (Int.natCast_floor_eq_floor (by positivity)).symm
  show BitVec.ofInt 32 (max _ (min _ (if 0 ≤ q * 10 then ⌊q * 10⌋ else ⌈q * 10⌉))) = _
  rw [if_pos (by positivity), hf, min_eq_right (by norm_num; omega), max_eq_right (by norm_num)]
  exact BitVec.ofInt_natCast _ _

/-- A confidence off the inner edges has bin `b` exactly when it lies above `b / 10` and at most at `(b + 1) / 10`. -/
theorem binW_iff (q : ℝ) (h0 : 0 < q) (h1 : q ≤ 1) (hk : ∀ k : ℕ, 1 ≤ k → k ≤ 9 → q * 10 ≠ (k : ℝ)) (b : ℕ) (hb : b < 10) :
    (binW (F := Ideal) (q : EReal)).toNat = b ↔ (b : ℝ) / 10 < q ∧ q ≤ ((b + 1 : ℕ) : ℝ) / 10 := by
  rw [binW_real q h0 h1, div_lt_iff₀ (by norm_num), le_div_iff₀ (by norm_num)]
  have hlt := Nat.lt_floor_add_one (q * 10)
  have hle := Nat.floor_le (show 0 ≤ q * 10 by positivity)
  set n := ⌊q * 10⌋₊ with hn
  have hn10 : n ≤ 10 := by
    have : (n : ℝ) ≤ (10 : ℕ) := by push_cast; linarith
    exact_mod_cast this
  constructor
  · intro e
    by_cases h9 : n ≤ 9
    · have hnb : n = b := by omega
      rw [← hnb]
      refine ⟨?_, by push_cast; exact hlt.le⟩
      rcases Nat.eq_zero_or_pos n with hz | hp
      · rw [hz]; push_cast; positivity
      · exact lt_of_le_of_ne hle fun e => hk n hp h9 e.symm
    · have : b = 9 := by omega
      subst this
      have : n = 10 := by omega
      rw [this] at hle
      push_cast at *
      constructor <;> linarith
  · rintro ⟨hl, hr⟩
    have a1 : b < n + 1 := by exact_mod_cast lt_of_lt_of_le hl hlt.le
    have a2 : n ≤ b + 1 := by exact_mod_cast hle.trans hr
    by_cases hbn : n = b
    · omega
    · have hn1 : n = b + 1 := by omega
      by_cases hb9 : b = 9
      · omega
      · exfalso
        refine hk n (by omega) (by omega) (le_antisymm ?_ hle)
        rw [hn1]; exact hr

end Cert.Proof.Ece

end
-- ==== Proof.Cells.lean ====
/-
  The tiles' bins over the extended reals: added over the tiles, slot `j` is the sum over the million rows of what each
  row adds to it.
-/
module

public import proofs.«01_k».proof.Proof.Setup
public import proofs.«01_k».proof.Proof.RowBin

@[expose] public section

noncomputable section

namespace Cert.Proof.Ece

open Idealize.ShloMosaic

variable (X : ℕ → EReal) (T : ℕ → BitVec 32)

/-- Row `r` of the flat logits. -/
def logitsOf (r : ℕ) (c : Fin 64) : EReal := X (64 * r + c.val)

theorem f0_zero : (f0 : Ideal .f32) = (0 : EReal) := Ideal.ofBits_zero_f32

theorem f1_one : (f1 : Ideal .f32) = (1 : EReal) := by
  show Ideal.ofBits .f32 0x3F800000#32 = 1
  rw [ofBits_one, EReal.coe_one]

/-! ### A row as a lane reads it -/

theorem exp_nonneg (x : EReal) : 0 ≤ Ideal.exp x := by
  induction x using EReal.rec with
  | bot => exact le_refl _
  | coe r => exact EReal.coe_nonneg.2 (Real.exp_pos r).le
  | top => exact le_top

/-- Four sums of every fourth term make up the sum. -/
theorem acc_sum (e : ℕ → Ideal .f32) (k : ℕ) :
    ((accS e 0 k + accS e 1 k : EReal) + (accS e 2 k + accS e 3 k : EReal) : EReal) = ∑ c ∈ Finset.range (4 * k), (e c : EReal) := by
  induction k with
  | zero =>
    show ((f0 : Ideal .f32) + (f0 : Ideal .f32) : EReal) + ((f0 : Ideal .f32) + (f0 : Ideal .f32) : EReal) = _
    rw [f0_zero]; simp
  | succ k ih =>
    rw [show 4 * (k + 1) = 4 * k + 1 + 1 + 1 + 1 from by ring, Finset.sum_range_succ, Finset.sum_range_succ,
      Finset.sum_range_succ, Finset.sum_range_succ, ← ih]
    show ((accS e 0 k + e (4 * k + 0) : EReal) + (accS e 1 k + e (4 * k + 1) : EReal) : EReal)
      + ((accS e 2 k + e (4 * k + 2) : EReal) + (accS e 3 k + e (4 * k + 3) : EReal) : EReal) = _
    simp only [Nat.add_zero, Nat.add_assoc, Nat.reduceAdd]
    generalize (accS e 0 k : EReal) = a₀
    generalize (accS e 1 k : EReal) = a₁
    generalize (accS e 2 k : EReal) = a₂
    generalize (accS e 3 k : EReal) = a₃
    abel

/-- Four maxima of every fourth term make up the maximum. -/
theorem acc_max (e : ℕ → Ideal .f32) (k : ℕ) :
    ((accM e 0 k ⊔ accM e 1 k : EReal) ⊔ (accM e 2 k ⊔ accM e 3 k : EReal) : EReal) = (Finset.range (4 * k)).sup (fun c => (e c : EReal)) ⊔ 0 := by
  induction k with
  | zero =>
    show ((f0 : Ideal .f32) ⊔ (f0 : Ideal .f32) : EReal) ⊔ ((f0 : Ideal .f32) ⊔ (f0 : Ideal .f32) : EReal) = _
    rw [f0_zero]; simp
  | succ k ih =>
    have hs : (Finset.range (4 * (k + 1))).sup (fun c => (e c : EReal)) ⊔ 0 = (e (4 * k + 3) : EReal) ⊔ ((e (4 * k + 2) : EReal)
        ⊔ ((e (4 * k + 1) : EReal) ⊔ ((e (4 * k) : EReal) ⊔ ((Finset.range (4 * k)).sup (fun c => (e c : EReal)) ⊔ 0)))) := by
      rw [show 4 * (k + 1) = 4 * k + 1 + 1 + 1 + 1 from by ring, Finset.range_add_one, Finset.sup_insert, Finset.range_add_one,
        Finset.sup_insert, Finset.range_add_one, Finset.sup_insert, Finset.range_add_one, Finset.sup_insert]
      simp only [sup_assoc]
    rw [hs, ← ih]
    show ((accM e 0 k ⊔ e (4 * k + 0) : EReal) ⊔ (accM e 1 k ⊔ e (4 * k + 1) : EReal) : EReal)
      ⊔ ((accM e 2 k ⊔ e (4 * k + 2) : EReal) ⊔ (accM e 3 k ⊔ e (4 * k + 3) : EReal) : EReal) = _
    simp only [Nat.add_zero, Nat.add_assoc, Nat.reduceAdd]
    generalize (accM e 0 k : EReal) = a₀
    generalize (accM e 1 k : EReal) = a₁
    generalize (accM e 2 k : EReal) = a₂
    generalize (accM e 3 k : EReal) = a₃
    ac_rfl

theorem xor_lt (l c : ℕ) (hl : l < 16) (hc : c < 64) : l ^^^ c < 64 := Nat.xor_lt_two_pow (n := 6) (by omega) (by omega)

theorem xor_xor_self (l c : ℕ) : l ^^^ (l ^^^ c) = c := by rw [← Nat.xor_assoc, Nat.xor_self, Nat.zero_xor]

/-- A lane's sum is its row's. -/
theorem rowSum_eq (r l : ℕ) (hl : l < 16) : (rowSum (F := Ideal) X r l : EReal) = tot (logitsOf X r) := by
  refine (acc_sum (expAt X r l) 16).trans ?_
  rw [Finset.sum_range]
  refine Finset.sum_nbij' (fun c : Fin 64 => (⟨l ^^^ c.val, xor_lt l c.val hl c.isLt⟩ : Fin 64))
    (fun c : Fin 64 => (⟨l ^^^ c.val, xor_lt l c.val hl c.isLt⟩ : Fin 64)) (fun _ _ => Finset.mem_univ _) (fun _ _ => Finset.mem_univ _)
    (fun c _ => Fin.ext (xor_xor_self l c.val)) (fun c _ => Fin.ext (xor_xor_self l c.val)) fun c _ => rfl

/-- A lane's maximum is its row's. -/
theorem rowMax_eq (r l : ℕ) (hl : l < 16) : (rowMax (F := Ideal) X r l : EReal) = top (logitsOf X r) := by
  refine (acc_max (expAt X r l) 16).trans (le_antisymm (sup_le (Finset.sup_le fun c hc => ?_) ?_) (Finset.sup_le fun c _ => ?_))
  · exact Finset.le_sup (f := fun c => Ideal.exp (logitsOf X r c))
      (Finset.mem_univ (⟨l ^^^ c, xor_lt l c hl (Finset.mem_range.1 hc)⟩ : Fin 64))
  · exact (exp_nonneg _).trans (Finset.le_sup (f := fun c => Ideal.exp (logitsOf X r c)) (Finset.mem_univ (0 : Fin 64)))
  · refine le_trans (le_of_eq ?_) (le_sup_of_le_left (Finset.le_sup (f := fun c => (expAt (F := Ideal) X r l c : EReal))
      (Finset.mem_range.2 (xor_lt l c.val hl c.isLt))))
    show Ideal.exp (X (64 * r + c.val)) = Ideal.exp (X (64 * r + (l ^^^ (l ^^^ c.val))))
    rw [xor_xor_self]

/-- A lane's confidence is its row's. -/
theorem rowConf_eq (r l : ℕ) (hl : l < 16) : (rowConf (F := Ideal) X r l : EReal) = conf (logitsOf X r) := by
  show Ideal.div (rowMax (F := Ideal) X r l) (rowSum (F := Ideal) X r l) = _
  rw [rowMax_eq X r l hl, rowSum_eq X r l hl]
  rfl

/-- One if the row's target has the largest exponential, zero otherwise. -/
def hit (r : ℕ) : EReal := if Ideal.exp (X (64 * r + (T r).toNat)) = top (logitsOf X r) then 1 else 0

theorem rowHit_eq (r l : ℕ) (hl : l < 16) : (rowHit (F := Ideal) X T r l : EReal) = hit X T r := by
  unfold rowHit hit
  show (if BitVec.ofBool (decide (Ideal.exp (X (64 * r + (T r).toNat)) = (rowMax (F := Ideal) X r l : EReal))) = 1#1
    then (f1 : Ideal .f32) else (f0 : Ideal .f32) : EReal) = _
  rw [rowMax_eq X r l hl, f0_zero, f1_one]
  by_cases h : Ideal.exp (X (64 * r + (T r).toNat)) = top (logitsOf X r) <;> simp [h]

/-! ### What a row adds to a slot -/

/-- The bin of row `r`. -/
def binOf (r : ℕ) : ℕ := (binW (F := Ideal) (conf (logitsOf X r))).toNat

/-- What row `r` adds to slot `j`: one to its bin's count, its confidence, and its hit. -/
def cell (r j : ℕ) : EReal :=
  (if j = binOf X r then 1 else 0) + (if j = binOf X r + 16 then conf (logitsOf X r) else 0) + (if j = binOf X r + 32 then hit X T r else 0)

/-- `n` lanes each raising its slot. -/
theorem fold_put (ix : ℕ → ℕ) (v : ℕ → Ideal .f32) (B : ℕ → Ideal .f32) (n j : ℕ) :
    (((List.range n).foldl (fun B l => put B (ix l) (v l)) B) j : EReal)
      = (B j : EReal) + ∑ l ∈ Finset.range n, if j = ix l then (v l : EReal) else 0 := by
  induction n with
  | zero => simp
  | succ n ih =>
    rw [List.range_succ, List.foldl_append, Finset.sum_range_succ, ← add_assoc, ← ih]
    show (put _ (ix n) (v n) j : EReal) = _
    unfold put
    by_cases h : j = ix n
    · rw [if_pos h, if_pos h, ← h]; rfl
    · rw [if_neg h, if_neg h, add_zero]

/-- The group of sixteen rows from row `r` on adds its rows' cells. -/
theorem grpB_eq (r : ℕ) (B : ℕ → Ideal .f32) (j : ℕ) :
    (grpB (F := Ideal) X T r B j : EReal) = (B j : EReal) + ∑ l ∈ Finset.range 16, cell X T (r + l) j := by
  unfold grpB scat
  rw [fold_put, fold_put, fold_put, add_assoc, add_assoc, ← Finset.sum_add_distrib, ← Finset.sum_add_distrib]
  refine congrArg _ (Finset.sum_congr rfl fun l hl => ?_)
  have hl := Finset.mem_range.1 hl
  rw [rowConf_eq X (r + l) l hl, rowHit_eq X T (r + l) l hl, f1_one]
  unfold cell binOf
  rw [add_assoc]

/-- `n` groups from row `r` on add their rows' cells. -/
theorem runB_eq (r : ℕ) (B : ℕ → Ideal .f32) (n j : ℕ) :
    (runB (F := Ideal) X T r B n j : EReal) = (B j : EReal) + ∑ i ∈ Finset.range (16 * n), cell X T (r + i) j := by
  induction n with
  | zero => simp [runB]
  | succ n ih =>
    show (grpB (F := Ideal) X T (r + 16 * n) (runB X T r B n) j : EReal) = _
    rw [grpB_eq, ih, show 16 * (n + 1) = 16 * n + 16 from by ring, Finset.sum_range_add, add_assoc]
    simp only [Nat.add_assoc]

/-- The bins of tile `w`. -/
theorem tileB_eq (w j : ℕ) : (tileB (F := Ideal) X T w j : EReal) = (∑ i ∈ Finset.range 31232, cell X T (w * 31232 + i) j)
    + (if w = 0 then ∑ i ∈ Finset.range 512, cell X T (999424 + i) j else 0)
    + (if w = 31 then ∑ i ∈ Finset.range 64, cell X T (999936 + i) j else 0) := by
  unfold tileB
  by_cases h0 : w = 0
  · subst h0
    simp only [if_true, if_neg (show ¬ (0 : ℕ) = 31 by decide), add_zero]
    rw [runB_eq, runB_eq, f0_zero, zero_add]
  · by_cases h1 : w = 31
    · subst h1
      simp only [if_true, if_neg (show ¬ (31 : ℕ) = 0 by decide), add_zero]
      rw [runB_eq, runB_eq, f0_zero, zero_add]
    · simp only [if_neg h0, if_neg h1, add_zero]
      rw [runB_eq, f0_zero, zero_add]

/-- Sums over equal stretches make up the whole sum. -/
theorem sum_stretches (f : ℕ → EReal) (m n : ℕ) :
    ∑ w ∈ Finset.range n, ∑ i ∈ Finset.range m, f (w * m + i) = ∑ r ∈ Finset.range (n * m), f r := by
  induction n with
  | zero => simp
  | succ n ih => rw [Finset.sum_range_succ, ih, Nat.succ_mul, Finset.sum_range_add]

/-- The bins of the 32 tiles add up to the cells of the million rows. -/
theorem tiles_sum (j : ℕ) : (∑ w ∈ Finset.range 32, (tileB (F := Ideal) X T w j : EReal)) = ∑ r ∈ Finset.range 1000000, cell X T r j := by
  simp only [tileB_eq]
  rw [Finset.sum_add_distrib, Finset.sum_add_distrib, sum_stretches (fun r => cell X T r j), Finset.sum_ite_eq', Finset.sum_ite_eq',
    if_pos (by decide), if_pos (by decide), show (1000000 : ℕ) = 32 * 31232 + 512 + 64 from by norm_num, Finset.sum_range_add,
    Finset.sum_range_add]

end Cert.Proof.Ece

end
-- ==== Proof.Reads.lean ====
/-
  Host operations read at a row and a column: a column or a row stretched over a matrix, a row's largest element, its sum,
  a column's sum, and the smallest of a row's words.
-/
module

public import proofs.«01_k».proof.Proof.RowBin
public import Idealize.ShloMosaic.Lib.IdealHost
public import Idealize.ShloMosaic.Lib.Pipeline.Value

@[expose] public section

noncomputable section

namespace Cert.Proof.Ece

open Idealize.ShloMosaic Idealize.ShloMosaic.ValueIdx

/-- The shapes with `n` rows. -/
abbrev V (n : ℕ) : Shape := ⟨1, ![n]⟩
abbrev M (n k : ℕ) : Shape := ⟨2, ![n, k]⟩
abbrev Sc : Shape := ⟨0, ![]⟩

/-- A vector as a column. -/
theorem read_column {α : Type} {n : ℕ} (hn : n ≠ 1) (h : (V n).BroadcastsInDim (M n 1) ![0]) (x : (V n).Idx → α) (r : Fin n)
    (o : Fin 1) : broadcastInDim (M n 1) ![0] h x (ix2 r o) = x (ix1 r) :=
  broadcastInDim_apply _ _ _ _ _ fun a => match a with
    | ⟨0, _⟩ => show r.val = if n = 1 then 0 else r.val by rw [if_neg hn]

/-- A column stretched over `k` columns. -/
theorem read_stretch {α : Type} {n k : ℕ} (hn : n ≠ 1) (h : (M n 1).BroadcastsInDim (M n k) ![0, 1]) (x : (M n 1).Idx → α) (r : Fin n)
    (c : Fin k) : broadcastInDim (M n k) ![0, 1] h x (ix2 r c) = x (ix2 r 0) :=
  broadcastInDim_apply _ _ _ _ _ fun a => match a with
    | ⟨0, _⟩ => show r.val = if n = 1 then 0 else r.val by rw [if_neg hn]
    | ⟨1, _⟩ => rfl

/-- A vector as a row stretched over `n` rows. -/
theorem read_rows {α : Type} {n k : ℕ} (hk : k ≠ 1) (h' : (V k).BroadcastsInDim (M 1 k) ![1]) (h : (M 1 k).BroadcastsInDim (M n k) ![0, 1])
    (x : (V k).Idx → α) (r : Fin n) (c : Fin k) :
    broadcastInDim (M n k) ![0, 1] h (broadcastInDim (M 1 k) ![1] h' x) (ix2 r c) = x (ix1 c) := by
  have e : ∀ a : Fin 2, ((ix2 (0 : Fin 1) c : (M 1 k).Idx) a).val
      = if (M 1 k).size a = 1 then 0 else ((ix2 r c : (M n k).Idx) (![0, 1] a)).val := fun a => match a with
    | ⟨0, _⟩ => rfl
    | ⟨1, _⟩ => show c.val = if k = 1 then 0 else c.val by rw [if_neg hk]
  refine (broadcastInDim_apply ![0, 1] h _ (ix2 r c) (ix2 (0 : Fin 1) c) e).trans ?_
  exact broadcastInDim_apply _ _ _ _ _ fun a => match a with
    | ⟨0, _⟩ => show c.val = if k = 1 then 0 else c.val by rw [if_neg hk]

/-- A scalar stretched over any shape. -/
theorem read_scalar {α : Type} {T : Shape} (h : Sc.BroadcastsInDim T ![]) (x : Sc.Idx → α) (j : T.Idx) :
    broadcastInDim T ![] h x j = x ix0 := broadcastInDim_scalar_apply h x j

/-- The index over row `r` with column `c`. -/
theorem lift_row {n k : ℕ} (h : (M n k).Reduces [1] (V n)) (r : Fin n) (c : Fin k) : h.lift (ix1 r) c = ix2 r c := by
  funext a
  match a with
  | ⟨0, _⟩ => rfl
  | ⟨1, _⟩ => rfl

/-- The index over column `c` with row `r`. -/
theorem lift_col {n k : ℕ} (h : (M n k).Reduces [0] (V k)) (r : Fin n) (c : Fin k) : h.lift (ix1 c) r = ix2 r c := by
  funext a
  match a with
  | ⟨0, _⟩ => rfl
  | ⟨1, _⟩ => rfl

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- A row's largest element. -/
theorem read_max {n k : ℕ} (h' : (M n k).ReducesTo [1] (V n)) (h : (M n k).Reduces [1] (V n)) (hu : 0 < Sc.numel)
    (x : FVec Ideal (M n k) .f32) (r : Fin n) :
    Host.reduce (α := Ideal .f32) FloatOps.maximumf x (constant (F := Ideal) Sc .f32 0xFF800000#32) h' hu (ix1 r)
      = Finset.univ.sup fun c : Fin k => (x (ix2 r c) : EReal) := by
  rw [Host.reduce_eq_fold_single _ _ _ h' h hu]
  show Finset.fold _ (Ideal.ofBits .f32 0xFF800000#32) _ _ = _
  rw [ofBits_bot, Finset.sup_def]
  refine (Finset.fold_congr fun c _ => congrArg x (lift_row h r c)).trans ?_
  rfl

/-- A row's sum. -/
theorem read_sum {n k : ℕ} (h' : (M n k).ReducesTo [1] (V n)) (h : (M n k).Reduces [1] (V n)) (hu : 0 < Sc.numel)
    (x : FVec Ideal (M n k) .f32) (r : Fin n) :
    (Host.reduceAdd x (constant Sc .f32 0x00000000#32) h' hu (ix1 r) : EReal) = ∑ c : Fin k, (x (ix2 r c) : EReal) := by
  refine (Ideal.hostReduceAdd_single h' h x _ _).trans ?_
  show Ideal.ofBits .f32 0x00000000#32 + _ = _
  rw [Ideal.ofBits_zero_f32, zero_add]
  exact Finset.sum_congr rfl fun c _ => congrArg x (lift_row h r c)

/-- A column's sum. -/
theorem read_colsum {n k : ℕ} (h' : (M n k).ReducesTo [0] (V k)) (h : (M n k).Reduces [0] (V k)) (hu : 0 < Sc.numel)
    (x : FVec Ideal (M n k) .f32) (c : Fin k) :
    (Host.reduceAdd x (constant Sc .f32 0x00000000#32) h' hu (ix1 c) : EReal) = ∑ r : Fin n, (x (ix2 r c) : EReal) := by
  refine (Ideal.hostReduceAdd_single h' h x _ _).trans ?_
  show Ideal.ofBits .f32 0x00000000#32 + _ = _
  rw [Ideal.ofBits_zero_f32, zero_add]
  exact Finset.sum_congr rfl fun r _ => congrArg x (lift_col h r c)

/-- The smaller of two words that read below `2 ^ 31` reads the smaller number. -/
theorem minsi_toNat (a b : BitVec 32) (ha : a.toNat < 2147483648) (hb : b.toNat < 2147483648) :
    (IntOp.minsi a b).toNat = min a.toNat b.toNat := by
  have e : a.slt b = decide (a.toNat < b.toNat) := by
    rw [BitVec.slt, BitVec.toInt_eq_toNat_of_lt (by omega), BitVec.toInt_eq_toNat_of_lt (by omega)]
    exact decide_eq_decide.2 (by omega)
  unfold IntOp.minsi
  rw [e]
  by_cases h : a.toNat < b.toNat <;> simp [h] <;> omega

/-- The smallest of words that read below `2 ^ 31`, as a number. -/
theorem fold_minsi_toNat {ι : Type} (S : Finset ι) (b : BitVec 32) (w : ι → BitVec 32)
    (hb : b.toNat < 2147483648) (hw : ∀ c, (w c).toNat < 2147483648) :
    (S.fold IntOp.minsi b w).toNat = S.fold min b.toNat (fun c => (w c).toNat) := by
  classical
  have hbd : ∀ S : Finset ι, S.fold min b.toNat (fun c => (w c).toNat) < 2147483648 := fun S =>
    lt_of_le_of_lt ((Finset.fold_min_le _).2 (Or.inl le_rfl)) hb
  induction S using Finset.induction_on with
  | empty => rfl
  | insert a S ha ih =>
    rw [Finset.fold_insert ha, Finset.fold_insert ha, minsi_toNat _ _ (hw a) (by rw [ih]; exact hbd S), ih]

/-- A row's smallest word, at most the largest word there is. -/
theorem read_min {n k : ℕ} (h' : (M n k).ReducesTo [1] (V n)) (h : (M n k).Reduces [1] (V n)) (hu : 0 < Sc.numel)
    (x : IVec (M n k) 32) (hx : ∀ i, (x i).toNat < 2147483648) (r : Fin n) :
    (Host.reduce IntOp.minsi x (constantI Sc 32 2147483647#32) h' hu (ix1 r)).toNat
      = Finset.univ.fold min 2147483647 fun c : Fin k => (x (ix2 r c)).toNat := by
  rw [Host.reduce_eq_fold_single _ _ _ h' h hu]
  refine (fold_minsi_toNat Finset.univ 2147483647#32 (x ∘ h.lift (ix1 r)) (by decide) fun c => hx _).trans ?_
  exact Finset.fold_congr fun c _ => congrArg (fun i => (x i).toNat) (lift_row h r c)

/-- Of a row's classes that satisfy `A`, the first one is `t` exactly when `t` satisfies it and none before does. -/
theorem first_iff (A : Fin 64 → Prop) [DecidablePred A] (t : Fin 64) :
    (Finset.univ.fold min 2147483647 fun c : Fin 64 => if A c then c.val else 64) = t.val ↔ A t ∧ ∀ c, c < t → ¬ A c := by
  constructor
  · intro e
    have h1 := (Finset.le_fold_min t.val).1 e.ge
    have h2 := (Finset.fold_min_le t.val).1 e.le
    have h3 : ∀ c, A c → t.val ≤ c.val := fun c hc => by
      have := h1.2 c (Finset.mem_univ c)
      rwa [if_pos hc] at this
    refine ⟨?_, fun c hc ha => absurd (h3 c ha) (not_le.2 hc)⟩
    rcases h2 with h2 | ⟨c, -, hc⟩
    · have := t.isLt; omega
    · by_cases ha : A c
      · rw [if_pos ha] at hc
        have : c = t := Fin.ext (le_antisymm hc (h3 c ha))
        rwa [← this]
      · rw [if_neg ha] at hc
        have := t.isLt; omega
  · rintro ⟨ht, hb⟩
    refine le_antisymm ((Finset.fold_min_le _).2 (Or.inr ⟨t, Finset.mem_univ t, by rw [if_pos ht]⟩))
      ((Finset.le_fold_min _).2 ⟨by have := t.isLt; omega, fun c _ => ?_⟩)
    by_cases ha : A c
    · rw [if_pos ha]
      exact not_lt.1 fun hlt => hb c hlt ha
    · rw [if_neg ha]
      exact t.isLt.le

end Cert.Proof.Ece

end
-- ==== Proof.RefVal.lean ====
/-
  The reference's result over the extended reals, read index by index: the sum over the ten bins of one bin's gap, with the
  bin's count, confidence and accuracy written as sums over the million rows.
-/
module

public import proofs.«01_k».proof.Proof.Reads
public import proofs.«01_k».proof.Proof.Gen.ReferenceIdeal.Run

@[expose] public section

noncomputable section

namespace Cert.Proof.Ece

open Idealize.ShloMosaic Idealize.ShloMosaic.ValueIdx

/-- One bin's share of the error, of its count, its confidences' sum and its hits' sum. -/
def gap (n sc sa : EReal) : EReal :=
  Scalar.select (Ideal.cmp .ogt n (Ideal.ofBits .f32 0x00000000#32))
    (FloatOps.absf (F := Ideal) (φ := .f32) (Ideal.div sc (max n (Ideal.ofBits .f32 0x3F800000#32))
      - Ideal.div sa (max n (Ideal.ofBits .f32 0x3F800000#32))) * Ideal.div n (Ideal.ofBits .f32 0x49742400#32))
    (Ideal.ofBits .f32 0x00000000#32)

/-- What a row and its target have to be: a real number for the largest logit, a target that is a class, a confidence on none of the inner edges, and
    no earlier class as likely as the target where the target is the likeliest. -/
structure Plain (x : Fin 64 → EReal) (t : BitVec 32) : Prop where
  sound : Sound x
  off : ∀ k : ℕ, 1 ≤ k → k ≤ 9 → top x * ((10 : ℝ) : EReal) ≠ ((k : ℝ) : EReal) * tot x
  range : t.toNat < 64
  first : Ideal.exp (x ⟨t.toNat, range⟩) = top x → ∀ c : Fin 64, c.val < t.toNat → Ideal.exp (x c) ≠ top x

/-- A row lies in bin `b`, as a number. -/
def isIn (x : Fin 64 → EReal) (b : ℕ) : EReal := if (binW (F := Ideal) (conf x)).toNat = b then 1 else 0

/-- A row's target is its likeliest class, as a number. -/
def isHit (x : Fin 64 → EReal) (t : BitVec 32) : EReal :=
  if h : t.toNat < 64 then if Ideal.exp (x ⟨t.toNat, h⟩) = top x then 1 else 0 else 0

namespace Ref

open Cert.ReferenceIdeal Cert.ReferenceIdeal.Gen

/-- A vector of rows stretched over the classes. -/
def wide (x : FVec Ideal S1000000 .f32) : FVec Ideal S1000000x64 .f32 :=
  broadcastInDim S1000000x64 ![0, 1] bcast_S1000000x1_S1000000x64_0_1 (broadcastInDim S1000000x1 ![0] bcast_S1000000_S1000000x1_0 x)

/-- A vector of rows stretched over the bins. -/
def wideB (x : FVec Ideal S1000000 .f32) : FVec Ideal S1000000x10 .f32 :=
  broadcastInDim S1000000x10 ![0, 1] bcast_S1000000x1_S1000000x10_0_1 (broadcastInDim S1000000x1 ![0] bcast_S1000000_S1000000x1_0 x)

/-- A vector of bins stretched over the rows. -/
def tall (x : FVec Ideal S10 .f32) : FVec Ideal S1000000x10 .f32 :=
  broadcastInDim S1000000x10 ![0, 1] bcast_S1x10_S1000000x10_0_1 (broadcastInDim S1x10 ![1] bcast_S10_S1x10_1 x)

variable (a : FVec Ideal S1000000x64 .f32) (t : IVec S1000000 32)

def big : FVec Ideal S1000000 .f32 :=
  maximumf (broadcastInDim S1000000 ![] bcast_S_S1000000 (constant S_ .f32 0xFF800000#32))
    (Host.reduce FloatOps.maximumf a (constant S_ .f32 0xFF800000#32) reducesTo_S1000000x64_S1000000_d1 h_S_)

def ex : FVec Ideal S1000000x64 .f32 := Host.exp (subf a (wide (big a)))

def prob : FVec Ideal S1000000x64 .f32 :=
  Host.divf (ex a) (wide (Host.reduceAdd (ex a) (constant S_ .f32 0x00000000#32) reducesTo_S1000000x64_S1000000_d1 h_S_))

def cf : FVec Ideal S1000000 .f32 :=
  Host.reduce FloatOps.maximumf (prob a) (constant S_ .f32 0xFF800000#32) reducesTo_S1000000x64_S1000000_d1 h_S_

def pick : IVec S1000000x64 32 :=
  select (cmpf .oeq (prob a) (wide (cf a))) (iotaInDim S1000000x64 32 1)
    (broadcastInDim S1000000x64 ![] bcast_S_S1000000x64 (id (constantI S_ 32 64#32)))

def hits : FVec Ideal S1000000 .f32 :=
  uitofp .f32 (cmpi .eq (Host.reduce IntOp.minsi (pick a) (constantI S_ 32 2147483647#32) reducesTo_S1000000x64_S1000000_d1 h_S_) t)

/-- The tenths, of which the last is spelt apart. -/
def tenths : FVec Ideal S10 .f32 :=
  addf (mulf (broadcastInDim S10 ![0] bcast_S1_S10_0 (shapeCast _ (id (constant S_ .f32 0x00000000#32)) shapeCasts_S_S1))
      (subf (broadcastInDim S10 ![] bcast_S_S10 (constant S_ .f32 0x3F800000#32))
        (Host.divf (sitofp .f32 (iotaInDim S10 32 0)) (broadcastInDim S10 ![] bcast_S_S10 (constant S_ .f32 0x41200000#32)))))
    (mulf (broadcastInDim S10 ![0] bcast_S1_S10_0 (shapeCast _ (id (constant S_ .f32 0x3F800000#32)) shapeCasts_S_S1))
      (Host.divf (sitofp .f32 (iotaInDim S10 32 0)) (broadcastInDim S10 ![] bcast_S_S10 (constant S_ .f32 0x41200000#32))))

def lastEdge : FVec Ideal S1 .f32 := broadcastInDim S1 ![] bcast_S_S1 (id (constant S_ .f32 0x3F800000#32))

def edges : FVec Ideal S11 .f32 := concatenate S11 0 [⟨S10, tenths⟩, ⟨S1, lastEdge⟩] concatenates_S10_S1_S11_d0

def inside : FVec Ideal S1000000x10 .f32 :=
  uitofp .f32 (andi (cmpf .ogt (wideB (cf a)) (tall (extractStridedSlice S10 ![0] edges slices_S11_S10_0)))
    (cmpf .ole (wideB (cf a)) (tall (extractStridedSlice S10 ![1] edges slices_S11_S10_1))))

def total (x : FVec Ideal S1000000x10 .f32) : FVec Ideal S10 .f32 :=
  Host.reduceAdd x (constant S_ .f32 0x00000000#32) reducesTo_S1000000x10_S10_d0 h_S_

def safe : FVec Ideal S10 .f32 := maximumf (total (inside a)) (broadcastInDim S10 ![] bcast_S_S10 (constant S_ .f32 0x3F800000#32))

def gaps : FVec Ideal S10 .f32 :=
  select (cmpf .ogt (total (inside a)) (broadcastInDim S10 ![] bcast_S_S10 (constant S_ .f32 0x00000000#32)))
    (mulf (Host.absf (subf (Host.divf (total (mulf (wideB (cf a)) (inside a))) (safe a))
        (Host.divf (total (mulf (wideB (hits a t)) (inside a))) (safe a))))
      (Host.divf (total (inside a)) (broadcastInDim S10 ![] bcast_S_S10 (constant S_ .f32 0x49742400#32))))
    (broadcastInDim S10 ![] bcast_S_S10 (id (constant S_ .f32 0x00000000#32)))

def out : FVec Ideal S1 .f32 :=
  broadcastInDim S1 ![] bcast_S_S1 (Host.reduceAdd (gaps a t) (constant S_ .f32 0x00000000#32) reducesTo_S10_S_d0 h_S_)

/-- The reference's result is the last of these steps. -/
theorem out_eq (m : (ℓ : Loc nD τ sig) → Buf (Elt Ideal) ℓ) (c : Dev nD) :
    Cert.ReferenceIdeal.Value.res_out0 m c = out (m ((c.tc : Thread nD τ).loc main_arg0)) (m ((c.tc : Thread nD τ).loc main_arg1)) := by
  unfold Cert.ReferenceIdeal.Value.res_out0 Cert.ReferenceIdeal.Value.res_main_v56
  rfl

end Ref

end Cert.Proof.Ece

end
-- ==== Proof.RefRead.lean ====
/-
  The steps of the reference read at a row and a bin, under what the rows have to be.
-/
module

public import proofs.«01_k».proof.Proof.RefVal

@[expose] public section

noncomputable section

namespace Cert.Proof.Ece.Ref

open Idealize.ShloMosaic Idealize.ShloMosaic.ValueIdx Cert.ReferenceIdeal Cert.ReferenceIdeal.Gen

theorem exp_at {s : Shape} (x : FVec Ideal s .f32) (i : s.Idx) : (Host.exp x i : EReal) = Ideal.exp (x i) := rfl

theorem absf_at {s : Shape} (x : FVec Ideal s .f32) (i : s.Idx) : Host.absf x i = FloatOps.absf (F := Ideal) (φ := .f32) (x i) := rfl

theorem uitofp_at {s : Shape} (x : IVec s 1) (i : s.Idx) : (uitofp (F := Ideal) .f32 x i : EReal) = (((x i).toNat : ℝ) : EReal) := rfl

theorem cmpi_at {s : Shape} {w : ℕ} (p : CmpIPredicate) (x y : IVec s w) (i : s.Idx) : cmpi p x y i = IntOp.cmpi p (x i) (y i) := rfl

theorem andi_at {s : Shape} {w : ℕ} (x y : IVec s w) (i : s.Idx) : andi x y i = IntOp.andi (x i) (y i) := rfl

theorem cmp_at {s : Shape} (p : CmpFPredicate) (x y : FVec Ideal s .f32) (i : s.Idx) : cmpf p x y i = Ideal.cmp p (x i) (y i) := rfl

theorem wide_at (x : FVec Ideal S1000000 .f32) (r : Fin 1000000) (c : Fin 64) : wide x (ix2 r c) = x (ix1 r) :=
  (read_stretch (by decide) _ _ r c).trans (read_column (by decide) _ x r 0)

theorem wideB_at (x : FVec Ideal S1000000 .f32) (r : Fin 1000000) (b : Fin 10) : wideB x (ix2 r b) = x (ix1 r) :=
  (read_stretch (by decide) _ _ r b).trans (read_column (by decide) _ x r 0)

theorem tall_at (x : FVec Ideal S10 .f32) (r : Fin 1000000) (b : Fin 10) : tall x (ix2 r b) = x (ix1 b) :=
  read_rows (by decide) _ _ x r b

theorem rows_red : (M 1000000 64).Reduces [1] (V 1000000) := by decide

theorem bins_red : (M 1000000 10).Reduces [0] (V 10) := by decide

variable (a : FVec Ideal S1000000x64 .f32) (t : IVec S1000000 32)

/-- Row `r` of the logits. -/
def logitRow (r : Fin 1000000) (c : Fin 64) : EReal := a (ix2 r c)

/-- The largest logit of a row. -/
theorem big_at (r : Fin 1000000) : (big a (ix1 r) : EReal) = Finset.univ.sup (logitRow a r) := by
  unfold big
  rw [maximumf_apply, read_scalar, constant_apply, read_max _ rows_red, ofBits_bot, max_bot_left]
  rfl

theorem ex_at (r : Fin 1000000) (c : Fin 64) : (ex a (ix2 r c) : EReal) = Ideal.exp (logitRow a r c - Finset.univ.sup (logitRow a r)) := by
  unfold ex
  rw [exp_at, subf_apply, wide_at, big_at]
  rfl

/-- A row's probabilities are its softmax. -/
theorem prob_at (r : Fin 1000000) (c : Fin 64) : (prob a (ix2 r c) : EReal) = soft (logitRow a r) c := by
  unfold prob
  rw [hostDivf_apply, wide_at, read_sum _ rows_red]
  unfold soft
  simp only [ex_at]

theorem cf_at (r : Fin 1000000) : (cf a (ix1 r) : EReal) = Finset.univ.sup (soft (logitRow a r)) := by
  refine (read_max _ rows_red _ (prob a) r).trans ?_
  simp only [prob_at]

theorem cf_plain (r : Fin 1000000) (h : Plain (logitRow a r) (t (ix1 r))) : (cf a (ix1 r) : EReal) = conf (logitRow a r) := by
  rw [cf_at, sup_soft _ h.sound]

theorem pick_toNat (r : Fin 1000000) (c : Fin 64) [Decidable (soft (logitRow a r) c = (cf a (ix1 r) : EReal))] :
    (pick a (ix2 r c)).toNat = if soft (logitRow a r) c = (cf a (ix1 r) : EReal) then c.val else 64 := by
  unfold pick
  rw [select_apply, cmp_at, read_scalar, wide_at, prob_at, iotaInDim_apply]
  have hc := c.isLt
  by_cases h : soft (logitRow a r) c = (cf a (ix1 r) : EReal)
  · rw [if_pos h]
    have : Ideal.cmp .oeq (soft (logitRow a r) c) (cf a (ix1 r)) = 1#1 := by simp [Ideal.cmp, h]
    rw [this]
    show (BitVec.ofNat 32 c.val).toNat = c.val
    rw [BitVec.toNat_ofNat]
    omega
  · rw [if_neg h]
    have : Ideal.cmp .oeq (soft (logitRow a r) c) (cf a (ix1 r)) = 0#1 := by simp [Ideal.cmp, h]
    rw [this]
    rfl

/-- The reference's hit is the target having the largest exponential of its row. -/
theorem hits_at (r : Fin 1000000) (h : Plain (logitRow a r) (t (ix1 r))) : (hits a t (ix1 r) : EReal) = isHit (logitRow a r) (t (ix1 r)) := by
  classical
  have hcf := cf_plain a t r h
  have hx : ∀ i, (pick a i).toNat < 2147483648 := fun i => by
    obtain ⟨p, q, rfl⟩ : ∃ (p : Fin 1000000) (q : Fin 64), i = ix2 p q := ⟨i 0, i 1, eq_ix2 i⟩
    rw [pick_toNat]
    have := q.isLt
    split_ifs <;> omega
  have hm := read_min reducesTo_S1000000x64_S1000000_d1 rows_red h_S_ (pick a) hx r
  simp only [pick_toNat, hcf] at hm
  have hf := first_iff (fun c => soft (logitRow a r) c = conf (logitRow a r)) ⟨(t (ix1 r)).toNat, h.range⟩
  rw [← hm] at hf
  have hA : ∀ c, soft (logitRow a r) c = conf (logitRow a r) ↔ Ideal.exp (logitRow a r c) = top (logitRow a r) :=
    soft_eq_conf _ h.sound
  have hiff : Host.reduce IntOp.minsi (pick a) (constantI S_ 32 2147483647#32) reducesTo_S1000000x64_S1000000_d1 h_S_ (ix1 r) = t (ix1 r)
      ↔ Ideal.exp (logitRow a r ⟨(t (ix1 r)).toNat, h.range⟩) = top (logitRow a r) := by
    rw [← BitVec.toNat_inj]
    refine hf.trans ⟨fun k => (hA _).1 k.1, fun k => ⟨(hA _).2 k, fun c hc hs => ?_⟩⟩
    exact h.first k c hc ((hA c).1 hs)
  have hcmp : ∀ u v : BitVec 32, ((IntOp.cmpi .eq u v).toNat : ℝ) = if u = v then 1 else 0 := fun u v => by
    by_cases huv : u = v
    · subst huv; simp [IntOp.cmpi]
    · simp [IntOp.cmpi, huv]
  unfold hits
  rw [uitofp_at, cmpi_at]
  rw [hcmp]
  unfold isHit
  rw [dif_pos h.range]
  by_cases hk : Ideal.exp (logitRow a r ⟨(t (ix1 r)).toNat, h.range⟩) = top (logitRow a r)
  · rw [if_pos hk, if_pos (hiff.2 hk)]; rfl
  · rw [if_neg hk, if_neg fun e => hk (hiff.1 e)]; rfl

/-- A tenth. -/
theorem tenths_at (b : Fin 10) : (tenths (ix1 b) : EReal) = (((b.val : ℝ) / 10 : ℝ) : EReal) := by
  have hv : ((BitVec.ofNat 32 b.val).toInt : ℝ) = (b.val : ℝ) := by
    have hb := b.isLt
    rw [BitVec.toInt_eq_toNat_of_lt (by rw [BitVec.toNat_ofNat]; omega), BitVec.toNat_ofNat]
    rw [Nat.mod_eq_of_lt (by omega)]
    simp
  have hz : ∀ w : BitVec 32, (broadcastInDim S10 ![0] bcast_S1_S10_0 (shapeCast _ (id (constant (F := Ideal) S_ .f32 w)) shapeCasts_S_S1) (ix1 b) : EReal)
      = Ideal.ofBits .f32 w := fun w => rfl
  show (broadcastInDim S10 ![0] bcast_S1_S10_0 (shapeCast _ (id (constant (F := Ideal) S_ .f32 0x00000000#32)) shapeCasts_S_S1) (ix1 b) : EReal)
      * (Ideal.ofBits .f32 0x3F800000#32 - Ideal.div (((BitVec.ofNat 32 b.val).toInt : ℝ) : EReal) (Ideal.ofBits .f32 0x41200000#32))
      + (broadcastInDim S10 ![0] bcast_S1_S10_0 (shapeCast _ (id (constant (F := Ideal) S_ .f32 0x3F800000#32)) shapeCasts_S_S1) (ix1 b) : EReal)
      * Ideal.div (((BitVec.ofNat 32 b.val).toInt : ℝ) : EReal) (Ideal.ofBits .f32 0x41200000#32) = _
  rw [hz, hz, Ideal.ofBits_zero_f32, zero_mul, zero_add, ofBits_one, ofBits_ten, hv, div_coe _ _ (by norm_num), ← EReal.coe_mul, one_mul]

/-- The lower edge of a bin. -/
theorem lower_at (b : Fin 10) : (extractStridedSlice S10 ![0] edges slices_S11_S10_0 (ix1 b) : EReal) = (((b.val : ℝ) / 10 : ℝ) : EReal) := by
  rw [← tenths_at b]
  refine (extractStridedSlice_apply ![0] edges _ (ix1 b) (ix1 (⟨b.val, by have := b.isLt; omega⟩ : Fin 11)) fun a => match a with
    | ⟨0, _⟩ => (Nat.zero_add _).symm).trans ?_
  exact concatenate_pair_apply_left (0 : Fin S11.rank) tenths lastEdge _ _ rfl (ix1 b) fun a => match a with
    | ⟨0, _⟩ => rfl

/-- The upper edge of a bin. -/
theorem upper_at (b : Fin 10) : (extractStridedSlice S10 ![1] edges slices_S11_S10_1 (ix1 b) : EReal) = ((((b.val + 1 : ℕ) : ℝ) / 10 : ℝ) : EReal) := by
  have hb := b.isLt
  refine (extractStridedSlice_apply ![1] edges _ (ix1 b) (ix1 (⟨b.val + 1, by omega⟩ : Fin 11)) fun a => match a with
    | ⟨0, _⟩ => Nat.add_comm _ _).trans ?_
  by_cases h : b.val + 1 < 10
  · exact (concatenate_pair_apply_left (0 : Fin S11.rank) tenths lastEdge _ _ rfl (ix1 (⟨b.val + 1, h⟩ : Fin 10)) fun a => match a with
      | ⟨0, _⟩ => rfl).trans (tenths_at ⟨b.val + 1, h⟩)
  · have h9 : b.val = 9 := by omega
    refine (concatenate_pair_apply_right (0 : Fin S11.rank) tenths lastEdge _ _ rfl rfl (ix1 (0 : Fin 1)) (fun a ha => match a with
      | ⟨0, _⟩ => absurd rfl ha) ?_).trans ?_
    · show 0 + 10 = b.val + 1
      omega
    · show Ideal.ofBits .f32 0x3F800000#32 = _
      rw [ofBits_one, h9]
      norm_num

/-- Whether a row lies between a bin's edges is whether that bin is the row's. -/
theorem inside_at (r : Fin 1000000) (b : Fin 10) (h : Plain (logitRow a r) (t (ix1 r))) : (inside a (ix2 r b) : EReal) = isIn (logitRow a r) b.val := by
  unfold inside
  rw [uitofp_at, andi_at, cmp_at, cmp_at, wideB_at, tall_at, tall_at, lower_at, upper_at, cf_plain a t r h]
  unfold isIn
  have hoff := h.off
  obtain ⟨q, hq, h0, h1, hk⟩ := conf_real _ h.sound
  have hiff := binW_iff q h0 h1 (fun k k1 k9 e => hoff k k1 k9 (hk k e)) b.val b.isLt
  rw [hq]
  have h1 : Ideal.cmp .ogt (q : EReal) (((b.val : ℝ) / 10 : ℝ) : EReal) = BitVec.ofBool (decide ((b.val : ℝ) / 10 < q)) := by
    simp [Ideal.cmp]
  have h2 : Ideal.cmp .ole (q : EReal) ((((b.val + 1 : ℕ) : ℝ) / 10 : ℝ) : EReal) = BitVec.ofBool (decide (q ≤ ((b.val + 1 : ℕ) : ℝ) / 10)) := by
    simp only [Ideal.cmp, EReal.coe_le_coe_iff]
  rw [h1, h2]
  by_cases hb : (binW (F := Ideal) (q : EReal)).toNat = b.val
  · obtain ⟨l, u⟩ := hiff.1 hb
    rw [if_pos hb, decide_eq_true l, decide_eq_true u]
    simp [IntOp.andi]
  · rw [if_neg hb]
    by_cases l : (b.val : ℝ) / 10 < q
    · have u : ¬ q ≤ ((b.val + 1 : ℕ) : ℝ) / 10 := fun u => hb (hiff.2 ⟨l, u⟩)
      rw [decide_eq_false u]
      simp [IntOp.andi]
    · rw [decide_eq_false l]
      simp [IntOp.andi]

theorem total_at (x : FVec Ideal S1000000x10 .f32) (b : Fin 10) : (total x (ix1 b) : EReal) = ∑ r : Fin 1000000, (x (ix2 r b) : EReal) :=
  read_colsum _ bins_red _ x b

/-- The reference's result: the sum over the bins of each bin's gap. -/
theorem out_at (h : ∀ r, Plain (logitRow a r) (t (ix1 r))) :
    (out a t (ix1 0) : EReal) = ∑ b : Fin 10, gap (∑ r, isIn (logitRow a r) b.val) (∑ r, conf (logitRow a r) * isIn (logitRow a r) b.val)
      (∑ r, isHit (logitRow a r) (t (ix1 r)) * isIn (logitRow a r) b.val) := by
  have e : (out a t (ix1 0) : EReal) = Ideal.ofBits .f32 0x00000000#32 + ∑ b : Fin 10, (gaps a t (ix1 b) : EReal) := by
    unfold out
    refine (read_scalar _ _ _).trans ((Ideal.hostReduceAdd_total reducesTo_S10_S_d0 (fun b => b.elim0) (gaps a t) _ _).trans ?_)
    refine congrArg₂ _ rfl (Fintype.sum_equiv ⟨fun i => i 0, fun b => ix1 b, fun i => (eq_ix1 i).symm, fun b => rfl⟩ _ _ fun i => ?_)
    exact congrArg (gaps a t) (eq_ix1 i)
  rw [e, Ideal.ofBits_zero_f32, zero_add]
  refine Finset.sum_congr rfl fun b _ => ?_
  have e1 : (total (inside a) (ix1 b) : EReal) = ∑ r, isIn (logitRow a r) b.val :=
    (total_at _ b).trans (Finset.sum_congr rfl fun r _ => inside_at a t r b (h r))
  have e2 : (total (mulf (wideB (cf a)) (inside a)) (ix1 b) : EReal) = ∑ r, conf (logitRow a r) * isIn (logitRow a r) b.val :=
    (total_at _ b).trans (Finset.sum_congr rfl fun r _ => by
      rw [← inside_at a t r b (h r), ← cf_plain a t r (h r), ← wideB_at (cf a) r b, mulf_apply])
  have e3 : (total (mulf (wideB (hits a t)) (inside a)) (ix1 b) : EReal) = ∑ r, isHit (logitRow a r) (t (ix1 r)) * isIn (logitRow a r) b.val :=
    (total_at _ b).trans (Finset.sum_congr rfl fun r _ => by
      rw [← inside_at a t r b (h r), ← hits_at a t r (h r), ← wideB_at (hits a t) r b, mulf_apply])
  rw [← e1, ← e2, ← e3]
  unfold gaps safe gap
  rw [select_apply, cmp_at, mulf_apply, absf_at, subf_apply, hostDivf_apply, hostDivf_apply, hostDivf_apply, maximumf_apply,
    read_scalar, read_scalar, read_scalar, read_scalar]
  rfl

end Cert.Proof.Ece.Ref

end
-- ==== Proof.Pre.lean ====
/-
  What the kernel's precondition says of its targets: every one of them is a class index.
-/
module

public import proofs.«01_k».proof.Pre_targets_in
public import proofs.«01_k».proof.Proof.Setup

@[expose] public section

noncomputable section

namespace Cert.Proof.Ece

open Idealize.ShloMosaic Cert.KernelIdeal

/-- The shape relation that the range test of the targets rests on. -/
theorem targets_facts : Cert.Pre_targets_in.Facts := ⟨by decide⟩

/-- A word that is at least 0 and below 64 as a signed number reads a natural number below 64. -/
theorem toNat_lt_of_signed (t : BitVec 32) (h : BitVec.ofBool (BitVec.sle 0#32 t) &&& BitVec.ofBool (BitVec.slt t 64#32) = 1#1) :
    t.toNat < 64 := by
  have h1 : BitVec.sle 0#32 t = true ∧ BitVec.slt t 64#32 = true := by
    cases ha : BitVec.sle 0#32 t <;> cases hb : BitVec.slt t 64#32 <;> simp_all
  have a := h1.1
  have b := h1.2
  simp only [BitVec.sle, BitVec.slt, decide_eq_true_eq, BitVec.toInt_eq_toNat_cond] at a b
  have := t.isLt
  norm_num at a b
  split at a <;> split at b <;> omega

/-- Where the range test is all ones, every target read by row number is below 64. -/
theorem tAt_lt (f : S1000000.Idx → BitVec 32)
    (h : ∀ i, BitVec.ofBool (BitVec.sle 0#32 (f i)) &&& BitVec.ofBool (BitVec.slt (f i) 64#32) = 1#1) (r : ℕ) :
    (tAt f r).toNat < 64 := by
  unfold tAt
  split
  · exact toNat_lt_of_signed _ (h _)
  · decide

/-- The range test of the targets at one row. -/
theorem targets_in_apply [Cert.Pre_targets_in.Facts] {F : FTy → Type} [FloatOps F] (a : FVec F Cert.Pre_targets_in.S1000000x64 .f32) (t : IVec S1000000 32)
    (h : Cert.Pre_targets_in.fn a t = fun _ => 1#1) (i : S1000000.Idx) :
    BitVec.ofBool (BitVec.sle 0#32 (t i)) &&& BitVec.ofBool (BitVec.slt (t i) 64#32) = 1#1 :=
  congrFun h i

end Cert.Proof.Ece

end
-- ==== Proof.PreRows.lean ====
/-
  What the stated precondition on the rows says of each row: its target is a class, its largest logit is a real
  number, its confidence is on no inner edge, and no earlier class ties with a likeliest target.
-/
module

public import proofs.«01_k».proof.Proof.RefRead
public import proofs.«01_k».proof.Pre_rows_plain
public import proofs.«01_k».proof.Proof.Pre
public import Idealize.ShloMosaic.Lib.ReduceAll

@[expose] public section

noncomputable section

namespace Cert.Proof.Ece

open Idealize.ShloMosaic Idealize.ShloMosaic.ValueIdx

/-- The shape facts the precondition takes. -/
theorem rows_facts : Cert.Pre_rows_plain.Facts where
  reducesTo_S1000000x64_S1000000_d1 := by decide
  h_S_ := by decide
  bcast_S1000000_S1000000x1_0 := by decide
  bcast_S_S9 := by decide
  bcast_S9_S1x9_1 := by decide
  bcast_S_S1000000x1 := by decide
  bcast_S1x9_S1000000x9_0_1 := by decide
  bcast_S1000000x1_S1000000x9_0_1 := by decide
  reducesTo_S1000000x9_S1000000_d1 := by decide
  bcast_S1000000x1_S1000000x64_0_1 := by decide
  bcast_S_S1000000 := by decide

namespace Rows

open Cert.Pre_rows_plain Ref

/-- A column stretched over a row's elements, its rows told by a vector. -/
theorem stretch {α : Type} {k : ℕ} (h' : (V 1000000).BroadcastsInDim (M 1000000 1) ![0])
    (h : (M 1000000 1).BroadcastsInDim (M 1000000 k) ![0, 1]) (x : (V 1000000).Idx → α) (r : Fin 1000000) (c : Fin k) :
    broadcastInDim (M 1000000 k) ![0, 1] h (broadcastInDim (M 1000000 1) ![0] h' x) (ix2 r c) = x (ix1 r) :=
  (read_stretch (by decide) _ _ r c).trans (read_column (by decide) _ x r 0)

/-- A conjunction over a row holds at each of its elements. -/
theorem all_at {k : ℕ} (h' : (M 1000000 k).ReducesTo [1] (V 1000000)) (hu : 0 < Sc.numel) (x : IVec (M 1000000 k) 1) (r : Fin 1000000)
    (hd : ∀ c : Fin k, h'.drop (ix2 r c) = ix1 r)
    (e : Host.reduce IntOp.andi x (constantI Sc 1 1#1) h' hu (ix1 r) = 1#1) (c : Fin k) : x (ix2 r c) = 1#1 :=
  Host.reduce_andi_eq_one x _ h' hu (ix1 r) e (ix2 r c) (hd c)

theorem drop_row {k : ℕ} (h' : (M 1000000 k).ReducesTo [1] (V 1000000)) (r : Fin 1000000) (c : Fin k) : h'.drop (ix2 r c) = ix1 r := by
  funext b
  match b with
  | ⟨0, _⟩ => exact Fin.ext (h'.drop_apply_val _ _)

theorem and_one (x y : BitVec 1) : IntOp.andi x y = 1#1 ↔ x = 1#1 ∧ y = 1#1 := by
  revert x y; decide

theorem or_one (x y : BitVec 1) : IntOp.ori x y = 1#1 ↔ x = 1#1 ∨ y = 1#1 := by
  revert x y; decide

theorem ori_at {s : Shape} {w : ℕ} (x y : IVec s w) (i : s.Idx) : ori x y i = IntOp.ori (x i) (y i) := rfl

theorem mulf_at {s : Shape} (x y : FVec Ideal s .f32) (i : s.Idx) : mulf x y i = (x i * y i : EReal) := rfl

theorem constI_at {s : Shape} {w : ℕ} (v : BitVec w) (i : s.Idx) : constantI s w v i = v := rfl

variable [Cert.Pre_rows_plain.Facts]
open Cert.Pre_rows_plain.Facts

variable (a : FVec Ideal S1000000x64 .f32) (t : IVec S1000000 32)

/-- The precondition at one row, each of its parts read at that row. -/
theorem parts (r : Fin 1000000) (h : fn (F := Ideal) a t (ix1 r) = 1#1) :
    (IntOp.cmpi .sge (t (ix1 r)) 0#32 = 1#1 ∧ IntOp.cmpi .slt (t (ix1 r)) 64#32 = 1#1)
    ∧ (∀ k : Fin 9, Ideal.cmp .une (top (logitRow a r) * ((10 : ℝ) : EReal))
        ((((1 : ℝ) : EReal) + (((BitVec.ofNat 32 k.val).toInt : ℝ) : EReal)) * tot (logitRow a r)) = 1#1)
    ∧ ((∀ c : Fin 64, IntOp.cmpi .ne (BitVec.ofNat 32 c.val) (t (ix1 r)) = 1#1 ∨ Ideal.cmp .olt (Ideal.exp (logitRow a r c)) (top (logitRow a r)) = 1#1)
      ∨ (∀ c : Fin 64, IntOp.cmpi .sge (BitVec.ofNat 32 c.val) (t (ix1 r)) = 1#1 ∨ Ideal.cmp .olt (Ideal.exp (logitRow a r c)) (top (logitRow a r)) = 1#1)) := by
  have htop : Host.reduce (α := Ideal .f32) FloatOps.maximumf (Host.exp a) (constant (F := Ideal) S_ .f32 0xFF800000#32) reducesTo_S1000000x64_S1000000_d1 h_S_ (ix1 r)
      = top (logitRow a r) := by
    refine (read_max _ rows_red _ _ r).trans ?_
    simp only [exp_at]
    rfl
  have htot : (Host.reduceAdd (Host.exp a) (constant (F := Ideal) S_ .f32 0x00000000#32) reducesTo_S1000000x64_S1000000_d1 h_S_ (ix1 r) : EReal)
      = tot (logitRow a r) := by
    refine (read_sum _ rows_red _ _ r).trans ?_
    simp only [exp_at]
    rfl
  unfold fn fn_part1 at h
  dsimp only at h
  simp only [andi_at, ori_at, and_one, or_one] at h
  obtain ⟨⟨⟨h1, h2⟩, h4⟩, h5⟩ := h
  rw [cmpi_at, read_scalar, constI_at] at h1 h2
  refine ⟨⟨h1, h2⟩, fun k => ?_, ?_⟩
  · have := all_at _ _ _ r (drop_row _ r) h4 k
    rw [cmp_at, read_stretch (by decide), mulf_at, mulf_at, read_column (by decide), read_scalar, constant_apply, stretch,
      read_rows (by decide), addf_apply, read_scalar, constant_apply, htop, htot, ofBits_ten, ofBits_one] at this
    exact this
  · have hA : ∀ c : Fin 64, Ideal.cmp .olt (Host.exp a (ix2 r c))
        (broadcastInDim S1000000x64 ![0, 1] bcast_S1000000x1_S1000000x64_0_1 (broadcastInDim S1000000x1 ![0] bcast_S1000000_S1000000x1_0
          (Host.reduce (α := Ideal .f32) FloatOps.maximumf (Host.exp a) (constant (F := Ideal) S_ .f32 0xFF800000#32) reducesTo_S1000000x64_S1000000_d1 h_S_)) (ix2 r c))
        = Ideal.cmp .olt (Ideal.exp (logitRow a r c)) (top (logitRow a r)) := fun c => by
      rw [stretch, htop, exp_at]
      rfl
    refine h5.imp (fun h6 c => ?_) (fun h6 c => ?_)
    · have := all_at _ _ _ r (drop_row _ r) h6 c
      rw [ori_at, or_one, cmp_at, cmpi_at, hA, stretch, iotaInDim_apply] at this
      exact this
    · have := all_at _ _ _ r (drop_row _ r) h6 c
      rw [ori_at, or_one, cmp_at, cmpi_at, hA, stretch, iotaInDim_apply] at this
      exact this

theorem cmp_lt (x y : EReal) : Ideal.cmp .olt x y = 1#1 ↔ x < y := by
  by_cases h : x < y <;> simp [Ideal.cmp, h]

theorem cmp_ne (x y : EReal) : Ideal.cmp .une x y = 1#1 ↔ x ≠ y := by
  by_cases h : x = y <;> simp [Ideal.cmp, h]

/-- A row on which the precondition holds is what a row has to be. -/
theorem plain_of (r : Fin 1000000) (h : fn (F := Ideal) a t (ix1 r) = 1#1) : Plain (logitRow a r) (t (ix1 r)) := by
  obtain ⟨⟨h0, h64⟩, hoff, htie⟩ := parts a t r h
  have hr : (t (ix1 r)).toNat < 64 := toNat_lt_of_signed _ ((and_one _ _).2 ⟨h0, h64⟩)
  have hw : ∀ c : Fin 64, c.val < (t (ix1 r)).toNat → IntOp.cmpi .sge (BitVec.ofNat 32 c.val) (t (ix1 r)) ≠ 1#1 := fun c hc => by
    have hs : BitVec.sle (t (ix1 r)) (BitVec.ofNat 32 c.val) = false := by
      have hcl := c.isLt
      rw [BitVec.sle, BitVec.toInt_eq_toNat_of_lt (by omega), BitVec.toInt_eq_toNat_of_lt (by rw [BitVec.toNat_ofNat]; omega),
        BitVec.toNat_ofNat, Nat.mod_eq_of_lt (by omega)]
      exact decide_eq_false (by omega)
    show BitVec.ofBool (BitVec.sle (t (ix1 r)) (BitVec.ofNat 32 c.val)) ≠ 1#1
    rw [hs]
    decide
  have hne : ∀ k : ℕ, 1 ≤ k → k ≤ 9 → top (logitRow a r) * ((10 : ℝ) : EReal) ≠ ((k : ℝ) : EReal) * tot (logitRow a r) := fun k k1 k9 e => by
    refine (cmp_ne _ _).1 (hoff ⟨k - 1, by omega⟩) (e.trans ?_)
    have hv : (BitVec.ofNat 32 (k - 1)).toInt = ((k - 1 : ℕ) : ℤ) := by
      rw [BitVec.toInt_eq_toNat_of_lt (by rw [BitVec.toNat_ofNat]; omega), BitVec.toNat_ofNat, Nat.mod_eq_of_lt (by omega)]
    show _ = (((1 : ℝ) : EReal) + (((BitVec.ofNat 32 (k - 1)).toInt : ℝ) : EReal)) * tot (logitRow a r)
    rw [hv, ← EReal.coe_add, Int.cast_natCast, Nat.cast_sub k1, Nat.cast_one, add_sub_cancel]
  have h1 := hne 1 le_rfl (by norm_num)
  rw [Nat.cast_one] at h1
  refine ⟨sound_of_off _ h1, hne, hr, fun hit c hc e => ?_⟩
  · rcases htie with h1 | h1
    · refine (h1 ⟨_, hr⟩).elim (fun h => ?_) fun h => absurd hit ((cmp_lt _ _).1 h).ne
      have ht : BitVec.ofNat 32 (t (ix1 r)).toNat = t (ix1 r) := by simp
      simp [IntOp.cmpi, ht] at h
    · exact (h1 c).elim (hw c hc) fun h => absurd e ((cmp_lt _ _).1 h).ne

end Rows

end Cert.Proof.Ece

end
-- ==== Proof.GroupWp.lean ====
/-
  One group of sixteen rows run: from the buffers of logits and targets and the bins, the program ends with the bins at
  `grpB`.
-/
module

public import proofs.«01_k».proof.Proof.Setup

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- `n` columns' exponentials `E c`, `E (c + 1)`, … added and maximised into four rotating accumulators. -/
def gst {α : Type*} (E : ℕ → FVec F S16 .f32)
    (k : FVec F S16 .f32 → FVec F S16 .f32 → FVec F S16 .f32 → FVec F S16 .f32 → FVec F S16 .f32 → FVec F S16 .f32 →
      FVec F S16 .f32 → FVec F S16 .f32 → α) :
    ℕ → ℕ → FVec F S16 .f32 → FVec F S16 .f32 → FVec F S16 .f32 → FVec F S16 .f32 → FVec F S16 .f32 → FVec F S16 .f32 →
      FVec F S16 .f32 → FVec F S16 .f32 → α
  | 0, _, s0, m0, s1, m1, s2, m2, s3, m3 => k s0 m0 s1 m1 s2 m2 s3 m3
  | n + 1, c, s0, m0, s1, m1, s2, m2, s3, m3 => gst E k n (c + 1) s1 m1 s2 m2 s3 m3 (addf s0 (E c)) (maximumf m0 (E c))

/-- Accumulator `j` after `n` rounds, as a vector of the lanes. -/
def vS (E : ℕ → FVec F S16 .f32) (j n : ℕ) : FVec F S16 .f32 := fun x => accS (fun c => E c x) j n
def vM (E : ℕ → FVec F S16 .f32) (j n : ℕ) : FVec F S16 .f32 := fun x => accM (fun c => E c x) j n

theorem gst_rounds {α : Type*} (E : ℕ → FVec F S16 .f32) (k) (n j : ℕ) :
    gst (α := α) E k (4 * n) (4 * j) (vS E 0 j) (vM E 0 j) (vS E 1 j) (vM E 1 j) (vS E 2 j) (vM E 2 j) (vS E 3 j) (vM E 3 j)
      = k (vS E 0 (j + n)) (vM E 0 (j + n)) (vS E 1 (j + n)) (vM E 1 (j + n)) (vS E 2 (j + n)) (vM E 2 (j + n))
          (vS E 3 (j + n)) (vM E 3 (j + n)) := by
  induction n generalizing j with
  | zero => rfl
  | succ n ih =>
    rw [show j + (n + 1) = (j + 1) + n by omega, ← ih (j + 1)]
    rfl

theorem gst_64 {α : Type*} (E : ℕ → FVec F S16 .f32) (k) :
    gst (α := α) E k 64 0 zers zers zers zers zers zers zers zers
      = k (vS E 0 16) (vM E 0 16) (vS E 1 16) (vM E 1 16) (vS E 2 16) (vM E 2 16) (vS E 3 16) (vM E 3 16) :=
  gst_rounds E k 16 0

theorem accS_congr {e e' : ℕ → F .f32} {j : ℕ} (k : ℕ) (h : ∀ a < k, e (4 * a + j) = e' (4 * a + j)) : accS e j k = accS e' j k := by
  induction k with
  | zero => rfl
  | succ k ih => unfold accS; rw [ih fun a ha => h a (by omega), h k (by omega)]
theorem accM_congr {e e' : ℕ → F .f32} {j : ℕ} (k : ℕ) (h : ∀ a < k, e (4 * a + j) = e' (4 * a + j)) : accM e j k = accM e' j k := by
  induction k with
  | zero => rfl
  | succ k ih => unfold accM; rw [ih fun a ha => h a (by omega), h k (by omega)]

/-- The columns' exponentials of group `n`, lane by lane. -/
theorem gcol_lane (X : ℕ → F .f32) (n : ℕ) (hn : n < 32) (l : Fin 16) (c : ℕ) (hc : c < 64) :
    (exp fun x => X (gIdx lanes (rowPos n) c x).toNat : FVec F S16 .f32) (lix l) = expAt X (16 * n + l.val) l.val c := by
  show FloatOps.exp (X _) = _
  rw [gIdx_toNat n hn c hc]
  rfl

/-- The four accumulators' sum and largest, lane by lane. -/
abbrev vSum (E : ℕ → FVec F S16 .f32) : FVec F S16 .f32 := addf (addf (vS E 0 16) (vS E 1 16)) (addf (vS E 2 16) (vS E 3 16))
abbrev vMax (E : ℕ → FVec F S16 .f32) : FVec F S16 .f32 :=
  maximumf (maximumf (vM E 0 16) (vM E 1 16)) (maximumf (vM E 2 16) (vM E 3 16))

theorem vSum_lane (X : ℕ → F .f32) (n : ℕ) (hn : n < 32) (l : Fin 16) :
    vSum (fun c => exp fun x => X (gIdx lanes (rowPos n) c x).toNat) (lix l) = rowSum X (16 * n + l.val) l.val := by
  have h := fun (j : ℕ) (hj : j < 4) (a : ℕ) (ha : a < 16) => gcol_lane X n hn l (4 * a + j) (by omega)
  have g := fun (j : ℕ) (hj : j < 4) => accS_congr
    (e := fun c => (exp fun x => X (gIdx lanes (rowPos n) c x).toNat : FVec F S16 .f32) (lix l)) (e' := expAt X (16 * n + l.val) l.val)
    (j := j) 16 (h j hj)
  show FloatOps.addf (FloatOps.addf (accS _ 0 16) (accS _ 1 16)) (FloatOps.addf (accS _ 2 16) (accS _ 3 16)) = _
  unfold rowSum
  rw [g 0 (by omega), g 1 (by omega), g 2 (by omega), g 3 (by omega)]
theorem vMax_lane (X : ℕ → F .f32) (n : ℕ) (hn : n < 32) (l : Fin 16) :
    vMax (fun c => exp fun x => X (gIdx lanes (rowPos n) c x).toNat) (lix l) = rowMax X (16 * n + l.val) l.val := by
  have h := fun (j : ℕ) (hj : j < 4) (a : ℕ) (ha : a < 16) => gcol_lane X n hn l (4 * a + j) (by omega)
  have g := fun (j : ℕ) (hj : j < 4) => accM_congr
    (e := fun c => (exp fun x => X (gIdx lanes (rowPos n) c x).toNat : FVec F S16 .f32) (lix l)) (e' := expAt X (16 * n + l.val) l.val)
    (j := j) 16 (h j hj)
  show FloatOps.maximumf (FloatOps.maximumf (accM _ 0 16) (accM _ 1 16)) (FloatOps.maximumf (accM _ 2 16) (accM _ 3 16)) = _
  unfold rowMax
  rw [g 0 (by omega), g 1 (by omega), g 2 (by omega), g 3 (by omega)]

theorem lix_eq (x : S16.Idx) : x = lix (x 0) := by
  funext a; rw [Fin.eq_zero a]; rfl

variable {d : Dev nD} {i : grid0.Coords} {xb : Memref sig .scVector .vmem S32768 .f32} {tb : Memref sig .scVector .vmem S512 .i32}
    {bins : Memref sig .scVector .vmem S48 .f32}
    {P : IVec S16 32 → Prop} {dec : ∀ v, Decidable (P v)}
    {inb : ∀ v, P v → ∀ a x, ((![v] : Fin 1 → IVec S16 32) a x).toNat < S32768.size a}
    {PB : IVec S16 32 → Prop} {decB : ∀ v, Decidable (PB v)}
    {inbB : ∀ v, PB v → ∀ a x, ((![v] : Fin 1 → IVec S16 32) a x).toNat < S48.size a}

abbrev cV (L : grid0.Coords) : Fin τ.nSC := (L 0).castLE hcore0
abbrev jV (L : grid0.Coords) : Fin τ.nSub := (L 1).castLE hsub0

/-- The tile's program's weakest precondition. -/
abbrev WP (d : Dev nD) (i : grid0.Coords) (p : PR F i PUnit) (Q : PUnit → sProp (𝕄 F)) : sProp (𝕄 F) :=
  wp frame (wpE (defs₀ (F := F)) 𝒱₀ (V d (cV i) (jV i)) none) Set.univ p Q

theorem WP_assume {A : Prop} {dA : Decidable A} (h : A) {k : PLift A → PR F i PUnit} {Q : PUnit → sProp (𝕄 F)} :
    WP d i (.op (.assume A dA) k) Q = WP d i (k ⟨h⟩) Q := wp_assume_of _ _ _ _ h

variable {HX HT : sProp (𝕄 F)} {HB : (ℕ → F .f32) → sProp (𝕄 F)} {Q : PUnit → sProp (𝕄 F)} {X : ℕ → F .f32} {T : ℕ → BitVec 32}

/-- Holding `HX` a load of the whole buffer `xb` reads `X`. -/
def ReadsX (d : Dev nD) (i : grid0.Coords) (xb : Memref sig .scVector .vmem S32768 .f32) (HX : sProp (𝕄 F)) (X : ℕ → F .f32) : Prop :=
  ∀ (Q : PUnit → sProp (𝕄 F)) (hl) (k : Vec F S32768 .f32 → PR F i PUnit),
    HX ⊢ iprop((HX -∗ WP d i (k fun j => X (j 0).val) Q) -∗ WP d i (.op (.load xb (.whole _) hl) k) Q)

/-- Holding `HT` a load of sixteen words of `tb` reads `T`. -/
def ReadsT (d : Dev nD) (i : grid0.Coords) (tb : Memref sig .scVector .vmem S512 .i32) (HT : sProp (𝕄 F)) (T : ℕ → BitVec 32) : Prop :=
  ∀ (Q : PUnit → sProp (𝕄 F)) (off : Fin 1 → ℕ) (hoff : ∀ a, off a + S16.size a ≤ S512.size a) (hl) (k : Vec F S16 .i32 → PR F i PUnit),
    HT ⊢ iprop((HT -∗ WP d i (k fun x => T (off 0 + (x 0).val)) Q)
      -∗ WP d i (.op (.load tb (Rect.unit (s := S512) off S16.size hoff).toLoadRect hl) k) Q)

/-- Holding `HB B` an adding scatter into `bins` leaves `HB` at the scattered bins. -/
def AddsB (d : Dev nD) (i : grid0.Coords) (bins : Memref sig .scVector .vmem S48 .f32) (HB : (ℕ → F .f32) → sProp (𝕄 F)) : Prop :=
  ∀ (Q : PUnit → sProp (𝕄 F)) (B : ℕ → F .f32) (v : IVec S16 32) (val : FVec F S16 .f32) (ix : ℕ → ℕ) (vl : ℕ → F .f32) (h) (hs)
    (k : PUnit → PR F i PUnit), (∀ l : Fin 16, (v (lix l)).toNat = ix l.val) → (∀ l : Fin 16, val (lix l) = vl l.val) →
    HB B ⊢ iprop((HB (scat B ix vl) -∗ WP d i (k ⟨⟩) Q)
      -∗ WP d i (SparseCore.vectorStoreIdx bins ![v] val (fun _ => 1#1) true h hs >>= k) Q)

/-- The columns run: what is left is to run the rest at the accumulators. -/
theorem wp_gcols (hX : ReadsX d i xb HX X) (v6 fx : IVec S16 32) (hP : ∀ c < 64, P (gIdx v6 fx c)) (k) (n c : ℕ) (hc : c + n ≤ 64)
    (s0 m0 s1 m1 s2 m2 s3 m3 : FVec F S16 .f32) :
    HX ⊢ iprop((HX -∗ gst (fun c => exp fun x => X (gIdx v6 fx c x).toNat)
        (fun s0 m0 s1 m1 s2 m2 s3 m3 => WP d i (k s0 m0 s1 m1 s2 m2 s3 m3) Q) n c s0 m0 s1 m1 s2 m2 s3 m3)
      -∗ WP d i (gcols xb P dec inb v6 fx k n c s0 m0 s1 m1 s2 m2 s3 m3) Q) := by
  induction n generalizing c s0 m0 s1 m1 s2 m2 s3 m3 with
  | zero =>
    iintro HX Hk
    unfold gcols gst
    iapply Hk; iexact HX
  | succ n ih =>
    iintro HX Hk
    unfold gcols gst
    rw [WP_assume (hP c (by omega))]
    iapply (hX Q) $$ HX
    iintro HX
    iapply (ih (c + 1) (by omega)) $$ HX
    iexact Hk

/-- A group run: the bins end at `grpB` of the group's rows. -/
theorem wp_group (hX : ReadsX d i xb HX X) (hT : ReadsT d i tb HT T) (hB : AddsB d i bins HB)
    (hP : ∀ v : IVec S16 32, (∀ x, (v x).toNat < 32768) → P v) (hPB : ∀ v : IVec S16 32, (∀ x, (v x).toNat < 48) → PB v)
    (n : ℕ) (hn : n < 32) (off : Fin 1 → ℕ) (hoff) (ho : off = ![16 * n]) (hTr : ∀ r, 16 * n ≤ r → r < 16 * n + 16 → (T r).toNat < 64)
    (B : ℕ → F .f32) :
    iprop(HX ∗ HT ∗ HB B) ⊢ iprop((HX ∗ HT ∗ HB (grpB X T (16 * n) B) -∗ Q ⟨⟩)
      -∗ WP d i (group xb tb bins P dec inb PB decB inbB lanes ones zers (rowPos n) off hoff) Q) := by
  subst ho
  have hpos : ∀ c < 64, ∀ x, (gIdx lanes (rowPos n) c x).toNat < 32768 := fun c hc x => by
    rw [gIdx_toNat n hn c hc]
    have hx : (x 0).val < 16 := (x 0).isLt
    have : (x 0).val ^^^ c < 64 := Nat.xor_lt_two_pow (n := 6) (by omega) (by omega)
    omega
  iintro ⟨HX, HT, HB⟩ HQ
  unfold group
  iapply (wp_gcols hX lanes (rowPos n) (fun c hc => hP _ (hpos c hc)) _ 64 0 (by omega)) $$ HX
  iintro HX
  rw [gst_64]
  have hsum := vSum_lane X n hn
  have hmax := vMax_lane X n hn
  generalize hE : (fun c => exp fun x => X (gIdx lanes (rowPos n) c x).toNat : ℕ → FVec F S16 .f32) = E at hsum hmax
  change ∀ l : Fin 16, (vSum E) (lix l) = _ at hsum
  change ∀ l : Fin 16, (vMax E) (lix l) = _ at hmax
  have hconf : ∀ l : Fin 16, (divf (vMax E) (vSum E)) (lix l) = rowConf X (16 * n + l.val) l.val := fun l => by
    show FloatOps.divf (vMax E (lix l)) (vSum E (lix l)) = _
    rw [hsum, hmax]; rfl
  have hbin : ∀ l : Fin 16, gBin (divf (vMax E) (vSum E)) (lix l) = binW (rowConf X (16 * n + l.val) l.val) := fun l => by
    rw [← hconf]; rfl
  have hbin9 : ∀ x, (gBin (divf (vMax E) (vSum E)) x).toNat ≤ 9 := fun x => binW_le _
  have hb0 : ∀ l : Fin 16, (gBin (divf (vMax E) (vSum E)) (lix l)).toNat = (binW (rowConf X (16 * n + l.val) l.val)).toNat := fun l => by
    rw [hbin]
  have hbk : ∀ k : ℕ, k < 39 → ∀ x, ((addi (gBin (divf (vMax E) (vSum E))) (broadcast S16 (BitVec.ofNat 32 k))) x).toNat
      = (gBin (divf (vMax E) (vSum E)) x).toNat + k := fun k hk x => by
    show (gBin (divf (vMax E) (vSum E)) x + BitVec.ofNat 32 k).toNat = _
    have := hbin9 x
    rw [BitVec.toNat_add, BitVec.toNat_ofNat]; omega
  iapply (hT Q _ hoff) $$ HT
  iintro HT
  have htv : ∀ x : S16.Idx, (T ((![16 * n] : Fin 1 → ℕ) 0 + (x 0).val)).toNat < 64 := fun x => by
    have hx : (x 0).val < 16 := (x 0).isLt
    exact hTr _ (by show 16 * n ≤ 16 * n + _; omega) (by show 16 * n + _ < _; omega)
  have htI := fun x => tIdx_toNat n hn (fun x : S16.Idx => T ((![16 * n] : Fin 1 → ℕ) 0 + (x 0).val)) x (htv x)
  have hp : P (addi (rowPos n) fun x => T ((![16 * n] : Fin 1 → ℕ) 0 + (x 0).val)) := hP _ fun x => by
    rw [htI]; have hx : (x 0).val < 16 := (x 0).isLt; have := htv x; omega
  rw [WP_assume hp]
  iapply (hX Q) $$ HX
  iintro HX
  have p0 : PB (gBin (divf (vMax E) (vSum E))) := hPB _ fun x => by have := hbin9 x; omega
  have p1 : PB (addi (gBin (divf (vMax E) (vSum E))) (broadcast S16 16#32)) := hPB _ fun x => by
    have := hbin9 x; have := hbk 16 (by omega) x; omega
  have p2 : PB (addi (gBin (divf (vMax E) (vSum E))) (broadcast S16 32#32)) := hPB _ fun x => by
    have := hbin9 x; have := hbk 32 (by omega) x; omega
  have hhit : ∀ l : Fin 16, (select (cmpf .oeq (exp (loadIdx (F := F) (s := S32768) (e := .f32) (fun j : S32768.Idx => X (j 0).val)
        ![addi (rowPos n) fun x => T ((![16 * n] : Fin 1 → ℕ) 0 + (x 0).val)] (inb _ hp))) (vMax E)) ones zers : FVec F S16 .f32) (lix l)
      = rowHit X T (16 * n + l.val) l.val := fun l => by
    show (if FloatOps.cmpf .oeq (FloatOps.exp (X (addi (rowPos n) (fun x => T ((![16 * n] : Fin 1 → ℕ) 0 + (x 0).val)) (lix l)).toNat)) (vMax E (lix l)) = 1#1
      then f1 else f0) = _
    rw [htI, hmax]
    rfl
  rw [WP_assume p0]
  iapply (hB Q B _ _ (fun l => (binW (rowConf X (16 * n + l) l)).toNat) (fun _ => f1) _ _ _ hb0 (fun l => rfl)) $$ HB
  iintro HB
  rw [WP_assume p1]
  iapply (hB Q _ _ _ (fun l => (binW (rowConf X (16 * n + l) l)).toNat + 16) (fun l => rowConf X (16 * n + l) l) _ _ _
    (fun l => by rw [hbk 16 (by omega), hb0]) hconf) $$ HB
  iintro HB
  rw [WP_assume p2]
  iapply (hB Q _ _ _ (fun l => (binW (rowConf X (16 * n + l) l)).toNat + 32) (fun l => rowHit X T (16 * n + l) l) _ _ _
    (fun l => by rw [hbk 32 (by omega), hb0]) hhit) $$ HB
  iintro HB
  unfold WP
  rw [wp_pure]
  imodintro
  iapply HQ
  isplitl [HX]; · iexact HX
  isplitl [HT]; · iexact HT
  unfold grpB
  iexact HB

end Cert.Proof.Ece

end
-- ==== Proof.Inst.lean ====
/-
  The tile's buffers as a group reads and writes them, and the loops of groups.
-/
module

public import proofs.«01_k».proof.Proof.GroupWp

@[expose] public section

noncomputable section

namespace Cert.Proof.Ece

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords)

/-- The buffers of the tile, held whole at numbers by position. -/
abbrev HX0 (X : ℕ → F .f32) : sProp (𝕄 F) := (xb0).view.loc (V d (cV i) (jV i)) ↦{fullShare} (fun j : S32768.Idx => X (j 0).val)
abbrev HX1 (X : ℕ → F .f32) : sProp (𝕄 F) := (xb1).view.loc (V d (cV i) (jV i)) ↦{fullShare} (fun j : S32768.Idx => X (j 0).val)
abbrev HT0 (T : ℕ → BitVec 32) : sProp (𝕄 F) := (tb0).view.loc (V d (cV i) (jV i)) ↦{fullShare} (fun j : S512.Idx => T (j 0).val)
abbrev HT1 (T : ℕ → BitVec 32) : sProp (𝕄 F) := (tb1).view.loc (V d (cV i) (jV i)) ↦{fullShare} (fun j : S512.Idx => T (j 0).val)
abbrev HBn (B : ℕ → F .f32) : sProp (𝕄 F) := (bn).view.loc (V d (cV i) (jV i)) ↦{fullShare} (fun j : S48.Idx => B (j 0).val)

theorem readsX0 (X : ℕ → F .f32) : ReadsX (F := F) d i xb0 (HX0 d i X) X := fun Q hl k => by
  have e : (xb0).view.readAt (Elt F) (LoadRect.whole S32768) (fun j : S32768.Idx => X (j 0).val) = fun j => X (j 0).val :=
    Memref.readAt_whole (Elt F) cc0_scratch0 _
  have h : HX0 d i X ⊢ iprop((HX0 d i X -∗ WP d i (k ((xb0).view.readAt (Elt F) (LoadRect.whole S32768) fun j : S32768.Idx => X (j 0).val)) Q)
      -∗ WP d i (.op (.load xb0 (LoadRect.whole S32768) hl) k) Q) :=
    wp_load 𝒱₀ (V d (cV i) (jV i)) none Set.univ (Finset.subset_univ _)
  rw [e] at h
  exact h
theorem readsX1 (X : ℕ → F .f32) : ReadsX (F := F) d i xb1 (HX1 d i X) X := fun Q hl k => by
  have e : (xb1).view.readAt (Elt F) (LoadRect.whole S32768) (fun j : S32768.Idx => X (j 0).val) = fun j => X (j 0).val :=
    Memref.readAt_whole (Elt F) cc0_scratch1 _
  have h : HX1 d i X ⊢ iprop((HX1 d i X -∗ WP d i (k ((xb1).view.readAt (Elt F) (LoadRect.whole S32768) fun j : S32768.Idx => X (j 0).val)) Q)
      -∗ WP d i (.op (.load xb1 (LoadRect.whole S32768) hl) k) Q) :=
    wp_load 𝒱₀ (V d (cV i) (jV i)) none Set.univ (Finset.subset_univ _)
  rw [e] at h
  exact h
theorem readsT0 (T : ℕ → BitVec 32) : ReadsT (F := F) d i tb0 (HT0 d i T) T := fun Q off hoff hl k => by
  have e : (tb0).view.readAt (Elt F) (Rect.unit (s := S512) off S16.size hoff).toLoadRect (fun j : S512.Idx => T (j 0).val)
      = fun x => T (off 0 + (x 0).val) := by
    funext x
    exact congrArg T (show off 0 + 1 * (x 0).val = off 0 + (x 0).val by omega)
  have h : HT0 d i T ⊢ iprop((HT0 d i T -∗ WP d i (k ((tb0).view.readAt (Elt F) ((Rect.unit (s := S512) off S16.size hoff).toLoadRect) fun j : S512.Idx => T (j 0).val)) Q)
      -∗ WP d i (.op (.load tb0 ((Rect.unit (s := S512) off S16.size hoff).toLoadRect) hl) k) Q) :=
    wp_load 𝒱₀ (V d (cV i) (jV i)) none Set.univ (Finset.subset_univ _)
  rw [e] at h
  exact h
theorem readsT1 (T : ℕ → BitVec 32) : ReadsT (F := F) d i tb1 (HT1 d i T) T := fun Q off hoff hl k => by
  have e : (tb1).view.readAt (Elt F) (Rect.unit (s := S512) off S16.size hoff).toLoadRect (fun j : S512.Idx => T (j 0).val)
      = fun x => T (off 0 + (x 0).val) := by
    funext x
    exact congrArg T (show off 0 + 1 * (x 0).val = off 0 + (x 0).val by omega)
  have h : HT1 d i T ⊢ iprop((HT1 d i T -∗ WP d i (k ((tb1).view.readAt (Elt F) ((Rect.unit (s := S512) off S16.size hoff).toLoadRect) fun j : S512.Idx => T (j 0).val)) Q)
      -∗ WP d i (.op (.load tb1 ((Rect.unit (s := S512) off S16.size hoff).toLoadRect) hl) k) Q) :=
    wp_load 𝒱₀ (V d (cV i) (jV i)) none Set.univ (Finset.subset_univ _)
  rw [e] at h
  exact h

theorem bn_set : (bn.access (.whole S48)).set = Finset.univ := by
  show ((bn).view.slice (Rect.whole S48)).set = _
  rw [View.set_slice_whole]; exact View.set_whole _

theorem addsB : AddsB (F := F) d i bn (HBn d i) := fun Q B v val ix vl h hs k hix hvl => by
  have e := storeIdx_eq B v val ix vl hix hvl h
  have hw := SparseCore.wp_vectorStoreIdx (defs := defs₀ (F := F)) (Q := Q) 𝒱₀ (V d (cV i) (jV i)) none Set.univ (base := bn) (idxs := ![v]) (v := val)
    (mask := fun _ => 1#1) (add := true) (h := h) (hs := hs) (k := k) (f := fun j : S48.Idx => B (j 0).val)
  rw [bn_set] at hw
  have e1 : ∀ f : S48.Idx → F .f32, (bn.access (.whole S48)).read (Elt F) f = f := fun f => Memref.read_access_whole (Elt F) cc0_scratch4 f
  have e2 : ∀ f w : S48.Idx → F .f32, (bn.access (.whole S48)).write (Elt F) f w Finset.univ = w := fun f w =>
    Memref.write_access_whole_univ (Elt F) cc0_scratch4 f w
  rw [e1, e2, e] at hw
  exact hw

end Cert.Proof.Ece

end
-- ==== Proof.Copies.lean ====
/-
  Pieces of the tile's program as triples, and the copies: a local copy started and waited for, with the whole source
  array's share kept in one place.
-/
module

public import proofs.«01_k».proof.Proof.Inst

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords)

/-- The piece `p`, which takes the rest of the program, goes from `A` to `B`. -/
def Tr (A : sProp (𝕄 F)) (p : PR F i PUnit → PR F i PUnit) (B : sProp (𝕄 F)) : Prop :=
  ∀ (r : PR F i PUnit) (Q : PUnit → sProp (𝕄 F)), A ⊢ iprop((B -∗ WP d i r Q) -∗ WP d i (p r) Q)

variable {d i}
variable {A A' B B' C G : sProp (𝕄 F)} {p q : PR F i PUnit → PR F i PUnit}

theorem Tr.id : Tr d i A (fun r => r) A := fun r Q => by
  iintro HA HK; iapply HK; iexact HA

theorem Tr.seq (h : Tr d i A p B) (h' : Tr d i B q C) : Tr d i A (fun r => p (q r)) C := fun r Q => by
  iintro HA HK
  iapply (h (q r) Q) $$ HA
  iintro HB
  iapply (h' r Q) $$ HB
  iexact HK

theorem Tr.frame (h : Tr d i A p B) : Tr d i iprop(A ∗ G) p iprop(B ∗ G) := fun r Q => by
  iintro ⟨HA, HG⟩ HK
  iapply (h r Q) $$ HA
  iintro HB
  iapply HK
  isplitl [HB] <;> iassumption

theorem Tr.conseq (h : Tr d i A p B) (hA : A' ⊢ A) (hB : B ⊢ B') : Tr d i A' p B' := fun r Q => by
  iintro HA HK
  ihave HA := hA $$ HA
  iapply (h r Q) $$ HA
  iintro HB
  iapply HK
  iapply hB $$ HB

/-- The transfers' counters. -/
abbrev EC : UEmb Counters (𝕄 F) := countersEmb

variable (d i)

/-- What the tile owes, with the evidence that it may wait. -/
def OW (O : CellTallies nD τ sig (HIx 1)) : sProp (𝕄 F) :=
  iprop(Transfers.MayWaits (V d (cV i) (jV i)) (none : HIx 1) O ∗ ∃ W, owes (V d (cV i) (jV i)) O W)

section
variable {sp sp' : Space} {s : Shape} {e : EltTy}

/-- What a copy of `src` to `dst` on its way is held as: its flight, and the source array beside the copied part. -/
def InF (src : Memref sig .scVector sp s e) (dst : Memref sig .scVector sp' s e) (sem : DmaSem sig)
    (q : PosShare TreeShare) (fs : Buf (Elt F) (src.view.loc (V d (cV i) (jV i)))) (S : Finset (Idx (dst.view.loc (V d (cV i) (jV i)))))
    (fd : Buf (Elt F) (dst.view.loc (V d (cV i) (jV i)))) : sProp (𝕄 F) :=
  iprop(Transfers.Flight EC (V d (cV i) (jV i)) (.dma sem) (none : HIx 1) dst.view.dmaCredit
      iprop((dst.view.loc (V d (cV i) (jV i)) ↦[S]{fullShare} (dst.view.write (Elt F) fd (src.view.read (Elt F) fs) Finset.univ))
        ∗ (src.view.loc (V d (cV i) (jV i)) ↦[src.view.set]{q} fs))
    ∗ (src.view.loc (V d (cV i) (jV i)) ↦[Finset.univ \ src.view.set]{q} fs))

theorem tr_start (src : Memref sig .scVector sp s e) (dst : Memref sig .scVector sp' s e) (sem : DmaSem sig) (hsrc) (hdst) (hsem)
    (q : PosShare TreeShare) (fs : Buf (Elt F) (src.view.loc (V d (cV i) (jV i)))) (S : Finset (Idx (dst.view.loc (V d (cV i) (jV i)))))
    (fd : Buf (Elt F) (dst.view.loc (V d (cV i) (jV i)))) (hS : dst.view.set ⊆ S) (hpos : 0 < s.numel) :
    Tr d i iprop((src.view.loc (V d (cV i) (jV i)) ↦{q} fs) ∗ (dst.view.loc (V d (cV i) (jV i)) ↦[S]{fullShare} fd) ∗ semVal (V d (cV i) (jV i), .dma sem) 0)
      (fun r => .op (.enqueueDma src (.here dst) (.dma sem) hsrc hdst hsem) fun _ => r)
      (InF d i src dst sem q fs S fd) := fun r Q => by
  iintro ⟨Hs, Hd, Hv⟩ HK
  ihave Hs := (pointsTo_split_subset (Finset.subset_univ src.view.set)).1 $$ Hs
  icases Hs with ⟨Hs, Hrest⟩
  iapply (Transfers.wp_dmaLocal EC 𝒱₀ (V d (cV i) (jV i)) none (none : HIx 1) dst.view.dmaCredit rfl (dst.view.dmaCredit_pos hpos) hS) $$ [Hs Hd Hv]
  · isplitl [Hs]; · iexact Hs
    isplitl [Hd]; · iexact Hd
    iexact Hv
  iintro HF
  iapply HK
  unfold InF
  isplitl [HF]
  · iexact HF
  · iexact Hrest

theorem tr_wait {src srcw : Memref sig .scVector sp s e} (dst : Memref sig .scVector sp' s e) (sem : DmaSem sig) (hsrc) (hdst)
    (q : PosShare TreeShare) (fs : Buf (Elt F) (src.view.loc (V d (cV i) (jV i)))) (S : Finset (Idx (dst.view.loc (V d (cV i) (jV i)))))
    (fd : Buf (Elt F) (dst.view.loc (V d (cV i) (jV i)))) (O : CellTallies nD τ sig (HIx 1)) :
    Tr d i iprop(InF d i src dst sem q fs S fd ∗ OW d i O)
      (fun r => .op (.waitDma2 sem srcw dst hsrc hdst) fun _ => r)
      iprop(((src.view.loc (V d (cV i) (jV i)) ↦{q} fs)
        ∗ (dst.view.loc (V d (cV i) (jV i)) ↦[S]{fullShare} (dst.view.write (Elt F) fd (src.view.read (Elt F) fs) Finset.univ))
        ∗ semVal (V d (cV i) (jV i), .dma sem) 0) ∗ OW d i O) := fun r Q => by
  unfold InF OW
  iintro ⟨⟨HF, Hrest⟩, ⟨#Hmw, ⟨%W, HO⟩⟩⟩ HK
  iapply (Transfers.wp_waitLocalO EC 𝒱₀ (V d (cV i) (jV i)) none (none : HIx 1) rfl) $$ [HF HO]
  · isplitl [HF]; · iexact HF
    isplitl [HO]; · iexact HO
    iapply (Transfers.MayWaits.elim (SemLoc.dma sem)) $$ Hmw
  iintro ⟨⟨Hd, Hs⟩, Hv, HO⟩
  iapply HK
  isplitl [Hd Hs Hv Hrest]
  · isplitl [Hs Hrest]
    · iapply (pointsTo_split_subset (Finset.subset_univ src.view.set)).2
      isplitl [Hs] <;> iassumption
    isplitl [Hd]; · iexact Hd
    iexact Hv
  · isplitr; · iexact Hmw
    iexists _; iexact HO

end

end Cert.Proof.Ece

end
-- ==== Proof.Sides.lean ====
/-
  The channels the tile reads through — a buffer, its semaphore and the array it is filled from —, the loop of groups,
  and a chunk: the next chunk's copies started, this one's waited for, its groups run.
-/
module

public import proofs.«01_k».proof.Proof.Copies

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (i : grid0.Coords)

/-- A buffer with its semaphore and the pieces of an array it may be filled from: `A` the array's share, `HD` the buffer held
    at a value, `val o` the value piece `o` fills it with. -/
structure Chan (F : FTy → Type) [FloatOps F] (d : Dev nD) (i : grid0.Coords) (s : Shape) (e : EltTy) where
  dst : Memref sig .scVector .vmem s e
  sem : DmaSem sig
  q : PosShare TreeShare
  ι : Type
  α : Type
  src : ι → Memref sig .scVector .hbm s e
  fs : ∀ o, Buf (Elt F) ((src o).view.loc (V d (cV i) (jV i)))
  A : sProp (𝕄 F)
  HD : α → sProp (𝕄 F)
  val : ι → α → α
  hA : ∀ o, A = ((src o).view.loc (V d (cV i) (jV i)) ↦{q} fs o)
  buf : α → Buf (Elt F) (dst.view.loc (V d (cV i) (jV i)))
  hst : ∀ a, HD a ⊢ (dst.view.loc (V d (cV i) (jV i)) ↦[Finset.univ]{fullShare} buf a)
  hval : ∀ o a, (dst.view.loc (V d (cV i) (jV i)) ↦[Finset.univ]{fullShare}
    (dst.view.write (Elt F) (buf a) ((src o).view.read (Elt F) (fs o)) Finset.univ) : sProp (𝕄 F)) ⊢ HD (val o a)
  hpos : 0 < s.numel

namespace Chan
variable {d i} {s : Shape} {e : EltTy} (c : Chan F d i s e)

/-- Nothing on the way, the buffer at some value; -/
def Free : sProp (𝕄 F) := iprop(c.A ∗ (∃ a, c.HD a) ∗ semVal (V d (cV i) (jV i), .dma c.sem) 0)
/-- nothing on the way, the buffer at a value; -/
def Full (P : c.α → Prop) : sProp (𝕄 F) := iprop(c.A ∗ (∃ a, ⌜P a⌝ ∗ c.HD a) ∗ semVal (V d (cV i) (jV i), .dma c.sem) 0)
/-- the piece on the way makes the buffer's value one with `P`. -/
def Fly (P : c.α → Prop) : sProp (𝕄 F) :=
  iprop(∃ o a, ⌜P (c.val o a)⌝ ∗ InF d i (c.src o) c.dst c.sem c.q (c.fs o) Finset.univ (c.buf a))

theorem full_free (P : c.α → Prop) : c.Full P ⊢ c.Free := by
  unfold Full Free
  iintro ⟨HA, ⟨%a, -, HD⟩, Hv⟩
  isplitl [HA]; · iexact HA
  isplitl [HD]; · iexists a; iexact HD
  iexact Hv

theorem start (o : c.ι) (P : c.α → Prop) (hP : ∀ a, P (c.val o a)) (hsrc) (hdst) (hsem) :
    Tr d i c.Free (fun r => .op (.enqueueDma (c.src o) (.here c.dst) (.dma c.sem) hsrc hdst hsem) fun _ => r) (c.Fly P) := fun r Q => by
  unfold Free Fly
  rw [c.hA o]
  iintro ⟨HA, ⟨%a, HD⟩, Hv⟩ HK
  ihave HD := c.hst a $$ HD
  iapply (tr_start d i (c.src o) c.dst c.sem hsrc hdst hsem c.q (c.fs o) Finset.univ (c.buf a) (Finset.subset_univ _) c.hpos r Q) $$ [HA HD Hv]
  · isplitl [HA]; · iexact HA
    isplitl [HD]; · iexact HD
    iexact Hv
  iintro HF
  iapply HK
  iexists o; iexists a
  isplitr; · ipureintro; exact hP a
  iexact HF

theorem wait (P : c.α → Prop) (srcw : Memref sig .scVector .hbm s e) (hsrc) (hdst) (O : CellTallies nD τ sig (HIx 1)) :
    Tr d i iprop(c.Fly P ∗ OW d i O) (fun r => .op (.waitDma2 c.sem srcw c.dst hsrc hdst) fun _ => r) iprop(c.Full P ∗ OW d i O) := fun r Q => by
  unfold Fly Full
  iintro ⟨⟨%o, %a, %h, HF⟩, HO⟩ HK
  iapply (tr_wait d i (src := c.src o) (srcw := srcw) c.dst c.sem hsrc hdst c.q (c.fs o) Finset.univ (c.buf a) O r Q) $$ [HF HO]
  · isplitl [HF] <;> iassumption
  iintro ⟨⟨HA, HD, Hv⟩, HO⟩
  iapply HK
  isplitr [HO]
  · isplitl [HA]; · rw [c.hA o]; iexact HA
    isplitl [HD]
    · iexists (c.val o a)
      isplitr; · ipureintro; exact h
      iapply (c.hval o a) $$ HD
    iexact Hv
  iexact HO

end Chan

theorem runB_zero_succ (X : ℕ → F .f32) (T : ℕ → BitVec 32) (B : ℕ → F .f32) (n : ℕ) :
    runB X T 0 B (n + 1) = grpB X T (16 * n) (runB X T 0 B n) := by
  show grpB X T (0 + 16 * n) _ = _
  rw [Nat.zero_add]

/-- The loop of groups over buffers at `X` and `T`. -/
theorem wp_groups {HX HT : sProp (𝕄 F)} {HB : (ℕ → F .f32) → sProp (𝕄 F)} {X : ℕ → F .f32} {T : ℕ → BitVec 32} {d : Dev nD} {i : grid0.Coords}
    (l : Scf.Loop 32) (ok : l.OK) (g : Fin l.trips → PR F i PUnit)
    (hg : ∀ (n : Fin l.trips) (B : ℕ → F .f32) (Q : PUnit → sProp (𝕄 F)), iprop(HX ∗ HT ∗ HB B)
      ⊢ iprop((HX ∗ HT ∗ HB (grpB X T (16 * n.val) B) -∗ Q ⟨⟩) -∗ WP d i (g n) Q)) (B : ℕ → F .f32) :
    Tr d i iprop(HX ∗ HT ∗ HB B) (fun r => Scf.Loop.for l ok PUnit.unit (fun n _ => g n) >>= fun _ => r)
      iprop(HX ∗ HT ∗ HB (runB X T 0 B l.trips)) := fun r Q => by
  have e0 : HB B = HB (runB X T 0 B 0) := rfl
  iintro H HK
  ihave H := (Entails.of_eq (congrArg (fun Z => iprop(HX ∗ HT ∗ Z)) e0)) $$ H
  iapply (show iprop(HX ∗ HT ∗ HB (runB X T 0 B 0)) ⊢ _ from Scf.wp_for_bind frame (wpE (defs₀ (F := F)) 𝒱₀ (V d (cV i) (jV i)) none) Set.univ l.lb l.ub l.st ok PUnit.unit (fun n _ => g n)
    (fun n _ => iprop(HX ∗ HT ∗ HB (runB X T 0 B n))) (fun n _ => by
      iintro H
      iapply (hg n (runB X T 0 B n) _) $$ H
      iintro H
      rw [runB_zero_succ X T B n.val]
      iexact H)) $$ H
  iintro %u H
  iapply HK
  iexact H

variable {d i}

/-- A chunk: `S` for what starts the next one's copies, then this one's waits and its groups. -/
theorem chunk {sx sy : Shape} {ex ey : EltTy} (cX : Chan F d i sx ex) (cT : Chan F d i sy ey) (PX : cX.α → Prop) (PT : cT.α → Prop)
    {O : CellTallies nD τ sig (HIx 1)} {N N' : sProp (𝕄 F)} {HB : (ℕ → F .f32) → sProp (𝕄 F)} {B B' : ℕ → F .f32}
    {S wX wT L : PR F i PUnit → PR F i PUnit} (hS : Tr d i N S N')
    (hX : Tr d i iprop(cX.Fly PX ∗ OW d i O) wX iprop(cX.Full PX ∗ OW d i O)) (hT : Tr d i iprop(cT.Fly PT ∗ OW d i O) wT iprop(cT.Full PT ∗ OW d i O))
    (hL : ∀ a b, PX a → PT b → Tr d i iprop(cX.HD a ∗ cT.HD b ∗ HB B) L iprop(cX.HD a ∗ cT.HD b ∗ HB B')) :
    Tr d i iprop((cX.Fly PX ∗ cT.Fly PT) ∗ N ∗ OW d i O ∗ HB B) (fun r => S (wX (wT (L r))))
      iprop((cX.Free ∗ cT.Free) ∗ N' ∗ OW d i O ∗ HB B') := fun r Q => by
  iintro ⟨⟨HX, HT⟩, HN, HO, HB⟩ HK
  iapply (hS _ Q) $$ HN
  iintro HN
  iapply (hX _ Q) $$ [HX HO]
  · isplitl [HX] <;> iassumption
  iintro ⟨HX, HO⟩
  iapply (hT _ Q) $$ [HT HO]
  · isplitl [HT] <;> iassumption
  unfold Chan.Full Chan.Free
  icases HX with ⟨HXA, ⟨%a, %ha, HX⟩, HXv⟩
  iintro ⟨⟨HTA, ⟨%b, %hb, HT⟩, HTv⟩, HO⟩
  iapply (hL a b ha hb _ Q) $$ [HX HT HB]
  · isplitl [HX]; · iexact HX
    isplitl [HT] <;> iassumption
  iintro ⟨HX, HT, HB⟩
  iapply HK
  isplitr [HN HO HB]
  · isplitl [HXA HX HXv]
    · isplitl [HXA]; · iexact HXA
      isplitl [HX]; · iexists a; iexact HX
      iexact HXv
    · isplitl [HTA]; · iexact HTA
      isplitl [HT]; · iexists b; iexact HT
      iexact HTv
  isplitl [HN]; · iexact HN
  isplitl [HO] <;> iassumption

/-- A chunk copied and waited for at once. -/
theorem chunk1 {sx sy : Shape} {ex ey : EltTy} (cX : Chan F d i sx ex) (cT : Chan F d i sy ey) (PX : cX.α → Prop) (PT : cT.α → Prop)
    {O : CellTallies nD τ sig (HIx 1)} {HB : (ℕ → F .f32) → sProp (𝕄 F)} {B B' : ℕ → F .f32}
    {sX sT wX wT L : PR F i PUnit → PR F i PUnit} (hsX : Tr d i cX.Free sX (cX.Fly PX)) (hsT : Tr d i cT.Free sT (cT.Fly PT))
    (hX : Tr d i iprop(cX.Fly PX ∗ OW d i O) wX iprop(cX.Full PX ∗ OW d i O)) (hT : Tr d i iprop(cT.Fly PT ∗ OW d i O) wT iprop(cT.Full PT ∗ OW d i O))
    (hL : ∀ a b, PX a → PT b → Tr d i iprop(cX.HD a ∗ cT.HD b ∗ HB B) L iprop(cX.HD a ∗ cT.HD b ∗ HB B')) :
    Tr d i iprop((cX.Free ∗ cT.Free) ∗ OW d i O ∗ HB B) (fun r => sX (wX (sT (wT (L r)))))
      iprop((cX.Free ∗ cT.Free) ∗ OW d i O ∗ HB B') := fun r Q => by
  iintro ⟨⟨HX, HT⟩, HO, HB⟩ HK
  iapply (hsX _ Q) $$ HX
  iintro HX
  iapply (hX _ Q) $$ [HX HO]
  · isplitl [HX] <;> iassumption
  iintro ⟨HX, HO⟩
  iapply (hsT _ Q) $$ HT
  iintro HT
  iapply (hT _ Q) $$ [HT HO]
  · isplitl [HT] <;> iassumption
  unfold Chan.Full Chan.Free
  icases HX with ⟨HXA, ⟨%a, %ha, HX⟩, HXv⟩
  iintro ⟨⟨HTA, ⟨%b, %hb, HT⟩, HTv⟩, HO⟩
  iapply (hL a b ha hb _ Q) $$ [HX HT HB]
  · isplitl [HX]; · iexact HX
    isplitl [HT] <;> iassumption
  iintro ⟨HX, HT, HB⟩
  iapply HK
  isplitr [HO HB]
  · isplitl [HXA HX HXv]
    · isplitl [HXA]; · iexact HXA
      isplitl [HX]; · iexists a; iexact HX
      iexact HXv
    · isplitl [HTA]; · iexact HTA
      isplitl [HT]; · iexists b; iexact HT
      iexact HTv
  isplitl [HO] <;> iassumption

end Cert.Proof.Ece

end
-- ==== Proof.ValLemmas.lean ====
/-
  How the tile's runs of groups depend on the logits and the targets, and how runs join.
-/
module

public import proofs.«01_k».proof.Proof.Val

@[expose] public section

noncomputable section

namespace Cert.Proof.Ece

open Cert.KernelIdeal Cert.KernelIdeal.Gen
open Idealize.ShloMosaic Idealize.SL.Sem

variable {F : FTy → Type} [FloatOps F]

theorem accS_congr4 {e e' : ℕ → F .f32} {j : ℕ} (hj : j < 4) (h : ∀ c < 64, e c = e' c) (k : ℕ) (hk : k ≤ 16) : accS e j k = accS e' j k := by
  induction k with
  | zero => rfl
  | succ k ih => unfold accS; rw [ih (by omega), h _ (by omega)]
theorem accM_congr4 {e e' : ℕ → F .f32} {j : ℕ} (hj : j < 4) (h : ∀ c < 64, e c = e' c) (k : ℕ) (hk : k ≤ 16) : accM e j k = accM e' j k := by
  induction k with
  | zero => rfl
  | succ k ih => unfold accM; rw [ih (by omega), h _ (by omega)]

/-- The same numbers in the rows' places: row `r` of `X` is row `r'` of `X'`. -/
def RowEq (X X' : ℕ → F .f32) (r r' : ℕ) : Prop := ∀ c < 64, X (64 * r + c) = X' (64 * r' + c)

section
variable {X X' : ℕ → F .f32} {r r' l : ℕ} (h : RowEq X X' r r') (hl : l < 16)
include h hl

theorem expAt_congr (c : ℕ) (hc : c < 64) : expAt X r l c = expAt X' r' l c := by
  unfold expAt
  rw [h _ (Nat.xor_lt_two_pow (n := 6) (by omega) (by omega))]

theorem rowSum_congr : rowSum X r l = rowSum X' r' l := by
  have e := expAt_congr h hl
  unfold rowSum
  rw [accS_congr4 (j := 0) (by omega) e 16 le_rfl, accS_congr4 (j := 1) (by omega) e 16 le_rfl, accS_congr4 (j := 2) (by omega) e 16 le_rfl,
    accS_congr4 (j := 3) (by omega) e 16 le_rfl]

theorem rowMax_congr : rowMax X r l = rowMax X' r' l := by
  have e := expAt_congr h hl
  unfold rowMax
  rw [accM_congr4 (j := 0) (by omega) e 16 le_rfl, accM_congr4 (j := 1) (by omega) e 16 le_rfl, accM_congr4 (j := 2) (by omega) e 16 le_rfl,
    accM_congr4 (j := 3) (by omega) e 16 le_rfl]

theorem rowConf_congr : rowConf X r l = rowConf X' r' l := by
  unfold rowConf; rw [rowSum_congr h hl, rowMax_congr h hl]

theorem rowHit_congr {T T' : ℕ → BitVec 32} (hT : T r = T' r') (hr : (T r).toNat < 64) : rowHit X T r l = rowHit X' T' r' l := by
  unfold rowHit
  rw [rowMax_congr h hl, ← hT, h _ hr]
end

theorem scat_congr (B : ℕ → F .f32) {ix ix' : ℕ → ℕ} {v v' : ℕ → F .f32} (h : ∀ l < 16, ix l = ix' l) (hv : ∀ l < 16, v l = v' l) :
    scat B ix v = scat B ix' v' := by
  unfold scat
  refine List.foldl_ext _ _ _ fun B l hl => ?_
  rw [h l (List.mem_range.mp hl), hv l (List.mem_range.mp hl)]

theorem grpB_congr {X X' : ℕ → F .f32} {T T' : ℕ → BitVec 32} {r r' : ℕ} (B : ℕ → F .f32) (h : ∀ l < 16, RowEq X X' (r + l) (r' + l))
    (hT : ∀ l < 16, T (r + l) = T' (r' + l)) (hr : ∀ l < 16, (T (r + l)).toNat < 64) : grpB X T r B = grpB X' T' r' B := by
  unfold grpB
  have hc : ∀ l < 16, rowConf X (r + l) l = rowConf X' (r' + l) l := fun l hl => rowConf_congr (h l hl) hl
  rw [scat_congr B (v := fun _ => f1) (v' := fun _ => f1) (fun l hl => congrArg (fun q => (binW q).toNat) (hc l hl)) (fun _ _ => rfl),
    scat_congr _ (fun l hl => congrArg (fun q => (binW q).toNat + 16) (hc l hl)) hc,
    scat_congr _ (fun l hl => congrArg (fun q => (binW q).toNat + 32) (hc l hl)) (fun l hl => rowHit_congr (h l hl) hl (hT l hl) (hr l hl))]

/-- A run depends only on its rows. -/
theorem runB_congr {X X' : ℕ → F .f32} {T T' : ℕ → BitVec 32} {r r' : ℕ} (B : ℕ → F .f32) (n : ℕ) (h : ∀ l < 16 * n, RowEq X X' (r + l) (r' + l))
    (hT : ∀ l < 16 * n, T (r + l) = T' (r' + l)) (hr : ∀ l < 16 * n, (T (r + l)).toNat < 64) : runB X T r B n = runB X' T' r' B n := by
  induction n with
  | zero => rfl
  | succ n ih =>
    unfold runB
    rw [ih (fun l hl => h l (by omega)) (fun l hl => hT l (by omega)) (fun l hl => hr l (by omega))]
    refine grpB_congr _ (fun l hl => ?_) (fun l hl => ?_) (fun l hl => ?_)
    · rw [Nat.add_assoc, Nat.add_assoc]; exact h _ (by omega)
    · rw [Nat.add_assoc, Nat.add_assoc]; exact hT _ (by omega)
    · rw [Nat.add_assoc]; exact hr _ (by omega)

/-- A run of `a` groups and then one of `b`. -/
theorem runB_add (X : ℕ → F .f32) (T : ℕ → BitVec 32) (r : ℕ) (B : ℕ → F .f32) (a b : ℕ) :
    runB X T r B (a + b) = runB X T (r + 16 * a) (runB X T r B a) b := by
  induction b with
  | zero => rfl
  | succ b ih =>
    show grpB X T (r + 16 * (a + b)) (runB X T r B (a + b)) = grpB X T (r + 16 * a + 16 * b) _
    rw [ih, show r + 16 * (a + b) = r + 16 * a + 16 * b by omega]

end Cert.Proof.Ece

end
-- ==== Proof.Chans.lean ====
/-
  The tile's channels: its two buffers of logits and its two buffers of targets, filled with chunks of the arrays, and the
  first two filled with the tail.
-/
module

public import proofs.«01_k».proof.Proof.Sides
public import proofs.«01_k».proof.Proof.ValLemmas
public import Idealize.ShloMosaic.Lib.Pipeline.ValueKit.Geometry

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (xc : (d : Dev nD) → Buf (Elt F) (xLoc d)) (d : Dev nD) (i : grid0.Coords)

/-- The pieces of an array of length `n` that start `k` before its end or earlier. -/
abbrev Piece (n k : ℕ) : Type := {o : Fin 1 → ℕ // ∀ a, o a + (![k] : Fin 1 → ℕ) a ≤ (![n] : Fin 1 → ℕ) a}

theorem read_sliceX (f : S64000000.Idx → F .f32) (o) (h) :
    (sliceX o h).view.read (Elt F) f = fun j => xAt f (o 0 + (j 0).val) := by
  funext j
  have hj : (j 0).val < 32768 := (j 0).isLt
  have ho : o 0 + 32768 ≤ 64000000 := h 0
  unfold xAt
  rw [dif_pos (by omega)]
  show f _ = f _
  congr 1
  funext a
  rw [Fin.eq_zero a]
  exact Fin.ext (ValueKit.view_emb_slice_whole_unit_val main_v0_scv o S32768.size h j 0)

theorem read_sliceT (f : S1000000.Idx → BitVec 32) (o) (h) :
    (sliceT o h).view.read (Elt F) f = fun j => tAt f (o 0 + (j 0).val) := by
  funext j
  have hj : (j 0).val < 512 := (j 0).isLt
  have ho : o 0 + 512 ≤ 1000000 := h 0
  unfold tAt
  rw [dif_pos (by omega)]
  show f _ = f _
  congr 1
  funext a
  rw [Fin.eq_zero a]
  exact Fin.ext (ValueKit.view_emb_slice_whole_unit_val main_arg1_scv o S512.size h j 0)

/-- The first buffer of logits, filled on the semaphore `sem` with chunks read at the share `q`. -/
def chX0 (sem : DmaSem sig) (q : PosShare TreeShare) : Chan F d i S32768 .f32 where
  dst := xb0
  sem := sem
  q := q
  ι := Piece 64000000 32768
  α := ℕ → F .f32
  src o := sliceX o.1 o.2
  fs _ := xc d
  A := xPts xc d q
  HD := HX0 d i
  val o _ := fun p => xAt (xc d) (o.1 0 + p)
  hA _ := rfl
  buf a := fun j : S32768.Idx => a (j 0).val
  hst _ := Entails.rfl
  hval o a := Entails.of_eq (congrArg _ ((View.write_whole_univ (Val := Elt F) cc0_scratch0 _ _).trans (read_sliceX _ _ _)))
  hpos := by decide

/-- The second buffer of logits. -/
def chX1 (sem : DmaSem sig) (q : PosShare TreeShare) : Chan F d i S32768 .f32 where
  dst := xb1
  sem := sem
  q := q
  ι := Piece 64000000 32768
  α := ℕ → F .f32
  src o := sliceX o.1 o.2
  fs _ := xc d
  A := xPts xc d q
  HD := HX1 d i
  val o _ := fun p => xAt (xc d) (o.1 0 + p)
  hA _ := rfl
  buf a := fun j : S32768.Idx => a (j 0).val
  hst _ := Entails.rfl
  hval o a := Entails.of_eq (congrArg _ ((View.write_whole_univ (Val := Elt F) cc0_scratch1 _ _).trans (read_sliceX _ _ _)))
  hpos := by decide

/-- The first buffer of targets. -/
def chT0 (sem : DmaSem sig) (q : PosShare TreeShare) : Chan F d i S512 .i32 where
  dst := tb0
  sem := sem
  q := q
  ι := Piece 1000000 512
  α := ℕ → BitVec 32
  src o := sliceT o.1 o.2
  fs _ := m (tLoc d)
  A := tPts m d q
  HD := HT0 d i
  val o _ := fun p => tAt (m (tLoc d)) (o.1 0 + p)
  hA _ := rfl
  buf a := fun j : S512.Idx => a (j 0).val
  hst _ := Entails.rfl
  hval o a := Entails.of_eq (congrArg _ ((View.write_whole_univ (Val := Elt F) cc0_scratch2 _ _).trans (read_sliceT (F := F) _ _ _)))
  hpos := by decide

/-- The second buffer of targets. -/
def chT1 (sem : DmaSem sig) (q : PosShare TreeShare) : Chan F d i S512 .i32 where
  dst := tb1
  sem := sem
  q := q
  ι := Piece 1000000 512
  α := ℕ → BitVec 32
  src o := sliceT o.1 o.2
  fs _ := m (tLoc d)
  A := tPts m d q
  HD := HT1 d i
  val o _ := fun p => tAt (m (tLoc d)) (o.1 0 + p)
  hA _ := rfl
  buf a := fun j : S512.Idx => a (j 0).val
  hst _ := Entails.rfl
  hval o a := Entails.of_eq (congrArg _ ((View.write_whole_univ (Val := Elt F) cc0_scratch3 _ _).trans (read_sliceT (F := F) _ _ _)))
  hpos := by decide

theorem write_tailX (a : ℕ → F .f32) (f : S64000000.Idx → F .f32) :
    (xbT.view.write (Elt F) (fun j : S32768.Idx => a (j 0).val) ((mXT.view.read (Elt F) f : S4096.Idx → F .f32)) Finset.univ : S32768.Idx → F .f32)
      = fun j => if (j 0).val < 4096 then xAt f (63995904 + (j 0).val) else a (j 0).val := by
  refine (View.write_whole_slice_unit (Val := Elt F) cc0_scratch0 ![0] S4096.size inb_S32768_S4096_0 _ _).trans ?_
  funext j
  unfold updateSlice
  by_cases h : (j 0).val < 4096
  · rw [if_pos h, dif_pos (fun b => by rw [Fin.eq_zero b]; exact ⟨Nat.zero_le _, by simpa using h⟩)]
    unfold xAt
    rw [dif_pos (by omega)]
    show f _ = f _
    congr 1
    funext b
    rw [Fin.eq_zero b]
    exact Fin.ext (ValueKit.view_emb_slice_whole_unit_val main_v0_scv ![63995904] S4096.size inb_S64000000_S4096_63995904 _ 0)
  · rw [if_neg h, dif_neg (fun H => h (by simpa using (H 0).2))]

theorem write_tailT (a : ℕ → BitVec 32) (f : S1000000.Idx → BitVec 32) :
    (tbT.view.write (Elt F) (fun j : S512.Idx => a (j 0).val) ((mTT.view.read (Elt F) f : S64.Idx → BitVec 32)) Finset.univ : S512.Idx → BitVec 32)
      = fun j => if (j 0).val < 64 then tAt f (999936 + (j 0).val) else a (j 0).val := by
  refine (View.write_whole_slice_unit (Val := Elt F) cc0_scratch2 ![0] S64.size inb_S512_S64_0 _ _).trans ?_
  funext j
  unfold updateSlice
  by_cases h : (j 0).val < 64
  · rw [if_pos h, dif_pos (fun b => by rw [Fin.eq_zero b]; exact ⟨Nat.zero_le _, by simpa using h⟩)]
    unfold tAt
    rw [dif_pos (by omega)]
    show f _ = f _
    congr 1
    funext b
    rw [Fin.eq_zero b]
    exact Fin.ext (ValueKit.view_emb_slice_whole_unit_val main_arg1_scv ![999936] S64.size inb_S1000000_S64_999936 _ 0)
  · rw [if_neg h, dif_neg (fun H => h (by simpa using (H 0).2))]

/-- The first buffer of logits, its first 4096 words filled with the tail. -/
def chXT (sem : DmaSem sig) (q : PosShare TreeShare) : Chan F d i S4096 .f32 where
  dst := xbT
  sem := sem
  q := q
  ι := Unit
  α := ℕ → F .f32
  src _ := mXT
  fs _ := xc d
  A := xPts xc d q
  HD := HX0 d i
  val _ a := fun p => if p < 4096 then xAt (xc d) (63995904 + p) else a p
  hA _ := rfl
  buf a := fun j : S32768.Idx => a (j 0).val
  hst _ := Entails.rfl
  hval o a := Entails.of_eq (congrArg _ (write_tailX a (xc d)))
  hpos := by decide

/-- The first buffer of targets, its first 64 words filled with the tail. -/
def chTT (sem : DmaSem sig) (q : PosShare TreeShare) : Chan F d i S64 .i32 where
  dst := tbT
  sem := sem
  q := q
  ι := Unit
  α := ℕ → BitVec 32
  src _ := mTT
  fs _ := m (tLoc d)
  A := tPts m d q
  HD := HT0 d i
  val _ a := fun p => if p < 64 then tAt (m (tLoc d)) (999936 + p) else a p
  hA _ := rfl
  buf a := fun j : S512.Idx => a (j 0).val
  hst _ := Entails.rfl
  hval o a := Entails.of_eq (congrArg _ (write_tailT (F := F) a (m (tLoc d))))
  hpos := by decide

end Cert.Proof.Ece

end
-- ==== Proof.Chunks.lean ====
/-
  The tile's sixty-one chunks: the loop's two halves, its invariant, and the loop.
-/
module

public import proofs.«01_k».proof.Proof.Chans

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (xc : (d : Dev nD) → Buf (Elt F) (xLoc d)) (d : Dev nD) (i : grid0.Coords)

/-! ### The conditions and the trip counts -/

theorem t1_trips : k0_t1_loop.trips = 61 := by decide
theorem t2_trips : k0_t2_loop.trips = 32 := by decide
theorem t3_trips : k0_t3_loop.trips = 32 := by decide
theorem t4_trips : k0_t4_loop.trips = 32 := by decide
theorem t5_trips : k0_t5_loop.trips = 4 := by decide

theorem cond1_iff : ∀ k : Fin k0_t1_loop.trips, k0_cond1 k = 1#1 ↔ k.val % 2 = 0 := by decide +kernel
theorem cond2_iff : ∀ k : Fin k0_t1_loop.trips, k0_cond2 k = 1#1 ↔ k.val + 1 < 61 := by decide +kernel
theorem cond3_iff : ∀ k : Fin k0_t1_loop.trips, k0_cond3 k = 1#1 ↔ k.val % 2 = 1 := by decide +kernel
theorem cond4_iff : ∀ k : Fin k0_t1_loop.trips, k0_cond4 k = 1#1 ↔ k.val + 1 < 61 := by decide +kernel
theorem cond5_iff : ∀ i : grid0.Coords, k0_cond5 i = 1#1 ↔ 2 * (i 1).val + (i 0).val = 0 := by decide +kernel
theorem cond6_iff : ∀ i : grid0.Coords, k0_cond6 i = 1#1 ↔ 2 * (i 1).val + (i 0).val = 31 := by decide +kernel

/-! ### A loop of groups over a buffer filled from row `R` on -/

/-- The buffer `a` holds the `n` words of `X` from row `R`. -/
def AtX (X : ℕ → F .f32) (R n : ℕ) (a : ℕ → F .f32) : Prop := ∀ p < n, a p = X (64 * R + p)
def AtT (T : ℕ → BitVec 32) (R n : ℕ) (b : ℕ → BitVec 32) : Prop := ∀ r < n, b r = T (R + r)

theorem groups_run {HX HT : sProp (𝕄 F)} {HB : (ℕ → F .f32) → sProp (𝕄 F)} {X a : ℕ → F .f32} {T b : ℕ → BitVec 32} {d : Dev nD} {i : grid0.Coords}
    (l : Scf.Loop 32) (ok : l.OK) (g : Fin l.trips → PR F i PUnit)
    (hg : ∀ (n : Fin l.trips) (B : ℕ → F .f32) (Q : PUnit → sProp (𝕄 F)), iprop(HX ∗ HT ∗ HB B)
      ⊢ iprop((HX ∗ HT ∗ HB (grpB a b (16 * n.val) B) -∗ Q ⟨⟩) -∗ WP d i (g n) Q)) (B : ℕ → F .f32)
    (n R : ℕ) (hn : l.trips = n) (hX : AtX X R (1024 * n) a) (hT : AtT T R (16 * n) b) (hTr : ∀ r, (T r).toNat < 64) :
    Tr d i iprop(HX ∗ HT ∗ HB B) (fun r => Scf.Loop.for l ok PUnit.unit (fun n _ => g n) >>= fun _ => r)
      iprop(HX ∗ HT ∗ HB (runB X T R B n)) := by
  have e : runB a b 0 B l.trips = runB X T R B n := by
    rw [hn]
    refine runB_congr B n (fun r hr c hc => ?_) (fun r hr => ?_) (fun r hr => ?_)
    · rw [hX _ (by omega)]; congr 1; omega
    · rw [hT _ (by omega), Nat.zero_add]
    · rw [hT _ (by omega)]; exact hTr _
  rw [← e]
  exact wp_groups l ok g hg B

theorem chk_in {v : IVec S16 32} {n : ℕ} (h : ∀ x, (v x).toNat < n) (s : Shape) (hr : s = ⟨1, ![n]⟩) : ∀ (a : Fin 1) x, ((![v] : Fin 1 → IVec S16 32) a x).toNat < (![n] : Fin 1 → ℕ) a := by
  intro a x; rw [Fin.eq_zero a]; exact h x

theorem range_of {T b : ℕ → BitVec 32} {R n : ℕ} (hT : AtT T R n b) (hTr : ∀ r, (T r).toNat < 64) : ∀ r < n, (b r).toNat < 64 := fun r hr => by
  rw [hT r hr]; exact hTr _

section
variable (a : ℕ → F .f32) (b : ℕ → BitVec 32) (hb : ∀ r < 512, (b r).toNat < 64)
include hb

theorem grpE_run (k : Fin k0_t1_loop.trips) (h1 : k0_cond1 k = 1#1) (n : Fin k0_t2_loop.trips) (B : ℕ → F .f32) (Q : PUnit → sProp (𝕄 F)) :
    iprop(HX0 d i a ∗ HT0 d i b ∗ HBn d i B) ⊢ iprop((HX0 d i a ∗ HT0 d i b ∗ HBn d i (grpB a b (16 * n.val) B) -∗ Q ⟨⟩) -∗ WP d i (grpE i k h1 n) Q) :=
  have hn : n.val < 32 := Nat.lt_of_lt_of_eq n.isLt t2_trips
  wp_group (readsX0 d i a) (readsT0 d i b) (addsB d i) (fun v h _ => chk_in h S32768 rfl) (fun v h _ => chk_in h S48 rfl) n.val hn _ _ (k0_off7_eq n)
    (fun r _ hr => hb r (by omega)) B
theorem grpO_run (k : Fin k0_t1_loop.trips) (h1 : k0_cond3 k = 1#1) (n : Fin k0_t3_loop.trips) (B : ℕ → F .f32) (Q : PUnit → sProp (𝕄 F)) :
    iprop(HX1 d i a ∗ HT1 d i b ∗ HBn d i B) ⊢ iprop((HX1 d i a ∗ HT1 d i b ∗ HBn d i (grpB a b (16 * n.val) B) -∗ Q ⟨⟩) -∗ WP d i (grpO i k h1 n) Q) :=
  have hn : n.val < 32 := Nat.lt_of_lt_of_eq n.isLt t3_trips
  wp_group (readsX1 d i a) (readsT1 d i b) (addsB d i) (fun v h _ => chk_in h S32768 rfl) (fun v h _ => chk_in h S48 rfl) n.val hn _ _ (k0_off12_eq n)
    (fun r _ hr => hb r (by omega)) B
theorem grpX_run (h1 : k0_cond5 i = 1#1) (n : Fin k0_t4_loop.trips) (B : ℕ → F .f32) (Q : PUnit → sProp (𝕄 F)) :
    iprop(HX0 d i a ∗ HT0 d i b ∗ HBn d i B) ⊢ iprop((HX0 d i a ∗ HT0 d i b ∗ HBn d i (grpB a b (16 * n.val) B) -∗ Q ⟨⟩) -∗ WP d i (grpX i h1 n) Q) :=
  have hn : n.val < 32 := Nat.lt_of_lt_of_eq n.isLt t4_trips
  wp_group (readsX0 d i a) (readsT0 d i b) (addsB d i) (fun v h _ => chk_in h S32768 rfl) (fun v h _ => chk_in h S48 rfl) n.val hn _ _ (k0_off13_eq n)
    (fun r _ hr => hb r (by omega)) B
end
theorem grpT_run (a : ℕ → F .f32) (b : ℕ → BitVec 32) (hb : ∀ r < 64, (b r).toNat < 64)
    (h1 : k0_cond6 i = 1#1) (n : Fin k0_t5_loop.trips) (B : ℕ → F .f32) (Q : PUnit → sProp (𝕄 F)) :
    iprop(HX0 d i a ∗ HT0 d i b ∗ HBn d i B) ⊢ iprop((HX0 d i a ∗ HT0 d i b ∗ HBn d i (grpB a b (16 * n.val) B) -∗ Q ⟨⟩) -∗ WP d i (grpT i h1 n) Q) :=
  have hn : n.val < 4 := Nat.lt_of_lt_of_eq n.isLt t5_trips
  wp_group (readsX0 d i a) (readsT0 d i b) (addsB d i) (fun v h _ => chk_in h S32768 rfl) (fun v h _ => chk_in h S48 rfl) n.val (by omega) _ _ (k0_off14_eq n)
    (fun r _ hr => hb r (by omega)) B

/-! ### The loop's halves -/

variable (q0 q1 : PosShare TreeShare)

abbrev X0c : Chan F d i S32768 .f32 := chX0 xc d i cc0_scratch5.sem q0
abbrev X1c : Chan F d i S32768 .f32 := chX1 xc d i cc0_scratch6.sem q1
abbrev T0c : Chan F d i S512 .i32 := chT0 m d i cc0_scratch7.sem q0
abbrev T1c : Chan F d i S512 .i32 := chT1 m d i cc0_scratch8.sem q1

/-- Row `j`'s chunk of the tile starts at row `rowOf i j`. -/
abbrev rowOf (i : grid0.Coords) (j : ℕ) : ℕ := (2 * (i 1).val + (i 0).val) * 31232 + 512 * j

abbrev Xg : ℕ → F .f32 := xAt (xc d)
abbrev Tg : ℕ → BitVec 32 := tAt (m (tLoc d))

abbrev Free0 : sProp (𝕄 F) := iprop((X0c xc d i q0).Free ∗ (T0c m d i q0).Free)
abbrev Free1 : sProp (𝕄 F) := iprop((X1c xc d i q1).Free ∗ (T1c m d i q1).Free)
abbrev Fly0 (j : ℕ) : sProp (𝕄 F) :=
  iprop((X0c xc d i q0).Fly (AtX (Xg xc d) (rowOf i j) 32768) ∗ (T0c m d i q0).Fly (AtT (Tg m d) (rowOf i j) 512))
abbrev Fly1 (j : ℕ) : sProp (𝕄 F) :=
  iprop((X1c xc d i q1).Fly (AtX (Xg xc d) (rowOf i j) 32768) ∗ (T1c m d i q1).Fly (AtT (Tg m d) (rowOf i j) 512))

theorem Tr.both {A₁ A₂ B₁ B₂ : sProp (𝕄 F)} {d : Dev nD} {i : grid0.Coords} {p q : PR F i PUnit → PR F i PUnit} (h : Tr d i A₁ p B₁) (h' : Tr d i A₂ q B₂) :
    Tr d i iprop(A₁ ∗ A₂) (fun r => p (q r)) iprop(B₁ ∗ B₂) := fun r Q => by
  iintro ⟨H1, H2⟩ HK
  iapply (h _ Q) $$ H1
  iintro H1
  iapply (h' _ Q) $$ H2
  iintro H2
  iapply HK
  isplitl [H1] <;> iassumption

theorem start0 (oX) (hX) (oT) (hT) (j : ℕ) (eX : oX = ![64 * rowOf i j]) (eT : oT = ![rowOf i j]) (h1) (h2) (h3) (h4) (h5) (h6) :
    Tr d i (Free0 m xc d i q0)
      (fun r => .op (.enqueueDma (sliceX oX hX) (.here xb0) (.dma cc0_scratch5.sem) h1 h2 h3) fun _ =>
        .op (.enqueueDma (sliceT oT hT) (.here tb0) (.dma cc0_scratch7.sem) h4 h5 h6) fun _ => r)
      (Fly0 m xc d i q0 j) := by
  subst eX eT
  exact Tr.both ((X0c xc d i q0).start ⟨_, hX⟩ _ (fun a p hp => rfl) h1 h2 h3) ((T0c m d i q0).start ⟨_, hT⟩ _ (fun a r hr => rfl) h4 h5 h6)

theorem start1 (oX) (hX) (oT) (hT) (j : ℕ) (eX : oX = ![64 * rowOf i j]) (eT : oT = ![rowOf i j]) (h1) (h2) (h3) (h4) (h5) (h6) :
    Tr d i (Free1 m xc d i q1)
      (fun r => .op (.enqueueDma (sliceX oX hX) (.here xb1) (.dma cc0_scratch6.sem) h1 h2 h3) fun _ =>
        .op (.enqueueDma (sliceT oT hT) (.here tb1) (.dma cc0_scratch8.sem) h4 h5 h6) fun _ => r)
      (Fly1 m xc d i q1 j) := by
  subst eX eT
  exact Tr.both ((X1c xc d i q1).start ⟨_, hX⟩ _ (fun a p hp => rfl) h1 h2 h3) ((T1c m d i q1).start ⟨_, hT⟩ _ (fun a r hr => rfl) h4 h5 h6)

variable (hTr : ∀ r, (Tg m d r).toNat < 64) (O : CellTallies nD τ sig (HIx 1))
include hTr

/-- An even chunk's half, the next chunk's copies by `N` to `N'`. -/
theorem evenRun (k : Fin k0_t1_loop.trips) (h1 : k0_cond1 k = 1#1) {N N' : sProp (𝕄 F)} {S : PR F i PUnit → PR F i PUnit} (hS : Tr d i N S N')
    (he : ∀ r, evenHalf i k r = S (.op (.waitDma2 cc0_scratch5.sem (sliceX (k0_off5 i k) (k0_off5_inb i k h1)) xb0 (View.wordExact_bits rfl) (Memref.isWhole_whole _).wordExact) fun _ =>
      .op (.waitDma2 cc0_scratch7.sem (sliceT (k0_off6 i k) (k0_off6_inb i k h1)) tb0 (View.wordExact_bits rfl) (Memref.isWhole_whole _).wordExact) fun _ =>
      Scf.Loop.for k0_t2_loop (k0_t2_ok k h1) PUnit.unit (fun n _ => grpE i k h1 n) >>= fun _ => r)) (B : ℕ → F .f32) :
    Tr d i iprop(Fly0 m xc d i q0 k.val ∗ N ∗ OW d i O ∗ HBn d i B) (evenHalf i k)
      iprop(Free0 m xc d i q0 ∗ N' ∗ OW d i O ∗ HBn d i (runB (Xg xc d) (Tg m d) (rowOf i k.val) B 32)) := by
  rw [show evenHalf i k = _ from funext he]
  exact chunk (X0c xc d i q0) (T0c m d i q0) _ _ hS ((X0c xc d i q0).wait _ _ _ _ O) ((T0c m d i q0).wait _ _ _ _ O)
    fun a b ha hb => groups_run (X := Xg xc d) (T := Tg m d) k0_t2_loop _ _ (grpE_run d i a b (range_of hb hTr) k h1) B 32 (rowOf i k.val) t2_trips ha hb hTr

theorem oddRun (k : Fin k0_t1_loop.trips) (h1 : k0_cond3 k = 1#1) {N N' : sProp (𝕄 F)} {S : PR F i PUnit → PR F i PUnit} (hS : Tr d i N S N')
    (he : ∀ r, oddHalf i k r = S (.op (.waitDma2 cc0_scratch6.sem (sliceX (k0_off10 i k) (k0_off10_inb i k h1)) xb1 (View.wordExact_bits rfl) (Memref.isWhole_whole _).wordExact) fun _ =>
      .op (.waitDma2 cc0_scratch8.sem (sliceT (k0_off11 i k) (k0_off11_inb i k h1)) tb1 (View.wordExact_bits rfl) (Memref.isWhole_whole _).wordExact) fun _ =>
      Scf.Loop.for k0_t3_loop (k0_t3_ok k h1) PUnit.unit (fun n _ => grpO i k h1 n) >>= fun _ => r)) (B : ℕ → F .f32) :
    Tr d i iprop(Fly1 m xc d i q1 k.val ∗ N ∗ OW d i O ∗ HBn d i B) (oddHalf i k)
      iprop(Free1 m xc d i q1 ∗ N' ∗ OW d i O ∗ HBn d i (runB (Xg xc d) (Tg m d) (rowOf i k.val) B 32)) := by
  rw [show oddHalf i k = _ from funext he]
  exact chunk (X1c xc d i q1) (T1c m d i q1) _ _ hS ((X1c xc d i q1).wait _ _ _ _ O) ((T1c m d i q1).wait _ _ _ _ O)
    fun a b ha hb => groups_run (X := Xg xc d) (T := Tg m d) k0_t3_loop _ _ (grpO_run d i a b (range_of hb hTr) k h1) B 32 (rowOf i k.val) t3_trips ha hb hTr

end Cert.Proof.Ece

end
-- ==== Proof.Loop.lean ====
/-
  The loop over the sixty-one chunks, the extra chunk, the tail, and the zeroing of the bins.
-/
module

public import proofs.«01_k».proof.Proof.Chunks

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (xc : (d : Dev nD) → Buf (Elt F) (xLoc d)) (d : Dev nD) (i : grid0.Coords)

/-! ### The conditions and the trip counts -/

variable (q0 q1 : PosShare TreeShare)

/-- Where the chunks' copies stand before chunk `j`. -/
def Pos (j : ℕ) : sProp (𝕄 F) :=
  if j < 61 then (if j % 2 = 0 then iprop(Fly0 m xc d i q0 j ∗ Free1 m xc d i q1) else iprop(Fly1 m xc d i q1 j ∗ Free0 m xc d i q0))
  else iprop(Free0 m xc d i q0 ∗ Free1 m xc d i q1)

theorem Pos_even {j : ℕ} (h : j < 61) (h' : j % 2 = 0) : Pos m xc d i q0 q1 j = iprop(Fly0 m xc d i q0 j ∗ Free1 m xc d i q1) := by
  unfold Pos; rw [if_pos h, if_pos h']
theorem Pos_odd {j : ℕ} (h : j < 61) (h' : ¬ j % 2 = 0) : Pos m xc d i q0 q1 j = iprop(Fly1 m xc d i q1 j ∗ Free0 m xc d i q0) := by
  unfold Pos; rw [if_pos h, if_neg h']
theorem Pos_end {j : ℕ} (h : ¬ j < 61) : Pos m xc d i q0 q1 j = iprop(Free0 m xc d i q0 ∗ Free1 m xc d i q1) := by
  unfold Pos; rw [if_neg h]

theorem fin1_ext {f g : Fin 1 → ℕ} (h : f 0 = g 0) : f = g := funext fun a => by rw [Fin.eq_zero a]; exact h

theorem off_next (k : Fin k0_t1_loop.trips) : 3997696 * (i 1).val + 1998848 * (i 0).val + 32768 * k.val + 32768 = 64 * rowOf i (k.val + 1) := by
  unfold rowOf; omega

theorem off_nextT (k : Fin k0_t1_loop.trips) : 62464 * (i 1).val + 31232 * (i 0).val + 512 * k.val + 512 = rowOf i (k.val + 1) := by
  unfold rowOf; omega

variable (hTr : ∀ r, (Tg m d r).toNat < 64) (O : CellTallies nD τ sig (HIx 1))

/-- The tile's bins before its chunk `j`. -/
abbrev mainB (j : ℕ) : ℕ → F .f32 := runB (Xg xc d) (Tg m d) ((2 * (i 1).val + (i 0).val) * 31232) (fun _ => f0) (32 * j)

theorem mainB_succ (j : ℕ) : mainB m xc d i (j + 1) = runB (Xg xc d) (Tg m d) (rowOf i j) (mainB m xc d i j) 32 := by
  unfold mainB rowOf
  rw [show 32 * (j + 1) = 32 * j + 32 by ring, runB_add, show 16 * (32 * j) = 512 * j by ring]

include hTr

/-- One chunk of the loop. -/
theorem stepRun (k : Fin k0_t1_loop.trips) (B : ℕ → F .f32) :
    Tr d i iprop(Pos m xc d i q0 q1 k.val ∗ OW d i O ∗ HBn d i B) (fun r => evenHalf i k (oddHalf i k r))
      iprop(Pos m xc d i q0 q1 (k.val + 1) ∗ OW d i O ∗ HBn d i (runB (Xg xc d) (Tg m d) (rowOf i k.val) B 32)) := by
  have hk : k.val < 61 := Nat.lt_of_lt_of_eq k.isLt t1_trips
  by_cases he : k.val % 2 = 0
  · have h1 : k0_cond1 k = 1#1 := (cond1_iff k).mpr he
    have h3 : ¬ k0_cond3 k = 1#1 := fun h => by have := (cond3_iff k).mp h; omega
    have eo : (fun r => evenHalf (F := F) i k (oddHalf i k r)) = evenHalf i k := funext fun r => congrArg _ (by unfold oddHalf; rw [dif_neg h3])
    rw [eo, Pos_even m xc d i q0 q1 hk he]
    by_cases hn : k.val + 1 < 61
    · have h2 : k0_cond2 k = 1#1 := (cond2_iff k).mpr hn
      rw [Pos_odd m xc d i q0 q1 hn (by omega)]
      refine (evenRun m xc d i q0 hTr O k h1 (start1 m xc d i q1 (k0_off3 i k) (k0_off3_inb i k h1 h2) (k0_off4 i k) (k0_off4_inb i k h1 h2) (k.val + 1)
        (by rw [k0_off3_eq]; exact fin1_ext (off_next i k)) (by rw [k0_off4_eq]; exact fin1_ext (off_nextT i k)) _ _ _ _ _ _)
        (fun r => by unfold evenHalf; rw [dif_pos h1, dif_pos h2]; rfl) B).conseq ?_ ?_
      · iintro ⟨⟨A, B⟩, C⟩; isplitl [A]; · iexact A
        isplitl [B] <;> iassumption
      · iintro ⟨A, B, C⟩; isplitl [A B]; · isplitl [B] <;> iassumption
        iexact C
    · have h2 : ¬ k0_cond2 k = 1#1 := fun h => hn ((cond2_iff k).mp h)
      rw [Pos_end m xc d i q0 q1 hn]
      refine (evenRun m xc d i q0 hTr O k h1 (Tr.id (A := Free1 m xc d i q1)) (fun r => by unfold evenHalf; rw [dif_pos h1, dif_neg h2]; rfl) B).conseq ?_ ?_
      · iintro ⟨⟨A, B⟩, C⟩; isplitl [A]; · iexact A
        isplitl [B] <;> iassumption
      · iintro ⟨A, B, C⟩; isplitl [A B]; · isplitl [A] <;> iassumption
        iexact C
  · have hn : k.val + 1 < 61 := by omega
    have h1 : ¬ k0_cond1 k = 1#1 := fun h => he ((cond1_iff k).mp h)
    have h3 : k0_cond3 k = 1#1 := (cond3_iff k).mpr (by omega)
    have h4 : k0_cond4 k = 1#1 := (cond4_iff k).mpr hn
    have eo : (fun r => evenHalf (F := F) i k (oddHalf i k r)) = oddHalf i k := funext fun r => by unfold evenHalf; rw [dif_neg h1]
    rw [eo, Pos_odd m xc d i q0 q1 hk he, Pos_even m xc d i q0 q1 hn (by omega)]
    refine (oddRun m xc d i q1 hTr O k h3 (start0 m xc d i q0 (k0_off8 i k) (k0_off8_inb i k h3 h4) (k0_off9 i k) (k0_off9_inb i k h3 h4) (k.val + 1)
      (by rw [k0_off8_eq]; exact fin1_ext (off_next i k)) (by rw [k0_off9_eq]; exact fin1_ext (off_nextT i k)) _ _ _ _ _ _)
      (fun r => by unfold oddHalf; rw [dif_pos h3, dif_pos h4]; rfl) B).conseq ?_ ?_
    · iintro ⟨⟨A, B⟩, C⟩; isplitl [A]; · iexact A
      isplitl [B] <;> iassumption
    · iintro ⟨A, B, C⟩; isplitl [A B]; · isplitl [B] <;> iassumption
      iexact C

/-- The loop over the tile's sixty-one chunks. -/
theorem loopRun :
    Tr d i iprop(Pos m xc d i q0 q1 0 ∗ OW d i O ∗ HBn d i (fun _ => f0))
      (fun r => Scf.Loop.for k0_t1_loop k0_t1_ok PUnit.unit (fun k _ => evenHalf i k (oddHalf i k (pure PUnit.unit))) >>= fun _ => r)
      iprop(Pos m xc d i q0 q1 61 ∗ OW d i O ∗ HBn d i (mainB m xc d i 61)) := fun r Q => by
  have e0 : HBn d i (fun _ => f0) = HBn d i (mainB m xc d i 0) := rfl
  iintro H HK
  ihave H := (Entails.of_eq (congrArg (fun Z => iprop(Pos m xc d i q0 q1 0 ∗ OW d i O ∗ Z)) e0)) $$ H
  iapply (show iprop(Pos m xc d i q0 q1 0 ∗ OW d i O ∗ HBn d i (mainB m xc d i 0)) ⊢ _ from
    Scf.wp_for_bind frame (wpE (defs₀ (F := F)) 𝒱₀ (V d (cV i) (jV i)) none) Set.univ k0_t1_loop.lb k0_t1_loop.ub k0_t1_loop.st k0_t1_ok PUnit.unit
    (fun k _ => evenHalf i k (oddHalf i k (pure PUnit.unit)))
    (fun n _ => iprop(Pos m xc d i q0 q1 n ∗ OW d i O ∗ HBn d i (mainB m xc d i n))) (fun k _ => by
      iintro H
      iapply (stepRun m xc d i q0 q1 hTr O k (mainB m xc d i k.val) (pure PUnit.unit) _) $$ H
      iintro H
      rw [← mainB_succ]
      simp only [wp_pure]
      iexact H)) $$ H
  iintro %u H
  iapply HK
  ihave H := (Entails.of_eq (congrArg (fun n => iprop(Pos m xc d i q0 q1 n ∗ OW d i O ∗ HBn d i (mainB m xc d i n))) t1_trips)) $$ H
  iexact H

/-- Tile 0's extra chunk. -/
theorem extraRun (B : ℕ → F .f32) :
    Tr d i iprop(((chX0 xc d i cc0_scoped0.sem q0).Free ∗ (chT0 m d i cc0_scoped1.sem q0).Free) ∗ OW d i O ∗ HBn d i B) (extra i)
      iprop(((chX0 xc d i cc0_scoped0.sem q0).Free ∗ (chT0 m d i cc0_scoped1.sem q0).Free) ∗ OW d i O
        ∗ HBn d i (if 2 * (i 1).val + (i 0).val = 0 then runB (Xg xc d) (Tg m d) 999424 B 32 else B)) := by
  by_cases h : 2 * (i 1).val + (i 0).val = 0
  · have h5 : k0_cond5 i = 1#1 := (cond5_iff i).mpr h
    rw [if_pos h]
    have e : ∀ r, extra (F := F) i r = (.op (.enqueueDma (sliceX ![63963136] inb_S64000000_S32768_63963136) (.here xb0) (.dma cc0_scoped0.sem) (View.wordExact_bits rfl) (Memref.isWhole_whole _).wordExact ⟨Or.inl rfl, trivial⟩) fun _ =>
      .op (.waitDma2 cc0_scoped0.sem (sliceX ![63963136] inb_S64000000_S32768_63963136) xb0 (View.wordExact_bits rfl) (Memref.isWhole_whole _).wordExact) fun _ =>
      .op (.enqueueDma (sliceT ![999424] inb_S1000000_S512_999424) (.here tb0) (.dma cc0_scoped1.sem) (View.wordExact_bits rfl) (Memref.isWhole_whole _).wordExact ⟨Or.inl rfl, trivial⟩) fun _ =>
      .op (.waitDma2 cc0_scoped1.sem (sliceT ![999424] inb_S1000000_S512_999424) tb0 (View.wordExact_bits rfl) (Memref.isWhole_whole _).wordExact) fun _ =>
      Scf.Loop.for k0_t4_loop (k0_t4_ok i h5) PUnit.unit (fun n _ => grpX i h5 n) >>= fun _ => r) := fun r => by
      unfold extra; rw [dif_pos h5]; rfl
    rw [show extra (F := F) i = _ from funext e]
    have hx : ∀ (a : ℕ → F .f32), AtX (Xg xc d) 999424 32768 ((chX0 xc d i cc0_scoped0.sem q0).val ⟨_, inb_S64000000_S32768_63963136⟩ a) := fun a p hp =>
      congrArg (xAt (xc d)) (show (![63963136] : Fin 1 → ℕ) 0 + p = 64 * 999424 + p by norm_num)
    have ht : ∀ (a : ℕ → BitVec 32), AtT (Tg m d) 999424 512 ((chT0 m d i cc0_scoped1.sem q0).val ⟨_, inb_S1000000_S512_999424⟩ a) := fun a p hp =>
      congrArg (tAt (m (tLoc d))) (show (![999424] : Fin 1 → ℕ) 0 + p = 999424 + p by norm_num)
    have sx := (chX0 xc d i cc0_scoped0.sem q0).start ⟨_, inb_S64000000_S32768_63963136⟩ _ hx (View.wordExact_bits rfl) (Memref.isWhole_whole _).wordExact ⟨Or.inl rfl, trivial⟩
    have st := (chT0 m d i cc0_scoped1.sem q0).start ⟨_, inb_S1000000_S512_999424⟩ _ ht (View.wordExact_bits rfl) (Memref.isWhole_whole _).wordExact ⟨Or.inl rfl, trivial⟩
    have hl : ∀ a b, AtX (Xg xc d) 999424 32768 a → AtT (Tg m d) 999424 512 b → Tr d i iprop(HX0 d i a ∗ HT0 d i b ∗ HBn d i B)
        (fun r => Scf.Loop.for k0_t4_loop (k0_t4_ok i h5) PUnit.unit (fun n _ => grpX i h5 n) >>= fun _ => r)
        iprop(HX0 d i a ∗ HT0 d i b ∗ HBn d i (runB (Xg xc d) (Tg m d) 999424 B 32)) := fun a b ha hb =>
      groups_run (X := Xg xc d) (T := Tg m d) k0_t4_loop _ _ (grpX_run d i a b (range_of hb hTr) h5) B 32 999424 t4_trips ha hb hTr
    have key := chunk1 (HB := HBn d i) (chX0 xc d i cc0_scoped0.sem q0) (chT0 m d i cc0_scoped1.sem q0) _ _ sx st
      ((chX0 xc d i cc0_scoped0.sem q0).wait _ (sliceX ![63963136] inb_S64000000_S32768_63963136) (View.wordExact_bits rfl) (Memref.isWhole_whole _).wordExact O)
      ((chT0 m d i cc0_scoped1.sem q0).wait _ (sliceT ![999424] inb_S1000000_S512_999424) (View.wordExact_bits rfl) (Memref.isWhole_whole _).wordExact O) hl
    exact key
  · have h5 : ¬ k0_cond5 i = 1#1 := fun h' => h ((cond5_iff i).mp h')
    rw [if_neg h]
    rw [show extra (F := F) i = fun r => r from funext fun r => by unfold extra; rw [dif_neg h5]]
    exact Tr.id

/-- Tile 31's last sixty-four rows. -/
theorem tailRun (B : ℕ → F .f32) :
    Tr d i iprop(((chXT xc d i cc0_scoped2.sem q0).Free ∗ (chTT m d i cc0_scoped3.sem q0).Free) ∗ OW d i O ∗ HBn d i B) (tailP i)
      iprop(((chXT xc d i cc0_scoped2.sem q0).Free ∗ (chTT m d i cc0_scoped3.sem q0).Free) ∗ OW d i O
        ∗ HBn d i (if 2 * (i 1).val + (i 0).val = 31 then runB (Xg xc d) (Tg m d) 999936 B 4 else B)) := by
  by_cases h : 2 * (i 1).val + (i 0).val = 31
  · have h6 : k0_cond6 i = 1#1 := (cond6_iff i).mpr h
    rw [if_pos h]
    have e : ∀ r, tailP (F := F) i r = (.op (.enqueueDma mXT (.here xbT) (.dma cc0_scoped2.sem) (View.wordExact_bits rfl) (View.wordExact_bits rfl) ⟨Or.inl rfl, trivial⟩) fun _ =>
      .op (.waitDma2 cc0_scoped2.sem mXT xbT (View.wordExact_bits rfl) (View.wordExact_bits rfl)) fun _ =>
      .op (.enqueueDma mTT (.here tbT) (.dma cc0_scoped3.sem) (View.wordExact_bits rfl) (View.wordExact_bits rfl) ⟨Or.inl rfl, trivial⟩) fun _ =>
      .op (.waitDma2 cc0_scoped3.sem mTT tbT (View.wordExact_bits rfl) (View.wordExact_bits rfl)) fun _ =>
      Scf.Loop.for k0_t5_loop (k0_t5_ok i h6) PUnit.unit (fun n _ => grpT i h6 n) >>= fun _ => r) := fun r => by
      unfold tailP; rw [dif_pos h6]; rfl
    rw [show tailP (F := F) i = _ from funext e]
    have hx : ∀ (a : ℕ → F .f32), AtX (Xg xc d) 999936 4096 ((chXT xc d i cc0_scoped2.sem q0).val () a) := fun a p hp =>
      (if_pos hp).trans (congrArg (xAt (xc d)) (show 63995904 + p = 64 * 999936 + p by norm_num))
    have ht : ∀ (a : ℕ → BitVec 32), AtT (Tg m d) 999936 64 ((chTT m d i cc0_scoped3.sem q0).val () a) := fun a p hp => if_pos hp
    have sx := (chXT xc d i cc0_scoped2.sem q0).start () _ hx (View.wordExact_bits rfl) (View.wordExact_bits rfl) ⟨Or.inl rfl, trivial⟩
    have st := (chTT m d i cc0_scoped3.sem q0).start () _ ht (View.wordExact_bits rfl) (View.wordExact_bits rfl) ⟨Or.inl rfl, trivial⟩
    have hl : ∀ a b, AtX (Xg xc d) 999936 4096 a → AtT (Tg m d) 999936 64 b → Tr d i iprop(HX0 d i a ∗ HT0 d i b ∗ HBn d i B)
        (fun r => Scf.Loop.for k0_t5_loop (k0_t5_ok i h6) PUnit.unit (fun n _ => grpT i h6 n) >>= fun _ => r)
        iprop(HX0 d i a ∗ HT0 d i b ∗ HBn d i (runB (Xg xc d) (Tg m d) 999936 B 4)) := fun a b ha hb =>
      groups_run (X := Xg xc d) (T := Tg m d) k0_t5_loop _ _ (grpT_run d i a b (range_of hb hTr) h6) B 4 999936 t5_trips ha hb hTr
    have key := chunk1 (HB := HBn d i) (chXT xc d i cc0_scoped2.sem q0) (chTT m d i cc0_scoped3.sem q0) _ _ sx st
      ((chXT xc d i cc0_scoped2.sem q0).wait _ mXT (View.wordExact_bits rfl) (View.wordExact_bits rfl) O) ((chTT m d i cc0_scoped3.sem q0).wait _ mTT (View.wordExact_bits rfl) (View.wordExact_bits rfl) O) hl
    exact key
  · have h6 : ¬ k0_cond6 i = 1#1 := fun h' => h ((cond6_iff i).mp h')
    rw [if_neg h]
    rw [show tailP (F := F) i = fun r => r from funext fun r => by unfold tailP; rw [dif_neg h6]]
    exact Tr.id

end Cert.Proof.Ece

end
-- ==== Proof.Tile.lean ====
/-
  The task of one tile, from what the call deals it to what it hands back.
-/
module

public import proofs.«01_k».proof.Proof.Loop

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (xc : (d : Dev nD) → Buf (Elt F) (xLoc d)) (d : Dev nD) (i : grid0.Coords)

/-! ### The conditions and the trip counts -/

/-! ### The bins put at zero -/

theorem zero_written (o : Fin 1 → ℕ) (h) (B : ℕ → F .f32) :
    (bn.access (Rect.unit (s := S48) o S16.size h)).write (Elt F) (fun j : S48.Idx => B (j 0).val) zers Finset.univ
      = fun j : S48.Idx => if o 0 ≤ (j 0).val ∧ (j 0).val < o 0 + 16 then f0 else B (j 0).val := by
  refine (View.write_whole_slice_unit (Val := Elt F) cc0_scratch4 o S16.size h _ _).trans ?_
  funext j
  unfold updateSlice
  by_cases c : o 0 ≤ (j 0).val ∧ (j 0).val < o 0 + 16
  · rw [if_pos c, dif_pos (fun b => by rw [Fin.eq_zero b]; exact c)]; rfl
  · rw [if_neg c, dif_neg (fun H => c (H 0))]

theorem wp_ld (o : Fin 1 → ℕ) (B : ℕ → F .f32) (Q : PUnit → sProp (𝕄 F)) (h hl) (k : (S16.Idx → F .f32) → PR F i PUnit) :
    HBn d i B ⊢ iprop((HBn d i B -∗ WP d i (k ((bn).view.readAt (Elt F) (Rect.unit (s := S48) o S16.size h).toLoadRect fun j : S48.Idx => B (j 0).val)) Q)
      -∗ WP d i (.op (.load bn (Rect.unit (s := S48) o S16.size h).toLoadRect hl) k) Q) :=
  wp_load 𝒱₀ (V d (cV i) (jV i)) none Set.univ (Finset.subset_univ _)

theorem wp_st (o : Fin 1 → ℕ) (B : ℕ → F .f32) (Q : PUnit → sProp (𝕄 F)) (h hx hm) (k : PUnit → PR F i PUnit) :
    HBn d i B ⊢ iprop((HBn d i (fun p => if o 0 ≤ p ∧ p < o 0 + 16 then f0 else B p) -∗ WP d i (k ⟨⟩) Q)
      -∗ WP d i (.op (.store bn (Rect.unit (s := S48) o S16.size h) zers Finset.univ hx hm) k) Q) := by
  have hst : HBn d i B ⊢ iprop((((bn.access (Rect.unit (s := S48) o S16.size h)).loc (V d (cV i) (jV i)) ↦{fullShare}
        ((bn.access (Rect.unit (s := S48) o S16.size h)).write (Elt F) (fun j : S48.Idx => B (j 0).val) zers Finset.univ)) -∗ WP d i (k ⟨⟩) Q)
      -∗ WP d i (.op (.store bn (Rect.unit (s := S48) o S16.size h) zers Finset.univ hx hm) k) Q) :=
    wp_store (defs := defs₀ (F := F)) (Q := Q) 𝒱₀ (V d (cV i) (jV i)) none Set.univ (m := bn) (r := Rect.unit (s := S48) o S16.size h) (w := zers) (Mk := Finset.univ) (hx := hx) (hm := hm) (k := k)
      (S := Finset.univ) (f := fun j : S48.Idx => B (j 0).val) (Finset.subset_univ _)
  rw [zero_written o h B] at hst
  exact hst

theorem HBn_congr {B B' : ℕ → F .f32} (h : ∀ p < 48, B p = B' p) : HBn d i B ⊢ HBn d i B' :=
  Entails.of_eq (congrArg (fun f : S48.Idx → F .f32 => ((bn).view.loc (V d (cV i) (jV i)) ↦{fullShare} f : sProp (𝕄 F)))
    (funext fun j : S48.Idx => h _ (j 0).isLt))

theorem zeroRun (B : ℕ → F .f32) : Tr d i (HBn d i B) (zeroP i) (HBn d i fun _ => f0) := fun r Q => by
  iintro H HK
  unfold zeroP
  iapply (wp_ld d i ![0] B Q _ _ _) $$ H
  iintro H
  iapply (wp_st d i ![0] B Q _ _ _ _) $$ H
  iintro H
  iapply (wp_ld d i ![16] _ Q _ _ _) $$ H
  iintro H
  iapply (wp_st d i ![16] _ Q _ _ _ _) $$ H
  iintro H
  iapply (wp_ld d i ![32] _ Q _ _ _) $$ H
  iintro H
  iapply (wp_st d i ![32] _ Q _ _ _ _) $$ H
  iintro H
  iapply HK
  iapply (HBn_congr d i (fun p hp => by
    show (if 32 ≤ p ∧ p < 32 + 16 then f0 else if 16 ≤ p ∧ p < 16 + 16 then f0 else if 0 ≤ p ∧ p < 0 + 16 then f0 else B p) = f0
    split_ifs <;> first | rfl | omega)) $$ H

/-! ### The tile's row -/

/-- The tile's number. -/
abbrev wF (i : grid0.Coords) : Fin 32 := wid (i 0) (i 1)

theorem rowK_eq : Rect.unit (s := S32x48) (k0_off15 i) S1x48.size (k0_off15_inb i) = row (wF i) := by
  unfold row Rect.part Rect.block
  congr 1 <;> funext a
  · rw [k0_off15_eq]
    match a with
    | 0 => simp [Shape.partIx, Shape.partSize]
    | 1 => simp [Shape.partIx, Shape.partSize]
  · match a with
    | 0 => simp [Shape.partSize]
    | 1 => simp [Shape.partSize]

theorem set_mRow : (mRow i).view.set = rowSet (wF i) := by
  show (((mO).view.slice (Rect.unit (s := S32x48) (k0_off15 i) S1x48.size (k0_off15_inb i))).reshape S48 squeezes_S1x48_S48.numel_eq).set = ((mO).view.slice (row (wF i))).set
  rw [View.set_reshape]
  exact rowK_eq i ▸ rfl

theorem resh48 : ∀ y : S48.Idx, ((Shape.reshapeEquiv (s := S1x48) (s' := S48) squeezes_S1x48_S48.numel_eq) y 0).val = 0
    ∧ ((Shape.reshapeEquiv (s := S1x48) (s' := S48) squeezes_S1x48_S48.numel_eq) y 1).val = (y 0).val := by decide +kernel

theorem emb_mRow (y : S48.Idx) : ((mRow i).view.emb y 0).val = 2 * (i 1).val + (i 0).val ∧ ((mRow i).view.emb y 1).val = (y 0).val := by
  constructor
  · show (k0_off15 i 0 + 1 * ((Shape.reshapeEquiv squeezes_S1x48_S48.numel_eq) y 0).val) = _
    rw [(resh48 y).1, k0_off15_eq]; simp
  · show (k0_off15 i 1 + 1 * ((Shape.reshapeEquiv squeezes_S1x48_S48.numel_eq) y 1).val) = _
    rw [(resh48 y).2, k0_off15_eq]; simp

/-- The row of bins as the copy leaves it. -/
theorem row_written (f : Buf (Elt F) (oLoc d)) (B : ℕ → F .f32) (hB : ∀ p < 48, B p = tileB (Xg xc d) (Tg m d) (2 * (i 1).val + (i 0).val) p) :
    ((mRow i).view.loc (V d (cV i) (jV i)) ↦[(mRow i).view.set]{fullShare}
      ((mRow i).view.write (Elt F) f (bn.view.read (Elt F) (fun j : S48.Idx => B (j 0).val)) Finset.univ) : sProp (𝕄 F)) ⊢ oRow d (wF i) (outV m xc d) := by
  refine Entails.of_eq ?_
  refine (pointsTo_congr (g := outV m xc d) fun j hj => ?_).trans (by rw [set_mRow])
  obtain ⟨y, -, rfl⟩ := Finset.mem_map.mp hj
  refine (View.write_emb_of_mem (v := (mRow i).view) (Val := Elt F) _ _ (Finset.mem_univ y)).trans ?_
  show B (y 0).val = tileB (Xg xc d) (Tg m d) ((mRow i).view.emb y 0).val ((mRow i).view.emb y 1).val
  rw [(emb_mRow i y).1, (emb_mRow i y).2]
  exact hB _ (y 0).isLt

end Cert.Proof.Ece

end
-- ==== Proof.TileBody.lean ====
/-
  The task of one tile, from what the call deals it to what it hands back.
-/
module

public import proofs.«01_k».proof.Proof.Tile

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (xc : (d : Dev nD) → Buf (Elt F) (xLoc d)) (d : Dev nD) (i : grid0.Coords)

/-! ### The conditions and the trip counts -/

/-! ### What a tile owns -/

theorem peel {I : Type} [DecidableEq I] {S : Finset I} {Φ : I → sProp (𝕄 F)} {a : I} {Z : sProp (𝕄 F)} (ha : a ∈ S) (h : bigSep (S.erase a) Φ = Z) :
    bigSep S Φ = iprop(Φ a ∗ Z) := (SparseCore.bigSep_erase' ha).trans (by rw [h])

abbrev Cell (s : DmaSem sig) : GSem nD τ sig := (V d (cV i) (jV i), .dma s)
abbrev sv (s : DmaSem sig) : sProp (𝕄 F) := semVal (Cell d i s) 0

theorem cell_mem (s : DmaSem sig) (h : (SemLoc.dma s : SemLoc sig).isScoped .scVector = true) : Cell d i s ∈ ownCells (V d (cV i) (jV i)) :=
  mem_ownCells.mpr ⟨rfl, h⟩

theorem cell_ne {s s' : DmaSem sig} (h : (SemLoc.dma s : SemLoc sig) ≠ .dma s') : Cell d i s ≠ Cell d i s' := fun e => h (congrArg Prod.snd e)

theorem ownSems0_V : ∃ R : sProp (𝕄 F), (ownSems0 (V d (cV i) (jV i)) : sProp (𝕄 F))
    = iprop(sv d i cc0_scratch5.sem ∗ sv d i cc0_scratch6.sem ∗ sv d i cc0_scratch7.sem ∗ sv d i cc0_scratch8.sem
      ∗ sv d i cc0_scoped0.sem ∗ sv d i cc0_scoped1.sem ∗ sv d i cc0_scoped2.sem ∗ sv d i cc0_scoped3.sem ∗ sv d i cc0_scoped4.sem ∗ R) := by
  apply Exists.intro
  unfold SparseCore.Cfg.ownSems0
  refine peel (a := Cell d i cc0_scratch5.sem) ?_ <| peel (a := Cell d i cc0_scratch6.sem) ?_ <| peel (a := Cell d i cc0_scratch7.sem) ?_ <|
    peel (a := Cell d i cc0_scratch8.sem) ?_ <| peel (a := Cell d i cc0_scoped0.sem) ?_ <| peel (a := Cell d i cc0_scoped1.sem) ?_ <|
    peel (a := Cell d i cc0_scoped2.sem) ?_ <| peel (a := Cell d i cc0_scoped3.sem) ?_ <| peel (a := Cell d i cc0_scoped4.sem) ?_ rfl
  all_goals
    repeat refine Finset.mem_erase.mpr ⟨cell_ne d i (by decide), ?_⟩
    exact cell_mem d i _ (by decide)

abbrev BufRef (i : grid0.Coords) (b : Ref sig .scVector) : DevRef τ sig := (Proc.scVector (cV i) (jV i)).devRef b

theorem buf_ne {b b' : Ref sig .scVector} (h : b ≠ b') : BufRef i b ≠ BufRef i b' := fun e => h (Proc.devRef_injective _ e)

abbrev anyBuf (b : Ref sig .scVector) : sProp (𝕄 F) := iprop(∃ f, (V d (cV i) (jV i)).loc b ↦{fullShare} f)

theorem ownBufs_V : ∃ R : sProp (𝕄 F), (ownBufs (V d (cV i) (jV i)) : sProp (𝕄 F))
    = iprop(anyBuf d i cc0_scratch0 ∗ anyBuf d i cc0_scratch1 ∗ anyBuf d i cc0_scratch2 ∗ anyBuf d i cc0_scratch3 ∗ anyBuf d i cc0_scratch4 ∗ R) := by
  apply Exists.intro
  unfold SparseCore.Cfg.ownBufs
  refine peel (a := BufRef i cc0_scratch0) ?_ <| peel (a := BufRef i cc0_scratch1) ?_ <| peel (a := BufRef i cc0_scratch2) ?_ <|
    peel (a := BufRef i cc0_scratch3) ?_ <| peel (a := BufRef i cc0_scratch4) ?_ rfl
  all_goals
    repeat refine Finset.mem_erase.mpr ⟨buf_ne i (by decide), ?_⟩
    exact SparseCore.Cfg.mem_ownRefs_of_owner (p := Proc.scVector (cV i) (jV i)) rfl

/-! ### A buffer at any contents is one at numbers by position -/

def byPos {α : Type} (z : α) {n : ℕ} (f : (⟨1, ![n]⟩ : Shape).Idx → α) (p : ℕ) : α := if h : p < n then f (Shape.ofLane (d := ![n]) (⟨p, h⟩ : Fin n)) else z

theorem byPos_eq {α : Type} (z : α) {n : ℕ} (f : (⟨1, ![n]⟩ : Shape).Idx → α) : (fun j : (⟨1, ![n]⟩ : Shape).Idx => byPos z f (j 0).val) = f := by
  funext j
  unfold byPos
  rw [dif_pos (show (j 0).val < n from (j 0).isLt)]
  congr 1
  funext a
  rw [Fin.eq_zero a]
  rfl

theorem any_X0 : anyBuf d i cc0_scratch0 ⊢ (iprop(∃ a, HX0 d i a) : sProp (𝕄 F)) := by
  iintro ⟨%f, H⟩; iexists (byPos f0 (n := 32768) f)
  iapply (Entails.of_eq (congrArg (fun g : S32768.Idx → F .f32 => ((xb0).view.loc (V d (cV i) (jV i)) ↦{fullShare} g : sProp (𝕄 F))) (byPos_eq f0 (n := 32768) f).symm)) $$ H
theorem any_X1 : anyBuf d i cc0_scratch1 ⊢ (iprop(∃ a, HX1 d i a) : sProp (𝕄 F)) := by
  iintro ⟨%f, H⟩; iexists (byPos f0 (n := 32768) f)
  iapply (Entails.of_eq (congrArg (fun g : S32768.Idx → F .f32 => ((xb1).view.loc (V d (cV i) (jV i)) ↦{fullShare} g : sProp (𝕄 F))) (byPos_eq f0 (n := 32768) f).symm)) $$ H
theorem any_T0 : anyBuf d i cc0_scratch2 ⊢ (iprop(∃ a, HT0 d i a) : sProp (𝕄 F)) := by
  iintro ⟨%f, H⟩; iexists (byPos 0#32 (n := 512) f)
  iapply (Entails.of_eq (congrArg (fun g : S512.Idx → BitVec 32 => ((tb0).view.loc (V d (cV i) (jV i)) ↦{fullShare} g : sProp (𝕄 F))) (byPos_eq 0#32 (n := 512) f).symm)) $$ H
theorem any_T1 : anyBuf d i cc0_scratch3 ⊢ (iprop(∃ a, HT1 d i a) : sProp (𝕄 F)) := by
  iintro ⟨%f, H⟩; iexists (byPos 0#32 (n := 512) f)
  iapply (Entails.of_eq (congrArg (fun g : S512.Idx → BitVec 32 => ((tb1).view.loc (V d (cV i) (jV i)) ↦{fullShare} g : sProp (𝕄 F))) (byPos_eq 0#32 (n := 512) f).symm)) $$ H
theorem any_Bn : anyBuf d i cc0_scratch4 ⊢ (iprop(∃ a, HBn d i a) : sProp (𝕄 F)) := by
  iintro ⟨%f, H⟩; iexists (byPos f0 (n := 48) f)
  iapply (Entails.of_eq (congrArg (fun g : S48.Idx → F .f32 => ((bn).view.loc (V d (cV i) (jV i)) ↦{fullShare} g : sProp (𝕄 F))) (byPos_eq f0 (n := 48) f).symm)) $$ H

theorem X0_any : (iprop(∃ a, HX0 d i a) : sProp (𝕄 F)) ⊢ anyBuf d i cc0_scratch0 := by
  iintro ⟨%f, H⟩; iexists _; iexact H
theorem X1_any : (iprop(∃ a, HX1 d i a) : sProp (𝕄 F)) ⊢ anyBuf d i cc0_scratch1 := by
  iintro ⟨%f, H⟩; iexists _; iexact H
theorem T0_any : (iprop(∃ a, HT0 d i a) : sProp (𝕄 F)) ⊢ anyBuf d i cc0_scratch2 := by
  iintro ⟨%f, H⟩; iexists _; iexact H
theorem T1_any : (iprop(∃ a, HT1 d i a) : sProp (𝕄 F)) ⊢ anyBuf d i cc0_scratch3 := by
  iintro ⟨%f, H⟩; iexists _; iexact H

theorem toks (ℓ : Loc nD τ sig) (q : PosShare TreeShare) (f : Buf (Elt F) ℓ) :
    (ℓ ↦{q} f : sProp (𝕄 F)) ⊣⊢ iprop((ℓ ↦{Transfers.shareDrop q 2} f) ∗ (ℓ ↦{Transfers.shareTokN q 0} f) ∗ (ℓ ↦{Transfers.shareTokN q 1} f)) := by
  have h : (ℓ ↦{q} f : sProp (𝕄 F)) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

/-! ### The body up to the start of the last copy -/

abbrev FreeE (q0 : PosShare TreeShare) : sProp (𝕄 F) :=
  iprop((chX0 xc d i cc0_scoped0.sem q0).Free ∗ (chT0 m d i cc0_scoped1.sem q0).Free)
abbrev FreeT (q0 : PosShare TreeShare) : sProp (𝕄 F) :=
  iprop((chXT xc d i cc0_scoped2.sem q0).Free ∗ (chTT m d i cc0_scoped3.sem q0).Free)

theorem free_X0 (s : DmaSem sig) (q : PosShare TreeShare) : (chX0 xc d i s q).Free = iprop(xPts xc d q ∗ (∃ a, HX0 d i a) ∗ sv d i s) := rfl
theorem free_X1 (s : DmaSem sig) (q : PosShare TreeShare) : (chX1 xc d i s q).Free = iprop(xPts xc d q ∗ (∃ a, HX1 d i a) ∗ sv d i s) := rfl
theorem free_XT (s : DmaSem sig) (q : PosShare TreeShare) : (chXT xc d i s q).Free = iprop(xPts xc d q ∗ (∃ a, HX0 d i a) ∗ sv d i s) := rfl
theorem free_T0 (s : DmaSem sig) (q : PosShare TreeShare) : (chT0 m d i s q).Free = iprop(tPts m d q ∗ (∃ a, HT0 d i a) ∗ sv d i s) := rfl
theorem free_T1 (s : DmaSem sig) (q : PosShare TreeShare) : (chT1 m d i s q).Free = iprop(tPts m d q ∗ (∃ a, HT1 d i a) ∗ sv d i s) := rfl
theorem free_TT (s : DmaSem sig) (q : PosShare TreeShare) : (chTT m d i s q).Free = iprop(tPts m d q ∗ (∃ a, HT0 d i a) ∗ sv d i s) := rfl

theorem free0_E (q0 : PosShare TreeShare) : iprop(Free0 m xc d i q0 ∗ sv d i cc0_scoped0.sem ∗ sv d i cc0_scoped1.sem)
    ⊢ iprop(FreeE m xc d i q0 ∗ sv d i cc0_scratch5.sem ∗ sv d i cc0_scratch7.sem) := by
  unfold Free0 FreeE X0c T0c
  rw [free_X0, free_T0, free_X0, free_T0]
  iintro ⟨⟨⟨A, B, C⟩, ⟨A', B', C'⟩⟩, S, S'⟩
  isplitl [A B S A' B' S']
  · isplitl [A B S]
    · isplitl [A]; · iexact A
      isplitl [B]; · iexact B
      iexact S
    · isplitl [A']; · iexact A'
      isplitl [B']; · iexact B'
      iexact S'
  · isplitl [C]; · iexact C
    iexact C'

theorem freeE_T (q0 : PosShare TreeShare) : iprop(FreeE m xc d i q0 ∗ sv d i cc0_scoped2.sem ∗ sv d i cc0_scoped3.sem)
    ⊢ iprop(FreeT m xc d i q0 ∗ sv d i cc0_scoped0.sem ∗ sv d i cc0_scoped1.sem) := by
  unfold FreeE FreeT
  rw [free_X0, free_T0, free_XT, free_TT]
  iintro ⟨⟨⟨A, B, C⟩, ⟨A', B', C'⟩⟩, S, S'⟩
  isplitl [A B S A' B' S']
  · isplitl [A B S]
    · isplitl [A]; · iexact A
      isplitl [B]; · iexact B
      iexact S
    · isplitl [A']; · iexact A'
      isplitl [B']; · iexact B'
      iexact S'
  · isplitl [C]; · iexact C
    iexact C'

variable (hTr : ∀ r, (Tg m d r).toNat < 64) (O : CellTallies nD τ sig (HIx 1))

/-- The bins the tile ends with. -/
abbrev endB : ℕ → F .f32 := tileB (Xg xc d) (Tg m d) (2 * (i 1).val + (i 0).val)

abbrev OutFly (f : Buf (Elt F) (oLoc d)) : sProp (𝕄 F) :=
  InF d i bn (mRow i) cc0_scoped4.sem fullShare (fun j : S48.Idx => endB m xc d i (j 0).val) (mRow i).view.set f

include hTr

theorem mainRun (q0 q1 : PosShare TreeShare) (B : ℕ → F .f32) (f : Buf (Elt F) (oLoc d)) (Q : PUnit → sProp (𝕄 F)) :
    iprop((Free0 m xc d i q0 ∗ Free1 m xc d i q1) ∗ OW d i O ∗ HBn d i B ∗ (sv d i cc0_scoped0.sem ∗ sv d i cc0_scoped1.sem)
        ∗ (sv d i cc0_scoped2.sem ∗ sv d i cc0_scoped3.sem) ∗ sv d i cc0_scoped4.sem ∗ oRow d (wF i) f)
      ⊢ iprop((((FreeT m xc d i q0 ∗ Free1 m xc d i q1) ∗ OW d i O ∗ (sv d i cc0_scoped0.sem ∗ sv d i cc0_scoped1.sem)
        ∗ (sv d i cc0_scratch5.sem ∗ sv d i cc0_scratch7.sem) ∗ OutFly m xc d i f) -∗ Q ⟨⟩) -∗ WP d i (mainP i) Q) := by
  iintro ⟨⟨H0, H1⟩, HO, HB, HE, HT, Hv, Ho⟩ HK
  unfold mainP
  iapply (zeroRun d i B _ Q) $$ HB
  iintro HB
  iapply (start0 m xc d i q0 (k0_off1 i) (k0_off1_inb i) (k0_off2 i) (k0_off2_inb i) 0
    (by rw [k0_off1_eq]; exact fin1_ext (show 3997696 * (i 1).val + 1998848 * (i 0).val = 64 * rowOf i 0 by unfold rowOf; omega))
    (by rw [k0_off2_eq]; exact fin1_ext (show 62464 * (i 1).val + 31232 * (i 0).val = rowOf i 0 by unfold rowOf; omega)) _ _ _ _ _ _ _ Q) $$ H0
  iintro H0
  iapply (loopRun m xc d i q0 q1 hTr O _ Q) $$ [H0 H1 HO HB]
  · rw [Pos_even m xc d i q0 q1 (by decide) (by decide)]
    isplitl [H0 H1]; · isplitl [H0] <;> iassumption
    isplitl [HO] <;> iassumption
  rw [Pos_end m xc d i q0 q1 (by decide)]
  iintro ⟨⟨H0, H1⟩, HO, HB⟩
  ihave H0 := (free0_E m xc d i q0) $$ [H0 HE]
  · isplitl [H0] <;> iassumption
  icases H0 with ⟨H0, HS⟩
  iapply (extraRun m xc d i q0 hTr O _ _ Q) $$ [H0 HO HB]
  · isplitl [H0]; · iexact H0
    isplitl [HO] <;> iassumption
  iintro ⟨H0, HO, HB⟩
  ihave H0 := (freeE_T m xc d i q0) $$ [H0 HT]
  · isplitl [H0] <;> iassumption
  icases H0 with ⟨H0, HE⟩
  iapply (tailRun m xc d i q0 hTr O _ _ Q) $$ [H0 HO HB]
  · isplitl [H0]; · iexact H0
    isplitl [HO] <;> iassumption
  iintro ⟨H0, HO, HB⟩
  iapply (tr_start d i bn (mRow i) cc0_scoped4.sem _ _ _ fullShare (fun j : S48.Idx => endB m xc d i (j 0).val) (mRow i).view.set f (Finset.Subset.refl _) (by decide) _ Q) $$ [HB Hv Ho]
  · isplitl [HB]; · iexact HB
    isplitl [Ho]; · rw [set_mRow]; iexact Ho
    iexact Hv
  iintro HF
  unfold WP
  rw [show (Prog.ret PUnit.unit : PR F i PUnit) = pure PUnit.unit from rfl, wp_pure]
  ihave HQ := HK $$ [H0 H1 HO HE HS HF]
  swap; · iexact HQ
  isplitl [H0 H1]; · isplitl [H0] <;> iassumption
  isplitl [HO]; · iexact HO
  isplitl [HE]; · iexact HE
  isplitl [HS]; · iexact HS
  iexact HF

/-- The task on tile `i` of device `d`: from its share of the logits and targets and its row of bins to the same, the row at the tile's bins. -/
theorem tile_body (hF : (K (F := F)).Facts) (W : Waits sig (HIx 1)) (hO : ∀ g, O g none = 0) (f : Buf (Elt F) (oLoc d)) (q : PosShare TreeShare) :
    iprop(levAts (K (F := F)).L (K (F := F)).lev ∗ emp ∗ (xPts xc d q ∗ tPts m d q ∗ oRow d (wF i) f)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (tileP i)
          fun _ => iprop((xPts xc d q ∗ tPts m d q ∗ oRow d (wF i) (outV m xc d))
            ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  obtain ⟨RS, hS⟩ := ownSems0_V (F := F) d i
  obtain ⟨RB, hR⟩ := ownBufs_V (F := F) d i
  rw [(K (F := F)).scopedBufs_V hF d (cV i) (jV i), SparseCore.Cfg.scopedSems0_V (Val := Elt F) d (cV i) (jV i), hS, hR]
  iintro ⟨#Hlv, -, ⟨Hx, Ht, Ho⟩, ⟨Hb0, Hb1, Hb2, Hb3, Hb4, Hbufs⟩, ⟨S5, S6, S7, S8, E0, E1, E2, E3, E4, Hsems⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave Hx := (toks (xLoc d) q (xc d)).1 $$ Hx
  icases Hx with ⟨Hxr, Hx0, Hx1⟩
  ihave Ht := (toks (tLoc d) q (m (tLoc d))).1 $$ Ht
  icases Ht with ⟨Htr, Ht0, Ht1⟩
  ihave Hb0 := (any_X0 d i) $$ Hb0
  ihave Hb1 := (any_X1 d i) $$ Hb1
  ihave Hb2 := (any_T0 d i) $$ Hb2
  ihave Hb3 := (any_T1 d i) $$ Hb3
  ihave Hb4 := (any_Bn d i) $$ Hb4
  icases Hb4 with ⟨%B, Hb4⟩
  unfold tileP
  rw [wp_bind]
  iapply (mainRun m xc d i hTr O (Transfers.shareTokN q 0) (Transfers.shareTokN q 1) B f _) $$ [S5 S6 S7 S8 E0 E1 E2 E3 E4 Hx0 Hx1 Ht0 Ht1 Hb0 Hb1 Hb2 Hb3 Hb4 Ho HO]
  · isplitl [S5 S6 S7 S8 Hx0 Hx1 Ht0 Ht1 Hb0 Hb1 Hb2 Hb3]
    · unfold Free0 Free1 X0c X1c T0c T1c
      rw [free_X0, free_T0, free_X1, free_T1]
      isplitl [S5 S7 Hx0 Ht0 Hb0 Hb2]
      · isplitl [Hx0 Hb0 S5]
        · isplitl [Hx0]; · iexact Hx0
          isplitl [Hb0]; · iexact Hb0
          iexact S5
        · isplitl [Ht0]; · iexact Ht0
          isplitl [Hb2]; · iexact Hb2
          iexact S7
      · isplitl [Hx1 Hb1 S6]
        · isplitl [Hx1]; · iexact Hx1
          isplitl [Hb1]; · iexact Hb1
          iexact S6
        · isplitl [Ht1]; · iexact Ht1
          isplitl [Hb3]; · iexact Hb3
          iexact S8
    isplitl [HO]
    · unfold OW
      isplitr; · iexact Hmw
      iexists W; iexact HO
    isplitl [Hb4]; · iexact Hb4
    isplitl [E0 E1]; · isplitl [E0] <;> iassumption
    isplitl [E2 E3]; · isplitl [E2] <;> iassumption
    isplitl [E4]; · iexact E4
    iexact Ho
  iintro ⟨⟨H0, H1⟩, HO, ⟨E0, E1⟩, ⟨S5, S7⟩, HF⟩
  iapply (tr_wait d i (srcw := bn) (mRow i) cc0_scoped4.sem _ _ fullShare _ _ f O (pure PUnit.unit) _) $$ [HF HO]
  · isplitl [HF] <;> iassumption
  iintro ⟨⟨HB, HR, E4⟩, HO⟩
  simp only [wp_pure]
  ihave HR := (row_written m xc d i f (endB m xc d i) (fun p _ => rfl)) $$ HR
  unfold FreeT Free1 X1c T1c
  rw [free_XT, free_TT, free_X1, free_T1]
  icases H0 with ⟨⟨Hx0, Hb0, E2⟩, ⟨Ht0, Hb2, E3⟩⟩
  icases H1 with ⟨⟨Hx1, Hb1, S6⟩, ⟨Ht1, Hb3, S8⟩⟩
  unfold OW
  icases HO with ⟨-, ⟨%W', HO⟩⟩
  isplitl [Hxr Hx0 Hx1 Htr Ht0 Ht1 HR]
  · isplitl [Hxr Hx0 Hx1]
    · ihave Hx := (toks (xLoc d) q (xc d)).2 $$ [Hxr Hx0 Hx1]
      · isplitl [Hxr]; · iexact Hxr
        isplitl [Hx0] <;> iassumption
      iexact Hx
    isplitl [Htr Ht0 Ht1]
    · ihave Ht := (toks (tLoc d) q (m (tLoc d))).2 $$ [Htr Ht0 Ht1]
      · isplitl [Htr]; · iexact Htr
        isplitl [Ht0] <;> iassumption
      iexact Ht
    iexact HR
  isplitl [Hb0 Hb1 Hb2 Hb3 HB Hbufs]
  · isplitl [Hb0]; · iapply (X0_any d i) $$ Hb0
    isplitl [Hb1]; · iapply (X1_any d i) $$ Hb1
    isplitl [Hb2]; · iapply (T0_any d i) $$ Hb2
    isplitl [Hb3]; · iapply (T1_any d i) $$ Hb3
    isplitl [HB]; · iexists _; iexact HB
    iexact Hbufs
  isplitl [S5 S6 S7 S8 E0 E1 E2 E3 E4 Hsems]
  · isplitl [S5]; · iexact S5
    isplitl [S6]; · iexact S6
    isplitl [S7]; · iexact S7
    isplitl [S8]; · iexact S8
    isplitl [E0]; · iexact E0
    isplitl [E1]; · iexact E1
    isplitl [E2]; · iexact E2
    isplitl [E3]; · iexact E3
    isplitl [E4]; · iexact E4
    iexact Hsems
  iexists W'; isplitr
  swap; · iexact HO
  ipureintro; intro p _
  rcases p.2 with _ | q
  · exact .inr (.inl rfl)
  · exact .inr (.inr (congrArg some (Subsingleton.elim q 0)))

end Cert.Proof.Ece

end
-- ==== Proof.Finish.lean ====
/-
  The TensorCore kernel that finishes the error from the tiles' bins: its one point, run, and its region.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Frame
public import Idealize.ShloMosaic.Lib.Pipeline.Value
public import Idealize.ShloMosaic.Lib.Tactic

@[expose] public section

noncomputable section

namespace Cert.Proof.Ece

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

/-- The error of the tiles' bins `f`: the rows added up, then, bin by bin, the gap of the two means weighted by the
    bin's share of the million rows, and the ten of them added up. -/
def finV (f : S32x48.Idx → F .f32) : S1x1.Idx → F .f32 :=
  have v1 : FVec F S32x48 .f32 := shapeCast S32x48 f shapeCasts_S32x48_S32x48
  have v2 : FVec F S48 .f32 := multiReduction .add [0] S48 v1 0x00000000#32 reduces_S32x48_S48 (.inl rfl) rfl
  have v3 : FVec F S1x48 .f32 := shapeCast S1x48 v2 shapeCasts_S48_S1x48
  have v4 : FVec F S1x10 .f32 := extractStridedSlice S1x10 ![0, 0] v3 slices_S1x48_o0_0_S1x10
  have v5 : FVec F S1x10 .f32 := extractStridedSlice S1x10 ![0, 16] v3 slices_S1x48_o0_16_S1x10
  have v6 : FVec F S1x10 .f32 := extractStridedSlice S1x10 ![0, 32] v3 slices_S1x48_o0_32_S1x10
  have v8 : FVec F S1x10 .f32 := maximumf v4 (broadcast S1x10 (Scalar.ofBits .f32 0x3F800000#32))
  have v10 : IVec S1x10 1 := cmpf .ogt v4 (broadcast S1x10 (Scalar.ofBits .f32 0x00000000#32))
  have v14 : FVec F S1x10 .f32 := absf (subf (divf v5 v8) (divf v6 v8))
  have v17 : FVec F S1x10 .f32 := mulf v14 (divf v4 (broadcast S1x10 (Scalar.ofBits .f32 0x49742400#32)))
  have v19 : FVec F S1x10 .f32 := select v10 v17 (broadcast S1x10 (Scalar.ofBits .f32 0x00000000#32))
  have v20 : FVec F S1 .f32 := multiReduction .add [1] S1 v19 0x00000000#32 reduces_S1x10_S1 (.inl rfl) rfl
  shapeCast S1x1 v20 shapeCasts_S1_S1x1

abbrev inB := stage1_0 0
abbrev outB := stage1_1 0

abbrev inPts (c : Dev nD) (f : S32x48.Idx → F .f32) : sProp (𝕄 F) := (inB).view.loc (c : Thread nD τ) ↦{fullShare} f
abbrev outPts (c : Dev nD) (f : S1x1.Idx → F .f32) : sProp (𝕄 F) := (outB).view.loc (c : Thread nD τ) ↦{fullShare} f

/-- From the two staging buffers held whole, the kernel leaves the first as it was and the error in the second. -/
theorem finRun (c : Dev nD) (f : S32x48.Idx → F .f32) (g : S1x1.Idx → F .f32) (Q : PUnit → sProp (𝕄 F)) :
    iprop(inPts c f ∗ outPts c g ∗ (iprop(inPts c f ∗ outPts c (finV f)) -∗ Q ⟨⟩))
      ⊢ wp frame (wpE (defs₀ (F := F)) Variants.none (c : Thread nD τ) none) Set.univ
          (cc1__finish_kernel (inB) (hstage1_0 0) (outB) (hstage1_1 0)) Q := by
  iintro ⟨H0, H1, Hk⟩
  unfold cc1__finish_kernel
  sl_exec!
  sl_step
  iapply Hk
  isplitl [H0]; · iexact H0
  have h : outB.view.writes (Elt F) outB.view.junk (finRun.sl.H1_1 f) = finV f := by
    unfold finRun.sl.H1_1
    rw [View.writes_singleton]
    refine (Memref.write_access_unit_zero_univ (Elt F) _ (funext fun a => by fin_cases a <;> rfl) _ _ _).trans ?_
    have h0 : inB.view.readAt (Elt F) (Rect.unit (s := S32x48) ![0, 0] S32x48.size inb_S32x48_S32x48_0_0).toLoadRect f = f :=
      Memref.readAt_unit_zero (Elt F) _ (funext fun a => by fin_cases a <;> rfl) _ _
    exact congrArg finV h0
  iapply (Entails.of_eq (congrArg (fun g : S1x1.Idx → F .f32 => outPts c g) h))
  iexact H1

/-! ### The region, from any contents of the arrays -/

variable (V : (c : Dev nD) → (b : Ref sig .tc) → Buf (Elt F) ((c : Thread nD τ).loc b)) (bd : ℕ)

/-- The tiles' bins as the fetch stages them. -/
abbrev stg (c : Dev nD) : (cfg1.win 0).block.Idx → Elt F (cfg1.win 0).elt :=
  ((cfg1.win 0).blk t1_0).view.read (Elt F) (V c main_v1)

/-- The pairs a wait may have recorded: those at or below level `bd`. -/
abbrev recd (c : Dev nD) : Set (SemLoc sig × HIx 1) := {p | (K (F := F)).lev ((c : Thread nD τ), p.1) p.2 ≤ bd}

/-- What the region's one entry is made of: the arrays at `V`; the staging buffers as the body leaves them. -/
def dat (c : Dev nD) : Dat τ (Elt F) (HIx 1) ℕ UU ℕ cfg1 c where
  A w := V c (Pipeline.arrRef spec1 w)
  after w _ := match w with
    | ⟨0, _⟩ => stg V c
    | ⟨1, _⟩ => finV (stg V c)
  Φ _ := Pipeline.scopedRest (Ix := HIx 1) (Name := ℕ) (U := UU) (Lvl := ℕ) (Val := Elt F) spec1 c
  q _ := fullShare
  owed _ := 0
  recorded _ := recd (F := F) bd c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V bd c

/-- The first staging buffer holds the bins when the body runs. -/
theorem before_in (c : Dev nD) (e : (cfg1.win 0).block.Idx → Elt F (cfg1.win 0).elt) : (dat V bd c).before 0 t1_0 e = stg V c := by
  unfold Dat.before; rw [if_pos (by decide)]; rfl

theorem body_obligation (c : Dev nD) : BodyObligation (dat V bd c) (defs₀ (F := F)) 𝒱₀ (none : HIx 1) Set.univ := fun t => by
  obtain rfl := fin_N1 t
  rw [bigSep_W1, bigSep_W1]
  simp only [owns_whole_eq]
  rw [show (dat V bd c).Φ t1_0.succ = (dat V bd c).Φ t1_0.castSucc from rfl,
    show (dat V bd c).owesAt (none : HIx 1) t1_0.succ = (dat V bd c).owesAt none t1_0.castSucc from rfl]
  iintro ⟨HΦ, Howes, ⟨%d0, %g0, %hg0, H0⟩, ⟨%d1, %g1, -, H1⟩⟩
  rw [before_in] at hg0
  subst hg0
  iapply (finRun c (stg V c) _ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The block the fetch stages is the array of bins. -/
theorem stg_eq (c : Dev nD) : stg V c = V c main_v1 := by
  funext y
  refine congrArg (V c main_v1) (?_ : ((cfg1.win 0).blk t1_0).view.emb y = y)
  refine funext fun a => Fin.ext ?_
  fin_cases a
  · show 0 + 1 * (y 0).val = _
    exact (Nat.zero_add _).trans (Nat.one_mul _)
  · show 0 + 1 * (y 1).val = _
    exact (Nat.zero_add _).trans (Nat.one_mul _)

theorem idx11 (i j : S1x1.Idx) : i = j := by
  refine funext fun a => Fin.ext ?_
  fin_cases a
  · exact (Nat.lt_one_iff.mp (i 0).isLt).trans (Nat.lt_one_iff.mp (j 0).isLt).symm
  · exact (Nat.lt_one_iff.mp (i 1).isLt).trans (Nat.lt_one_iff.mp (j 1).isLt).symm

/-- The array the region writes, at the end: the error of the bins. -/
theorem arr_out (c : Dev nD) : (dat V bd c).arrAt 1 cfg1.N = finV (V c main_v1) := by
  refine Dat.arrAt_eq_of_cover _ 1 _ ?_ ?_
  · intro t _
    obtain rfl := fin_N1 t
    funext y
    show finV (stg V c) _ = finV (V c main_v1) _
    rw [stg_eq]
    exact congrArg _ (idx11 _ _)
  · intro j
    refine ⟨t1_0, flush1_1 _, ?_⟩
    refine Finset.mem_map.mpr ⟨fun a => ⟨0, ?_⟩, Finset.mem_univ _, idx11 _ _⟩
    fin_cases a <;> exact Nat.one_pos

/-! ### The region over the thread state -/

variable (Vp : (c : Dev nD) → (b : Ref sig .tc) → Buf (Elt F) ((c : Thread nD τ).loc b))

/-- What the core owes through the region: nothing, its recorded pairs at or below `bd`. -/
abbrev owed0 (c : Dev nD) : sProp (𝕄 F) :=
  iprop(∃ W, ⌜(K (F := F)).WBelow (c : Thread nD τ) W bd⌝ ∗ owes (c : Thread nD τ) (0 : CellTallies nD τ sig (HIx 1)) W)

set_option backward.isDefEq.respectTransparency.types false in
/-- The region of the finishing kernel: entered with the arrays at `V`, left with them at `Vp`, which is `V` but for the
    result, at the error of the bins. -/
def reg (hVp_out : ∀ c, Vp c main_v2 = finV (V c main_v1))
    (hVp_ne : ∀ c (b : Ref sig .tc), b ≠ main_v2 → Vp c b = V c b) :
    Pipeline.RegionSeg (pcfgs (F := F)) adm (pdats V bd) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V bd c).loose
  hwaits := Pipeline.hwaits_of_owed_zero _ _ _ _ _ _ 0 fun _ _ => rfl
  pre c := iprop(unscopedBufs c (V c) ∗ owed0 (F := F) bd c)
  post c := iprop(unscopedBufs c (Vp c) ∗ owed0 (F := F) bd c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V bd) launch1.win launch1.arr_whole c
      ((pdats V bd 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V bd 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V bd 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V bd) ((pdats V bd 0 c).share_full fun _ => rfl) (V c) (Vp c) ((pdats V bd 0 c).arrAt · cfg1.N)
      (fun w => by
        fin_cases w
        · exact ((pdats V bd 0 c).arrAt_in 0 rfl _).trans (hVp_ne c main_v1 (by decide)).symm
        · exact (arr_out V bd c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Ece

end
-- ==== Proof.Launch.lean ====
/-
  The whole program's run: the tiles' call dealt and gathered, the finishing kernel's region entered from what it
  brings back, the result read at the end.
-/
module

public import proofs.«01_k».proof.Proof.TileBody
public import proofs.«01_k».proof.Proof.Finish
public import Idealize.ShloMosaic.Lib.SparseCore.Quiescent

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg) (xc : (d : Dev nD) → Buf (Elt F) (xLoc d))

/-! ### The tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileP (coordsV c s)) ⟨⟩ c s := rfl

theorem tileObl (hTr : ∀ d r, (Tg m d r).toNat < 64) (hF : (K (F := F)).Facts) : (K (F := F)).TileObl (D (F := F)) 𝒱 (P m xc) v₀ 0 := by
  intro d c i O W hO _ _
  simp only [show (P m xc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m xc d (coordsV ⟨_, hci.1⟩ ⟨_, hci.2⟩) (hTr d) O hF W hO (m (oLoc d)) _

/-! ### The rows of bins -/

theorem rowSet_eq (w : Fin 32) : rowSet w = (row w).set := by
  show ((View.whole (main_v1_scv : Ref sig .scVector)).slice (row w)).set = _
  rw [View.set_slice]; exact Finset.map_refl

theorem rows_disjoint {w w' : Fin 32} (h : w ≠ w') : Disjoint (rowSet w) (rowSet w') := by
  rw [rowSet_eq, rowSet_eq]; exact Rect.part_disjoint hdiv h

theorem wid_inj {c c' : Fin 2} {s s' : Fin 16} (h : wid c s = wid c' s') : c = c' ∧ s = s' := by
  have := congrArg Fin.val h
  simp only at this
  exact ⟨Fin.ext (by omega), Fin.ext (by omega)⟩

/-- The rows of SparseCore `c`'s tiles. -/
abbrev coreSet (c : Fin 2) : Finset S32x48.Idx := Finset.univ.biUnion fun s : Fin 16 => rowSet (wid c s)

theorem core_cover : (Finset.univ : Finset (Fin 2)).biUnion coreSet = Finset.univ := by
  ext j
  simp only [Finset.mem_biUnion, Finset.mem_univ, true_and, iff_true]
  obtain ⟨w, -, hw⟩ := Finset.mem_biUnion.mp ((((Finset.biUnion_congr rfl fun w _ => rowSet_eq w).trans (Rect.biUnion_part hdiv)) ▸ Finset.mem_univ j :
    j ∈ (Finset.univ : Finset (Fin 32)).biUnion rowSet))
  have hlt := w.isLt
  refine ⟨⟨w.val % 2, by omega⟩, ⟨w.val / 2, by omega⟩, ?_⟩
  rwa [show wid ⟨w.val % 2, by omega⟩ ⟨w.val / 2, by omega⟩ = w from Fin.ext (by simp only; omega)]

theorem core_disjoint : ∀ c ∈ (Finset.univ : Finset (Fin 2)), ∀ c' ∈ (Finset.univ : Finset (Fin 2)), c ≠ c' → Disjoint (coreSet c) (coreSet c') :=
  fun c _ c' _ h => (Finset.disjoint_biUnion_left _ _ _).mpr fun s _ => (Finset.disjoint_biUnion_right _ _ _).mpr fun s' _ =>
    rows_disjoint fun hw => h (wid_inj hw).1

/-- The array of bins is its rows, by SparseCore and subcore. -/
theorem oPts_rows (d : Dev nD) (f : Buf (Elt F) (oLoc d)) :
    (oLoc d ↦{fullShare} f : sProp (𝕄 F)) = bigSep Finset.univ fun c : Fin 2 => bigSep Finset.univ fun s : Fin 16 => oRow d (wid c s) f := by
  have h2 : ∀ c : Fin 2, (oLoc d ↦[coreSet c]{fullShare} f : sProp (𝕄 F)) = bigSep Finset.univ fun s : Fin 16 => oRow d (wid c s) f := fun c =>
    pointsTo_biUnion Finset.univ (ℓ := oLoc d) (fun s : Fin 16 => rowSet (wid c s)) fun s _ s' _ h => rows_disjoint fun hw => h (wid_inj hw).2
  rw [← bigSep_congr fun c _ => h2 c, ← pointsTo_biUnion Finset.univ (ℓ := oLoc d) coreSet core_disjoint, core_cover]; try rfl

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (𝕄 F)) :
    (bigSep Finset.univ fun i : Fin ((K (F := F)).nCore 0) => Φ (Fin.cast nCore_zero i)) = bigSep Finset.univ Φ :=
  bigSep_congr fun _ _ => congrArg Φ (Fin.ext rfl)

/-- What a SparseCore is dealt, by tiles: the reads' shares and the rows; and back. -/
theorem core_split (d : Dev nD) (c : Fin 2) (f g : Buf (Elt F) (oLoc d)) :
    coreR m xc d c f ⊢ iprop((bigSep Finset.univ fun s : Fin 16 => tileR m xc d c s f)
      ∗ ((bigSep Finset.univ fun s : Fin 16 => tileR m xc d c s g) -∗ coreR m xc d c g)) := by
  rw [bigSep_sep', bigSep_sep', bigSep_sep', bigSep_sep']
  iintro ⟨Hx, Ht, Ho⟩
  ihave Hx' := (Transfers.pointsTo_toks_split (cq c) 16) $$ Hx
  icases Hx' with ⟨Hxd, Hx⟩
  ihave Ht' := (Transfers.pointsTo_toks_split (cq c) 16) $$ Ht
  icases Ht' with ⟨Htd, Ht⟩
  isplitl [Hx Ht Ho]
  · isplitl [Hx]; · iexact Hx
    isplitl [Ht]; · iexact Ht
    iexact Ho
  iintro ⟨Hx, Ht, Ho⟩
  isplitl [Hxd Hx]
  · iapply (Transfers.pointsTo_toks_join (cq c) 16); isplitl [Hxd]; · iexact Hxd
    iexact Hx
  isplitl [Htd Ht]
  · iapply (Transfers.pointsTo_toks_join (cq c) 16); isplitl [Htd]; · iexact Htd
    iexact Ht
  iexact Ho

theorem vecSplit : (K (F := F)).VecSplit' (P m xc) 0 := by
  intro d c
  show coreR m xc d (Fin.cast nCore_zero c) (m (oLoc d)) ⊢ |={Set.univ}=> iprop(
      (bigSep Finset.univ fun i : Fin ((K (F := F)).nSub 0) => tileR m xc d (Fin.cast nCore_zero c) (Fin.cast nSub_zero i) (m (oLoc d)))
      ∗ ((bigSep Finset.univ fun i : Fin ((K (F := F)).nSub 0) => tileR m xc d (Fin.cast nCore_zero c) (Fin.cast nSub_zero i) (outV m xc d))
          -∗ coreR m xc d (Fin.cast nCore_zero c) (outV m xc d)))
  rw [bigSep_tasks (F := F) (fun i => tileR m xc d (Fin.cast nCore_zero c) i (m (oLoc d))),
    bigSep_tasks (F := F) (fun i => tileR m xc d (Fin.cast nCore_zero c) i (outV m xc d))]
  have h := core_split m xc d (Fin.cast nCore_zero c) (m (oLoc d)) (outV m xc d)
  iintro H; imodintro
  iapply h; iexact H

/-- The arrays the call takes, whole, are what the two SparseCores are dealt and a leftover of the reads' shares; and
    back. -/
theorem st_split (d : Dev nD) (f g : Buf (Elt F) (oLoc d)) :
    iprop(xPts xc d fullShare ∗ tPts m d fullShare ∗ oLoc d ↦{fullShare} f)
      ⊢ iprop((bigSep Finset.univ fun c : Fin 2 => coreR m xc d c f)
        ∗ ((bigSep Finset.univ fun c : Fin 2 => coreR m xc d c g) -∗ iprop(xPts xc d fullShare ∗ tPts m d fullShare ∗ oLoc d ↦{fullShare} g))) := by
  rw [bigSep_sep', bigSep_sep', bigSep_sep', bigSep_sep', oPts_rows, oPts_rows]
  iintro ⟨Hx, Ht, Ho⟩
  ihave Hx' := (Transfers.pointsTo_toks_split fullShare 2) $$ Hx
  icases Hx' with ⟨Hxd, Hx⟩
  ihave Ht' := (Transfers.pointsTo_toks_split fullShare 2) $$ Ht
  icases Ht' with ⟨Htd, Ht⟩
  isplitl [Hx Ht Ho]
  · isplitl [Hx]; · iexact Hx
    isplitl [Ht]; · iexact Ht
    iexact Ho
  iintro ⟨Hx, Ht, Ho⟩
  isplitl [Hxd Hx]
  · iapply (Transfers.pointsTo_toks_join fullShare 2); isplitl [Hxd]; · iexact Hxd
    iexact Hx
  isplitl [Htd Ht]
  · iapply (Transfers.pointsTo_toks_join fullShare 2); isplitl [Htd]; · iexact Htd
    iexact Ht
  iexact Ho

theorem st0_eq (d : Dev nD) : (bigSep Finset.univ fun c : Fin ((K (F := F)).nCore 0) => (P m xc).st 0 d c) = bigSep Finset.univ fun c : Fin 2 => coreR m xc d c (m (oLoc d)) :=
  bigSep_cores fun c => coreR m xc d c (m (oLoc d))
theorem dn0_eq (d : Dev nD) : (bigSep Finset.univ fun c : Fin ((K (F := F)).nCore 0) => (P m xc).dn 0 d c) = bigSep Finset.univ fun c : Fin 2 => coreR m xc d c (outV m xc d) :=
  bigSep_cores fun c => coreR m xc d c (outV m xc d)

/-! ### The launch element -/

/-- The finishing kernel's staging rounds, in the machine's algebra. -/
abbrev EP : Emb UP (𝕄 F) := (Emb.inl : Emb UP (UP × Counters)).trans embR

instance EP_landsIn : (EP (F := F)).LandsIn (upEmb : UEmb _ (𝕄 F)) := by unfold EP embR; infer_instance

theorem pinj : Function.Injective (Pipeline.cellOf (nD := nD) (τ := τ) (Pipeline.pin (pcfgs (F := F)) adm)) := cellOf_inj

/-- What the TensorCore starts with for the region it will enter. -/
abbrev G (d : Dev nD) : sProp (𝕄 F) :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

theorem hu₀ : (ownU (u₀ (F := F)) : sProp (𝕄 F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m xc).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP pinj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (Pipeline.pin (pcfgs (F := F)) adm) EP 0 d)
          = bigSep Finset.univ fun d : Dev nD => bigSep Finset.univ fun p : Fin 1 => Pipeline.cellsGhost (Pipeline.pin (pcfgs (F := F)) adm) EP p d from
        bigSep_congr fun d _ => (bigSep_univ_of_subsingleton (Φ := fun p : Fin 1 => Pipeline.cellsGhost (Pipeline.pin (pcfgs (F := F)) adm) EP p d) (0 : Fin 1)).symm]
      iexact Hg
    · rw [show (bigSep Finset.univ fun d : Dev nD => Pipeline.toksInit (Pipeline.pin (pcfgs (F := F)) adm) EP 0 d)
          = bigSep Finset.univ fun d : Dev nD => bigSep Finset.univ fun p : Fin 1 => Pipeline.toksInit (Pipeline.pin (pcfgs (F := F)) adm) EP p d from
        bigSep_congr fun d _ => (bigSep_univ_of_subsingleton (Φ := fun p : Fin 1 => Pipeline.toksInit (Pipeline.pin (pcfgs (F := F)) adm) EP p d) (0 : Fin 1)).symm]
      iexact Ht
  rw [show (bigSep Finset.univ fun thr : Thread nD τ => bigSep Finset.univ fun q : Fin 1 => (P m xc).x q thr) = iprop(emp) from
    (bigSep_congr fun _ _ => bigSep_univ_of_subsingleton (0 : Fin 1)).trans (bigSep_emp_const _)]
  iempintro

/-! ### The buffers' contents as the program goes -/

abbrev opFlat : HloOp τ sig (Elt F) := StableHlo.reshape main_arg0 main_v0 rfl shapeCasts_S1000000x64_S64000000
abbrev opOut : HloOp τ sig (Elt F) := StableHlo.reshape main_v2 main_v3 rfl shapeCasts_S1x1_S1

def V0 (d : Dev nD) : Valuation τ sig (Elt F) := fun b => m (d, b)
def V1 (d : Dev nD) : Valuation τ sig (Elt F) := (opFlat (F := F)).result (V0 m d)
/-- The logits, flat. -/
def xf (d : Dev nD) : Buf (Elt F) (xLoc d) := V1 m d (Proc.devRef .tc main_v0)
def V2 (d : Dev nD) : Valuation τ sig (Elt F) := Function.update (V1 m d) (Proc.devRef .tc main_v1) (outV m (xf m) d)
def V3 (d : Dev nD) : Valuation τ sig (Elt F) := Function.update (V2 m d) (Proc.devRef .tc main_v2) (finV (outV m (xf m) d))
def V4 (d : Dev nD) : Valuation τ sig (Elt F) := (opOut (F := F)).result (V3 m d)

theorem V1_ne (d : Dev nD) {r : Ref sig .tc} (h : r ≠ main_v0) : V1 m d (Proc.devRef .tc r) = m (d, Proc.devRef .tc r) :=
  StableHlo.reshape_result_ne _ _ _ _ _ _ (V0 m d) h
theorem V2_v1 (d : Dev nD) : V2 m d (Proc.devRef .tc main_v1) = outV m (xf m) d := Function.update_self _ _ _
theorem V2_ne (d : Dev nD) {r : Ref sig .tc} (h : r ≠ main_v1) : V2 m d (Proc.devRef .tc r) = V1 m d (Proc.devRef .tc r) :=
  Function.update_of_ne (StableHlo.devRef_ne_of_ne h) _ _
theorem V3_v2 (d : Dev nD) : V3 m d (Proc.devRef .tc main_v2) = finV (V2 m d (Proc.devRef .tc main_v1)) :=
  (Function.update_self _ _ _).trans (congrArg finV (V2_v1 m d).symm)
theorem V3_ne (d : Dev nD) {r : Ref sig .tc} (h : r ≠ main_v2) : V3 m d (Proc.devRef .tc r) = V2 m d (Proc.devRef .tc r) :=
  Function.update_of_ne (StableHlo.devRef_ne_of_ne h) _ _
theorem V4_ne (d : Dev nD) {r : Ref sig .tc} (h : r ≠ main_v3) : V4 m d (Proc.devRef .tc r) = V3 m d (Proc.devRef .tc r) :=
  StableHlo.reshape_result_ne _ _ _ _ _ _ (V3 m d) h

omit [FloatOps F] in
theorem unscopedBufs_eq (d : Dev nD) (W : (b : Ref sig .tc) → Buf (Elt F) ((d.tc : Thread nD τ).loc b)) :
    (unscopedBufs d W : sProp (𝕄 F))
      = iprop(((d.tc : Thread nD τ).loc main_arg0 ↦{fullShare} W main_arg0) ∗ ((d.tc : Thread nD τ).loc main_arg1 ↦{fullShare} W main_arg1)
        ∗ ((d.tc : Thread nD τ).loc main_v0 ↦{fullShare} W main_v0) ∗ ((d.tc : Thread nD τ).loc main_v1 ↦{fullShare} W main_v1)
        ∗ ((d.tc : Thread nD τ).loc main_v2 ↦{fullShare} W main_v2) ∗ ((d.tc : Thread nD τ).loc main_v3 ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-! ### The finishing kernel's region, among the other buffers -/

/-- The program's one call into the finishing kernel. -/
abbrev callP : Prog (TpuEff nD τ sig (Elt F) (ΛP (F := F)) .tc) PUnit := .op (.customCall (Pipeline.entry (0 : Fin 1)) ()) .ret

/-- The region's entry, from the buffers as the call to the SparseCores leaves them, at the finishing kernel's own bodies. -/
theorem region_entry (d : Dev nD) (bd : ℕ) (Q : PUnit → sProp (𝕄 F)) :
    iprop(((boundary (T d) ∗ unscopedBufs d (fun b => V3 m d (Proc.devRef .tc b)) ∗ owed0 (F := F) bd d) -∗ Q ⟨⟩)
        ∗ boundary (T d) ∗ unscopedBufs d (fun b => V2 m d (Proc.devRef .tc b)) ∗ owed0 (F := F) bd d ∗ levAts (K (F := F)).L (K (F := F)).lev ∗ G (F := F) d)
      ⊢ iprop(((boundary (d.tc : Thread nD τ) ∗ unscopedBufs d (fun b => V3 m d (Proc.devRef .tc b)) ∗ owed0 (F := F) bd d)
          -∗ wp frame (wpE (Pipeline.defs pcfgs defs₀) 𝒱₀.lift (d.tc : Thread nD τ) none) Set.univ (.ret ⟨⟩) Q)
        ∗ boundary (d.tc : Thread nD τ) ∗ (unscopedBufs d (fun b => V2 m d (Proc.devRef .tc b)) ∗ owed0 (F := F) bd d) ∗ levAts (K (F := F)).L (K (F := F)).lev
        ∗ Pipeline.cellsGhost (Pipeline.pin (pcfgs (F := F)) adm) EP 0 d ∗ Pipeline.toksInit (Pipeline.pin (pcfgs (F := F)) adm) EP 0 d) := by
  iintro ⟨HK, Hb, Hu, Ho, HL, Hg, Ht⟩
  isplitl [HK]
  · iintro ⟨Hb, Hu, Ho⟩
    rw [wp_ret]; imodintro
    iapply HK; isplitl [Hb]; · iexact Hb
    isplitl [Hu]; · iexact Hu
    iexact Ho
  isplitl [Hb]; · iexact Hb
  isplitl [Hu Ho]
  · isplitl [Hu]; · iexact Hu
    iexact Ho
  isplitl [HL]; · iexact HL
  isplitl [Hg]; · iexact Hg
  iexact Ht

set_option maxHeartbeats 2000000 in
theorem tcRegion [∀ e, Nonempty (Elt F e)] (d : Dev nD) (bd : ℕ) (Q : PUnit → sProp (𝕄 F)) :
    iprop(((boundary (T d) ∗ unscopedBufs d (fun b => V3 m d (Proc.devRef .tc b)) ∗ owed0 (F := F) bd d) -∗ Q ⟨⟩)
        ∗ boundary (T d) ∗ unscopedBufs d (fun b => V2 m d (Proc.devRef .tc b)) ∗ owed0 (F := F) bd d ∗ levAts (K (F := F)).L (K (F := F)).lev ∗ G (F := F) d)
      ⊢ wp frame (wpE ((K (F := F)).defs (D (F := F))) 𝒱 (T d) none) Set.univ (SparseCore.liftProg (callP (F := F))) Q := by
  have h := (K (F := F)).wp_liftProg (D (F := F)) 𝒱 (T d) Set.univ none (callP (F := F)) Q
  refine BI.Entails.trans ?_ h
  have key := Pipeline.RegionSeg.wp (pcfgs (F := F)) adm (pdats (fun c b => V2 m c (Proc.devRef .tc b)) bd) (none : HIx 1) pinj EP defs₀ 𝒱₀
    (K (F := F)).L (K (F := F)).lev
    (reg (fun c b => V2 m c (Proc.devRef .tc b)) bd (fun c b => V3 m c (Proc.devRef .tc b)) (fun c => V3_v2 m c) (fun c b h => V3_ne m c h))
    d none (fun u hu => nomatch hu) .ret Q
  have hpost : (reg (fun c b => V2 m c (Proc.devRef .tc b)) bd (fun c b => V3 m c (Proc.devRef .tc b)) (fun c => V3_v2 m c) (fun c b h => V3_ne m c h)).post d
    = iprop(unscopedBufs d (fun b => V3 m d (Proc.devRef .tc b)) ∗ owed0 (F := F) bd d) := rfl
  have hpre : (reg (fun c b => V2 m c (Proc.devRef .tc b)) bd (fun c b => V3 m c (Proc.devRef .tc b)) (fun c => V3_v2 m c) (fun c b h => V3_ne m c h)).pre d
    = iprop(unscopedBufs d (fun b => V2 m d (Proc.devRef .tc b)) ∗ owed0 (F := F) bd d) := rfl
  rw [hpost, hpre] at key
  exact (region_entry m d bd Q).trans key

/-! ### The TensorCore's program -/

/-- What the run ends holding: the two arguments as given and the result. -/
abbrev FIN (d : Dev nD) : sProp (𝕄 F) :=
  iprop(((d.tc : Thread nD τ).loc main_arg0 ↦{fullShare} m ((d.tc : Thread nD τ).loc main_arg0)) ∗ ((d.tc : Thread nD τ).loc main_arg1 ↦{fullShare} m ((d.tc : Thread nD τ).loc main_arg1))
    ∗ ((d.tc : Thread nD τ).loc main_v3 ↦{fullShare} V4 m d (Proc.devRef .tc main_v3)))

theorem flat_sub : (opFlat (F := F)).bufs ⊆ Pipeline.ucRefs τ sig := by
  exact Pipeline.sub_ucRefs _ (StableHlo.reshape_bufs_sub _ _ _ _ _ _)
theorem out_sub : (opOut (F := F)).bufs ⊆ Pipeline.ucRefs τ sig := by
  exact Pipeline.sub_ucRefs _ (StableHlo.reshape_bufs_sub _ _ _ _ _ _)

theorem held_eq (d : Dev nD) (W : Valuation τ sig (Elt F)) :
    (unscopedBufs d (fun b => W (Proc.devRef .tc b)) : sProp (𝕄 F)) = StableHlo.held (T d) (Pipeline.ucRefs τ sig) W :=
  Pipeline.unscopedBufs_held d W

/-- Before the call: what the call takes, and the rest. -/
theorem split1 (d : Dev nD) : (unscopedBufs d (fun b => V1 m d (Proc.devRef .tc b)) : sProp (𝕄 F))
    ⊢ iprop((xPts (xf m) d fullShare ∗ tPts m d fullShare ∗ oLoc d ↦{fullShare} m (oLoc d))
      ∗ ((d.tc : Thread nD τ).loc main_arg0 ↦{fullShare} V1 m d (Proc.devRef .tc main_arg0))
      ∗ ((d.tc : Thread nD τ).loc main_v2 ↦{fullShare} V1 m d (Proc.devRef .tc main_v2))
      ∗ ((d.tc : Thread nD τ).loc main_v3 ↦{fullShare} V1 m d (Proc.devRef .tc main_v3))) := by
  rw [unscopedBufs_eq, V1_ne m d (r := main_arg1) (by decide), V1_ne m d (r := main_v1) (by decide)]
  iintro ⟨Ha, Ht, Hx, Ho, H2, H3⟩
  isplitl [Ht Hx Ho]
  · isplitl [Hx]; · iexact Hx
    isplitl [Ht]; · iexact Ht
    iexact Ho
  isplitl [Ha]; · iexact Ha
  isplitl [H2]; · iexact H2
  iexact H3

/-- After the call: the buffers together again. -/
theorem join2 (d : Dev nD) : iprop((xPts (xf m) d fullShare ∗ tPts m d fullShare ∗ oLoc d ↦{fullShare} outV m (xf m) d)
      ∗ ((d.tc : Thread nD τ).loc main_arg0 ↦{fullShare} V1 m d (Proc.devRef .tc main_arg0))
      ∗ ((d.tc : Thread nD τ).loc main_v2 ↦{fullShare} V1 m d (Proc.devRef .tc main_v2))
      ∗ ((d.tc : Thread nD τ).loc main_v3 ↦{fullShare} V1 m d (Proc.devRef .tc main_v3)))
    ⊢ (unscopedBufs d (fun b => V2 m d (Proc.devRef .tc b)) : sProp (𝕄 F)) := by
  rw [unscopedBufs_eq, V2_v1, V2_ne m d (r := main_arg0) (by decide), V2_ne m d (r := main_arg1) (by decide), V2_ne m d (r := main_v0) (by decide),
    V2_ne m d (r := main_v2) (by decide), V2_ne m d (r := main_v3) (by decide), V1_ne m d (r := main_arg1) (by decide)]
  iintro ⟨⟨Hx, Ht, Ho⟩, Ha, H2, H3⟩
  isplitl [Ha]; · iexact Ha
  isplitl [Ht]; · iexact Ht
  isplitl [Hx]; · iexact Hx
  isplitl [Ho]; · iexact Ho
  isplitl [H2]; · iexact H2
  iexact H3

/-- At the end: the arguments as given, and the result. -/
theorem fin4 (d : Dev nD) : (unscopedBufs d (fun b => V4 m d (Proc.devRef .tc b)) : sProp (𝕄 F)) ⊢ FIN m d := by
  rw [unscopedBufs_eq, V4_ne m d (r := main_arg0) (by decide), V4_ne m d (r := main_arg1) (by decide), V3_ne m d (r := main_arg0) (by decide),
    V3_ne m d (r := main_arg1) (by decide), V2_ne m d (r := main_arg0) (by decide), V2_ne m d (r := main_arg1) (by decide),
    V1_ne m d (r := main_arg0) (by decide), V1_ne m d (r := main_arg1) (by decide)]
  iintro ⟨Ha, Ht, -, -, -, H3⟩
  isplitl [Ha]; · iexact Ha
  isplitl [Ht]; · iexact Ht
  iexact H3

/-- After the last call the TensorCore owes nothing. -/
theorem tcSt_owed (d : Dev nD) : ∃ bd : ℕ, ((K (F := F)).tcSt EH d 1 : sProp (𝕄 F)) ⊢ iprop(owed0 (F := F) bd d ∗ (owed0 (F := F) bd d -∗ (K (F := F)).tcSt EH d 1)) := by
  unfold SparseCore.Cfg.tcSt
  refine ⟨8 * SparseCore.Cfg.Blocks.fst (Q := 1) (N := 1) 1, ?_⟩
  rw [(K (F := F)).Otc_end d (le_refl 1)]
  iintro ⟨Ho, Hr⟩
  isplitl [Ho]; · iexact Ho
  iintro Ho
  isplitl [Ho]; · iexact Ho
  iexact Hr

theorem hmain [∀ e, Nonempty (Elt F e)] (κ : GSem nD τ sig → ℕ) (d : Dev nD) :
    iprop((K (F := F)).ctx EH (P m (xf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have h0 : (unscopedBufs d (fun b => m ((SparseCore.T d : Thread nD τ).loc b)) : sProp (𝕄 F)) = unscopedBufs d (fun b => V0 m d (Proc.devRef .tc b)) := by
    congr 1
  rw [h0, held_eq]
  simp only [main, wp_bind, wp_pure]
  iintro ⟨#Hctx, Hst, ⟨Hb, Hheld, Hts, -⟩, HG⟩
  iapply (StableHlo.wp_hlo_within 𝒱 (SparseCore.T d) none Set.univ (op := opFlat) (S := Pipeline.ucRefs τ sig) flat_sub (V := V0 m d)) $$ [Hb Hheld]
  · isplitl [Hb] <;> iassumption
  iintro ⟨Hb, Hheld⟩
  rw [wp_ret, show (opFlat (F := F)).result (V0 m d) = V1 m d from rfl]; imodintro
  ihave Hu := (Entails.of_eq (held_eq d (V1 m d)).symm) $$ Hheld
  ihave Hu := (split1 m d) $$ Hu
  icases Hu with ⟨Hin, Hrest⟩
  ihave Hin := (st_split m (xf m) d (m (oLoc d)) (outV m (xf m) d)) $$ Hin
  icases Hin with ⟨Hin, Hback⟩
  iapply ((K (F := F)).wp_run (D (F := F)) 𝒱 (EH := EH) (P := P m (xf m)) κ d 0) $$ [Hst Hin Hb Hts Hrest Hback HG]
  isplitr; · iexact Hctx
  isplitl [Hst]; · iexact Hst
  isplitl [Hin]
  · rw [st0_eq]; iexact Hin
  iintro ⟨Hst, Hdn⟩
  ihave Hdn := (Entails.of_eq (dn0_eq m (xf m) d)) $$ Hdn
  ihave Hin := Hback $$ Hdn
  ihave Hu := (join2 m d) $$ [Hin Hrest]
  · isplitl [Hin]; · iexact Hin
    iexact Hrest
  obtain ⟨bd, hbd⟩ := tcSt_owed (F := F) d
  ihave Hst := (show ((K (F := F)).tcSt EH d ((0 : Fin 1).val + 1) : sProp (𝕄 F)) ⊢ _ from hbd) $$ Hst
  icases Hst with ⟨Ho, Hst⟩
  ihave HL := ((K (F := F)).ctx_levAts κ) $$ Hctx
  have key := tcRegion m d bd
  iapply key
  isplitr [Hb Hu Ho HL HG]
  · iintro ⟨Hb, Hu, Ho⟩
    ihave Hst := Hst $$ Ho
    ihave Hheld := (Entails.of_eq (held_eq d (V3 m d))) $$ Hu
    iapply (StableHlo.wp_hlo_within 𝒱 (SparseCore.T d) none Set.univ (op := opOut) (S := Pipeline.ucRefs τ sig) out_sub (V := V3 m d)) $$ [Hb Hheld]
    · isplitl [Hb] <;> iassumption
    iintro ⟨Hb, Hheld⟩
    rw [wp_ret, show (opOut (F := F)).result (V3 m d) = V4 m d from rfl]; imodintro
    ihave Hu := (Entails.of_eq (held_eq d (V4 m d)).symm) $$ Hheld
    ihave Hf := (fin4 m d) $$ Hu
    imodintro
    isplitl [Hst]; · iexact Hst
    isplitl [Hf]; · iexact Hf
    isplitl [Hb] <;> iassumption
  isplitl [Hb]; · iexact Hb
  isplitl [Hu]; · iexact Hu
  isplitl [Ho]; · iexact Ho
  isplitl [HL]; · iexact HL
  iexact HG

/-- What the end of the run holds of a device: its arguments as given, its result the finishing kernel's value of the
    tiles' bins. -/
def fq (d : Dev nD) (s' : Phys nD τ sig (Elt F)) : Prop :=
  s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_v3) = V4 m d (Proc.devRef .tc main_v3)

theorem hfin (d : Dev nD) (s' : Phys nD τ sig (Elt F)) : iprop(FIN m d ∗ SI s') ⊢ (⌜fq m d s'⌝ : sProp (𝕄 F)) := by
  iintro ⟨⟨Hx, Ha, Hr⟩, HSI⟩
  ihave H := (persistent_entails_right (SI_pointsTo_agree (st := s') (ℓ := (d.tc : Thread nD τ).loc main_arg0) (I := Finset.univ) (q := fullShare)
    (f := m ((d.tc : Thread nD τ).loc main_arg0)))) $$ [HSI Hx]
  · isplitl [HSI] <;> iassumption
  icases H with ⟨%hx, HSI, -⟩
  ihave H := (persistent_entails_right (SI_pointsTo_agree (st := s') (ℓ := (d.tc : Thread nD τ).loc main_arg1) (I := Finset.univ) (q := fullShare)
    (f := m ((d.tc : Thread nD τ).loc main_arg1)))) $$ [HSI Ha]
  · isplitl [HSI] <;> iassumption
  icases H with ⟨%ha, HSI, -⟩
  ihave H := (SI_pointsTo_agree (st := s') (ℓ := (d.tc : Thread nD τ).loc main_v3) (I := Finset.univ) (q := fullShare)
    (f := V4 m d (Proc.devRef .tc main_v3))) $$ [HSI Hr]
  · isplitl [HSI] <;> iassumption
  icases H with %hr
  ipureintro
  exact ⟨funext fun i => hx i (Finset.mem_univ i), funext fun i => ha i (Finset.mem_univ i), funext fun i => hr i (Finset.mem_univ i)⟩

/-! ### The program's run -/

def QC : PUnit × MemSt nD τ sig (Elt F) → Prop := fun r =>
  (∀ d : Dev nD, r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_v3) = V4 m d (Proc.devRef .tc main_v3)) ∧ r.2.sem = fun _ => 0

/-- Every run of the program ends with its arguments as given, its result the finishing kernel's value of the tiles' bins,
    and every semaphore at zero. -/
theorem run_main [∀ e, Nonempty (Elt F e)] (hTr : ∀ d r, (Tg m d r).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (xf m)) (A := ∅) facts v₀
    (fun q hq => match q with | 0 => nomatch hq)
    (fun q _ => match q with | 0 => tileObl m (xf m) hTr facts)
    (fun q _ => match q with | 0 => SparseCore.Cfg.VecSplit.of_plain (vecSplit m (xf m)))
    m ρ main (fun d => G (F := F) d) (FIN m) (u₀ (F := F)) (sep_elim_left.trans (hu₀ m (xf m))) (hmain m ρ) (fq m) (hfin m) (QC m) (fun _ h hz => ⟨h, hz⟩)

end Cert.Proof.Ece

end
-- ==== Proof.KerVal.lean ====
/-
  The kernel's result over the extended reals, read as the reference's is: the sum over the ten bins of one bin's gap, with
  the bin's count, confidence and accuracy written as sums over the million rows.
-/
module

public import proofs.«01_k».proof.Proof.Cells
public import proofs.«01_k».proof.Proof.PreRows
public import proofs.«01_k».proof.Proof.Launch

@[expose] public section

noncomputable section

namespace Cert.Proof.Ece

open Idealize.ShloMosaic Idealize.ShloMosaic.ValueIdx Idealize.ShloMosaic.TcCoe Cert.KernelIdeal Cert.KernelIdeal.Gen

theorem sum_at {s t : Shape} {a : Fin s.rank} (x : FVec Ideal s .f32) (h : s.Reduces [a] t) (hφ : FKind.Formats .f32)
    (hacc : (0x00000000#32 : BitVec 32) = FKind.add.neutral .f32 hφ) (j : t.Idx) :
    (multiReduction .add [a] t x 0x00000000#32 h hφ hacc j : EReal) = ∑ k : Fin (s.size a), (x (h.lift j k) : EReal) :=
  Ideal.multiReduction_add_single x _ h hφ hacc j

theorem absf_kernel_at {s : Shape} (x : FVec Ideal s .f32) (i : s.Idx) : absf x i = FloatOps.absf (F := Ideal) (φ := .f32) (x i) := rfl

theorem splat_at {s : Shape} (w : BitVec 32) (i : s.Idx) :
    (broadcast s (Scalar.ofBits (F := Ideal) .f32 w) i : EReal) = Ideal.ofBits .f32 w := rfl

/-- A column of the bins, all rows added, read through the two shapes the kernel gives it and a slice of ten. -/
theorem column_at (f : FVec Ideal S32x48 .f32) (o : ℕ) (h : S1x48.Slices ![0, o] S1x10) (b : Fin 10) (hb : o + b.val < 48) :
    (extractStridedSlice S1x10 ![0, o] (shapeCast S1x48
        (multiReduction .add [0] S48 (shapeCast S32x48 f shapeCasts_S32x48_S32x48) 0x00000000#32 reduces_S32x48_S48 (.inl rfl) rfl)
        shapeCasts_S48_S1x48) h (ix2 0 b) : EReal)
      = ∑ w : Fin 32, (f (ix2 w ⟨o + b.val, hb⟩) : EReal) := by
  rw [shapeCast_self]
  refine (extractStridedSlice_apply ![0, o] _ h (ix2 0 b) (ix2 (0 : Fin 1) (⟨o + b.val, hb⟩ : Fin 48)) fun a => match a with
    | ⟨0, _⟩ => rfl
    | ⟨1, _⟩ => rfl).trans ?_
  refine (shapeCast_apply _ shapeCasts_S48_S1x48 (ix2 (0 : Fin 1) (⟨o + b.val, hb⟩ : Fin 48)) (ix1 (⟨o + b.val, hb⟩ : Fin 48)) ?_).trans ?_
  · rw [Shape.rowMajor_val_one, Shape.rowMajor_val_two]
    show o + b.val = 0 * 48 + (o + b.val)
    omega
  refine (sum_at f reduces_S32x48_S48 (.inl rfl) rfl _).trans ?_
  refine Finset.sum_congr rfl fun w _ => congrArg f ?_
  funext a
  match a with
  | ⟨0, _⟩ => rfl
  | ⟨1, _⟩ => rfl

/-- One bin's gap, from that bin's three columns. -/
theorem closing_at (v4 v5 v6 : FVec Ideal S1x10 .f32) (b : Fin 10) :
    (select (cmpf .ogt v4 (broadcast S1x10 (Scalar.ofBits (F := Ideal) .f32 0x00000000#32)))
      (mulf (absf (subf (divf v5 (maximumf v4 (broadcast S1x10 (Scalar.ofBits (F := Ideal) .f32 0x3F800000#32))))
          (divf v6 (maximumf v4 (broadcast S1x10 (Scalar.ofBits (F := Ideal) .f32 0x3F800000#32))))))
        (divf v4 (broadcast S1x10 (Scalar.ofBits (F := Ideal) .f32 0x49742400#32))))
      (broadcast S1x10 (Scalar.ofBits (F := Ideal) .f32 0x00000000#32)) (ix2 (0 : Fin 1) b) : EReal)
      = gap (v4 (ix2 (0 : Fin 1) b)) (v5 (ix2 (0 : Fin 1) b)) (v6 (ix2 (0 : Fin 1) b)) := by
  unfold gap
  rw [select_apply, Ref.cmp_at, mulf_apply, absf_kernel_at, subf_apply, divf_apply, divf_apply, divf_apply, maximumf_apply,
    splat_at, splat_at, splat_at]

/-- What the finishing kernel leaves: the sum over the bins of each bin's gap. -/
theorem fin_at (f : FVec Ideal S32x48 .f32) :
    (finV f (ix2 0 0) : EReal) = ∑ b : Fin 10, gap (∑ w : Fin 32, (f (ix2 w ⟨0 + b.val, by omega⟩) : EReal))
      (∑ w : Fin 32, (f (ix2 w ⟨16 + b.val, by omega⟩) : EReal)) (∑ w : Fin 32, (f (ix2 w ⟨32 + b.val, by omega⟩) : EReal)) := by
  unfold finV
  dsimp only
  refine (shapeCast_apply _ shapeCasts_S1_S1x1 (ix2 (0 : Fin 1) (0 : Fin 1)) (ix1 (0 : Fin 1)) ?_).trans ?_
  · rw [Shape.rowMajor_val_one, Shape.rowMajor_val_two]
    rfl
  refine (sum_at _ reduces_S1x10_S1 (.inl rfl) rfl (ix1 0)).trans ?_
  refine Finset.sum_congr rfl fun b _ => ?_
  have e : reduces_S1x10_S1.lift (ix1 (0 : Fin 1)) b = ix2 (0 : Fin 1) b := by
    funext a
    match a with
    | ⟨0, _⟩ => rfl
    | ⟨1, _⟩ => rfl
  rw [e]
  refine (closing_at _ _ _ b).trans ?_
  exact congr (congrArg₂ gap (column_at f 0 _ b _) (column_at f 16 _ b _)) (column_at f 32 _ b _)

section Sums

variable (X : ℕ → EReal) (T : ℕ → BitVec 32)

/-- The first ten columns of the bins count rows. -/
theorem cell_count (r b : ℕ) (hb : b < 10) : cell X T r (0 + b) = isIn (logitsOf X r) b := by
  have h9 : binOf X r ≤ 9 := binW_le _
  unfold cell isIn
  rw [zero_add, if_neg (show b ≠ binOf X r + 16 by omega), if_neg (show b ≠ binOf X r + 32 by omega), add_zero, add_zero]
  exact if_congr eq_comm rfl rfl

/-- The next ten add up confidences. -/
theorem cell_conf (r b : ℕ) (hb : b < 10) : cell X T r (16 + b) = conf (logitsOf X r) * isIn (logitsOf X r) b := by
  have h9 : binOf X r ≤ 9 := binW_le _
  unfold cell isIn
  rw [if_neg (show 16 + b ≠ binOf X r by omega), if_neg (show 16 + b ≠ binOf X r + 32 by omega), add_zero, zero_add, mul_ite, mul_one, mul_zero]
  exact if_congr ⟨fun h => by show binOf X r = b; omega, fun h => by have : binOf X r = b := h; omega⟩ rfl rfl

/-- The next ten add up hits. -/
theorem cell_hit (r b : ℕ) (hb : b < 10) (hT : (T r).toNat < 64) :
    cell X T r (32 + b) = isHit (logitsOf X r) (T r) * isIn (logitsOf X r) b := by
  have h9 : binOf X r ≤ 9 := binW_le _
  unfold cell isIn
  rw [if_neg (show 32 + b ≠ binOf X r by omega), if_neg (show 32 + b ≠ binOf X r + 16 by omega), zero_add, zero_add, mul_ite, mul_one, mul_zero]
  have e : isHit (logitsOf X r) (T r) = hit X T r := by
    unfold isHit hit
    rw [dif_pos hT]
    rfl
  rw [e]
  exact if_congr ⟨fun h => by show binOf X r = b; omega, fun h => by have : binOf X r = b := h; omega⟩ rfl rfl

end Sums

/-- A column of the array of bins, its thirty-two rows added up, is a sum over the million rows of logits. -/
theorem outC_sum (fx : S64000000.Idx → Ideal .f32) (ft : S1000000.Idx → BitVec 32) (j : Fin 48) :
    (∑ w : Fin 32, (outC fx ft (ix2 w j) : EReal)) = ∑ r : Fin 1000000, cell (xAt fx) (tAt ft) r.val j.val := by
  have h := tiles_sum (xAt fx) (tAt ft) j.val
  rw [Finset.sum_range, Finset.sum_range] at h
  exact h

/-- The flat logits, read by row and class. -/
theorem flat_at (a : FVec Ideal S1000000x64 .f32) (r : Fin 1000000) (c : Fin 64) :
    xAt (F := Ideal) (shapeCast S64000000 a shapeCasts_S1000000x64_S64000000) (64 * r.val + c.val) = a (ix2 r c) := by
  have hr := r.isLt
  have hc := c.isLt
  unfold xAt
  rw [dif_pos (show 64 * r.val + c.val < 64000000 by omega)]
  refine shapeCast_apply a _ _ (ix2 r c) ?_
  rw [Shape.rowMajor_val_one, Shape.rowMajor_val_two]
  show r.val * 64 + c.val = 64 * r.val + c.val
  omega

theorem target_at (t : IVec S1000000 32) (r : Fin 1000000) : tAt t r.val = t (ix1 r) := by
  unfold tAt
  rw [dif_pos r.isLt]
  refine congrArg t (funext fun a => ?_)
  match a with
  | ⟨0, _⟩ => rfl

/-- Where every row is what it has to be, every target read by row number is a class. -/
theorem tAt_lt_of_plain (a : FVec Ideal S1000000x64 .f32) (t : IVec S1000000 32) (h : ∀ r, Plain (Ref.logitRow a r) (t (ix1 r))) (r : ℕ) :
    (tAt t r).toNat < 64 := by
  by_cases hr : r < 1000000
  · rw [target_at t ⟨r, hr⟩]
    exact (h ⟨r, hr⟩).range
  · unfold tAt
    rw [dif_neg hr]
    decide

/-- What the two kernels leave of the logits `a` and the targets `t`. -/
theorem kernel_at (a : FVec Ideal S1000000x64 .f32) (t : IVec S1000000 32) (h : ∀ r, Plain (Ref.logitRow a r) (t (ix1 r))) :
    (finV (outC (shapeCast S64000000 a shapeCasts_S1000000x64_S64000000) t) (ix2 0 0) : EReal)
      = ∑ b : Fin 10, gap (∑ r, isIn (Ref.logitRow a r) b.val) (∑ r, conf (Ref.logitRow a r) * isIn (Ref.logitRow a r) b.val)
          (∑ r, isHit (Ref.logitRow a r) (t (ix1 r)) * isIn (Ref.logitRow a r) b.val) := by
  have hrow : ∀ r : Fin 1000000, logitsOf (xAt (F := Ideal) (shapeCast S64000000 a shapeCasts_S1000000x64_S64000000)) r.val = Ref.logitRow a r := fun r =>
    funext fun c => flat_at a r c
  rw [fin_at]
  refine Finset.sum_congr rfl fun b _ => ?_
  rw [outC_sum, outC_sum, outC_sum]
  exact congr (congrArg₂ gap
      (Finset.sum_congr rfl fun r _ => (cell_count _ (tAt t) r.val b.val b.isLt).trans (by rw [hrow]))
      (Finset.sum_congr rfl fun r _ => (cell_conf _ (tAt t) r.val b.val b.isLt).trans (by rw [hrow])))
    (Finset.sum_congr rfl fun r _ => (cell_hit _ (tAt t) r.val b.val b.isLt (by rw [target_at]; exact (h r).range)).trans (by rw [hrow, target_at]))

/-- The kernel's result is the reference's. -/
theorem results_eq (m : (ℓ : Loc nD τ sig) → Buf (Elt Ideal) ℓ) (d : Dev nD)
    (h : ∀ r, Plain (Ref.logitRow (m (d, Proc.devRef .tc main_arg0)) r) ((m (d, Proc.devRef .tc main_arg1) : IVec S1000000 32) (ix1 r))) :
    V4 m d (Proc.devRef .tc main_v3) = Ref.out (m (d, Proc.devRef .tc main_arg0)) (m (d, Proc.devRef .tc main_arg1)) := by
  have hx : xf m d = shapeCast S64000000 (m (d, Proc.devRef .tc main_arg0)) shapeCasts_S1000000x64_S64000000 := by
    unfold xf V1
    exact StableHlo.reshape_result main_arg0 main_v0 _ _ _ _ (V0 m d)
  have h4 : V4 m d (Proc.devRef .tc main_v3) = shapeCast S1 (V3 m d (Proc.devRef .tc main_v2)) shapeCasts_S1x1_S1 := by
    unfold V4
    exact StableHlo.reshape_result main_v2 main_v3 _ _ _ _ (V3 m d)
  rw [h4, V3_v2, V2_v1]
  unfold outV
  rw [hx]
  refine funext fun i => ?_
  obtain ⟨z, rfl⟩ : ∃ z : Fin 1, i = ix1 z := ⟨i 0, eq_ix1 i⟩
  obtain rfl : z = 0 := Subsingleton.elim _ _
  refine (shapeCast_apply _ shapeCasts_S1x1_S1 (ix1 (0 : Fin 1)) (ix2 (0 : Fin 1) (0 : Fin 1)) ?_).trans ?_
  · rw [Shape.rowMajor_val_one, Shape.rowMajor_val_two]
    rfl
  exact (kernel_at _ _ h).trans (Ref.out_at _ _ h).symm

end Cert.Proof.Ece

end
-- ==== Proof.Same.lean ====
/-
  The program as printed and its idealization are one program: nothing of it was rewritten.
-/
module

public import proofs.«01_k».proof.Proof.Gen.Kernel
public import proofs.«01_k».proof.Proof.Gen.KernelIdeal

@[expose] public section

noncomputable section

namespace Cert.Proof.Ece

open Idealize.ShloMosaic

variable {F : FTy → Type} [FloatOps F]

/-- The tiles' body of the two programs is one. -/
theorem same_body : @Cert.Kernel.cc0__sc_body F _ _ = @Cert.KernelIdeal.cc0__sc_body F _ _ := rfl

/-- The two programs' kernels' body tables are one. -/
theorem same_defs₀ : Cert.Kernel.defs₀ (F := F) = Cert.KernelIdeal.defs₀ (F := F) := by
  funext p ℓ a
  rcases p with _ | c | ⟨c, s⟩
  · match ℓ, a with
    | 0, a => rfl
    | 1, a => rfl
  · match ℓ, a with
    | 0, a => rfl
    | 1, a => rfl
  · match ℓ, a with
    | 0, a =>
      simp only [Cert.Kernel.defs₀, Cert.KernelIdeal.defs₀, same_body]
      rfl
    | 1, a => rfl

/-- The two programs' body tables are one. -/
theorem same_defs : Cert.Kernel.defs (F := F) = Cert.KernelIdeal.defs (F := F) :=
  congrArg (fun d => Cert.KernelIdeal.sc.defs (Pipeline.defs Cert.KernelIdeal.pcfgs d)) same_defs₀

end Cert.Proof.Ece

end
-- ==== Proof.lean ====
/-
  The kernel's certificate: the frames of the program as printed and of its idealization from the run of
  Proof/Launch.lean, the reference's frame from its own run, and the two results' equality from both results read as one
  sum over the bins.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KerVal
public import proofs.«01_k».proof.Proof.Launch
public import proofs.«01_k».proof.Proof.Pre
public import proofs.«01_k».proof.Proof.Same
public import Idealize.ShloMosaic.Adequacy
public import Idealize.ShloMosaic.Init

@[expose] public section

noncomputable section

namespace Cert.Proof

open Idealize.ShloMosaic Idealize.SL.Sem

/-- The program as printed, at the words themselves: its run is the idealized program's, which rewrote nothing. -/
theorem frame_kernel [Cert.Kernel.Facts] [Cert.Pre_targets_in.Facts] : Cert.quiescent_Kernel := by
  intro m ρ hp
  have key : θ_run (Cert.KernelIdeal.defs (F := Bits)) (Cert.KernelIdeal.threads (F := Bits)) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
    (θ_run (Cert.KernelIdeal.defs (F := Bits)) _ _).mono (fun _ h => ⟨fun c => ⟨(h.1 c).1, (h.1 c).2.1⟩, h.2⟩)
      (Ece.run_main (F := Bits) m ρ fun d r => Ece.tAt_lt _ (Ece.targets_in_apply _ _ (hp d)) r)
  rw [Ece.same_defs]
  exact key

/-- The idealized program, over the extended reals. -/
theorem frame_kernelIdeal [Cert.KernelIdeal.Facts] [Cert.Pre_targets_in.Facts] : Cert.quiescent_KernelIdeal := fun m ρ hp =>
  (θ_run Cert.KernelIdeal.defs _ _).mono (fun _ h => ⟨fun c => ⟨(h.1 c).1, (h.1 c).2.1⟩, h.2⟩)
    (Ece.run_main (F := Ideal) m ρ fun d r => Ece.tAt_lt _ (Ece.targets_in_apply _ _ (hp d)) r)

/-- The reference: its run read at its arguments; it has no semaphore. -/
theorem frame_referenceIdeal [Cert.ReferenceIdeal.Facts] : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Where the precondition on the rows holds, every row is what a row has to be. -/
theorem rows [Cert.Pre_rows_plain.Facts] (m : (ℓ : Loc Cert.KernelIdeal.nD Cert.KernelIdeal.τ Cert.KernelIdeal.sig) → Buf (Elt Ideal) ℓ)
    (hp : Cert.Pre_KernelIdeal_rows_plain m) (d : Dev Cert.KernelIdeal.nD) (r : Fin 1000000) :
    Ece.Plain (Ece.Ref.logitRow (m ((d.tc : Thread Cert.KernelIdeal.nD Cert.KernelIdeal.τ).loc Cert.KernelIdeal.main_arg0)) r)
      ((m ((d.tc : Thread Cert.KernelIdeal.nD Cert.KernelIdeal.τ).loc Cert.KernelIdeal.main_arg1) : IVec Cert.KernelIdeal.S1000000 32) (ValueIdx.ix1 r)) :=
  Ece.Rows.plain_of _ _ r (congrFun (hp d) (ValueIdx.ix1 r))

/-- The idealized program's run where the precondition on the rows holds. -/
theorem run_rows [Cert.Pre_rows_plain.Facts] (m : (ℓ : Loc Cert.KernelIdeal.nD Cert.KernelIdeal.τ Cert.KernelIdeal.sig) → Buf (Elt Ideal) ℓ)
    (ρ : Dev Cert.KernelIdeal.nD → PrngReg) (hp : Cert.Pre_KernelIdeal_rows_plain m) :
    θ_run (Cert.KernelIdeal.defs (F := Ideal)) (Cert.KernelIdeal.threads (F := Ideal)) ⟨m, fun _ => 0, ρ⟩ (Ece.QC m) :=
  Ece.run_main (F := Ideal) m ρ fun d r => Ece.tAt_lt_of_plain _ _ (rows m hp d) r

theorem frame_kernelIdeal_rows [Cert.KernelIdeal.Facts] [Cert.Pre_rows_plain.Facts] : Cert.quiescent_KernelIdeal_pre_rows_plain := fun m ρ hp =>
  (θ_run Cert.KernelIdeal.defs _ _).mono (fun _ h => ⟨fun c => ⟨(h.1 c).1, (h.1 c).2.1⟩, h.2⟩) (run_rows m ρ hp)

theorem frame_referenceIdeal_rows [Cert.ReferenceIdeal.Facts] [Cert.Pre_rows_plain.Facts] : Cert.quiescent_ReferenceIdeal_pre_rows_plain :=
  fun m ρ _ => frame_referenceIdeal m ρ trivial

/-- The two programs leave the same error. -/
theorem algebraic [Cert.KernelIdeal.Facts] [Cert.ReferenceIdeal.Facts] [Cert.Pre_rows_plain.Facts] :
    Cert.algebraic_KernelIdeal_ReferenceIdeal_pre_rows_plain := by
  intro m ρ m' ρ' hp hm
  refine ⟨fun c => Ece.V4 m c (Proc.devRef .tc Cert.KernelIdeal.main_v3),
    (θ_run Cert.KernelIdeal.defs _ _).mono (fun _ h c => ⟨(h.1 c).2.2, (h.1 c).1, (h.1 c).2.1⟩) (run_rows m ρ hp),
    (θ_run Cert.ReferenceIdeal.defs _ _).mono (fun _ h c => ⟨(h c).1.trans ?_, (h c).2.1, (h c).2.2⟩)
      (Cert.ReferenceIdeal.Value.run (F := Ideal) m' ρ')⟩
  refine (Ece.Ref.out_eq m' c).trans ?_
  rw [(hm c).1, (hm c).2]
  exact (Ece.results_eq m c (rows m hp c)).symm

/-- The idealized program is the printed one. -/
theorem preserves : Cert.preserves_Kernel_KernelIdeal := trivial

/-- The claims. -/
theorem claim : Cert.Claim := ⟨Cert.Kernel.Gen.facts, Cert.KernelIdeal.Gen.facts, Cert.ReferenceIdeal.Gen.facts, Ece.targets_facts, Ece.rows_facts,
  letI := Ece.targets_facts
  letI := Ece.rows_facts
  ⟨frame_kernel, frame_kernelIdeal, frame_kernelIdeal_rows, frame_referenceIdeal, frame_referenceIdeal_rows, preserves, algebraic⟩⟩

end Cert.Proof

end
